-- ==== Defs.lean ====
def Pre_Kernel [hPre_edges_in_graphs : Cert.Pre_edges_in_graphs.Facts] (m : (ℓ : Loc Cert.Kernel.nD Cert.Kernel.τ Cert.Kernel.sig) → Buf (Elt Bits) ℓ) : Prop :=
  ∀ c : Dev Cert.Kernel.nD,
    (Cert.Pre_edges_in_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_edges_in_graphs : Cert.Pre_edges_in_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_graphs [hPre_edges_in_graphs : Cert.Pre_edges_in_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_edges_in_graphs : Cert.Pre_edges_in_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_edges_in_graphs : Cert.Pre_edges_in_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_edges_in_graphs [hReferenceIdeal : Cert.ReferenceIdeal.Facts] [hPre_edges_in_graphs : Cert.Pre_edges_in_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_edges_in_graphs : Cert.Pre_edges_in_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_arg2)) (v5 : (c : Dev Cert.KernelIdeal.nD) → Buf (Elt Ideal) ((c.tc : Thread Cert.KernelIdeal.nD Cert.KernelIdeal.τ).loc Cert.KernelIdeal.main_v23)) (v6 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg2) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_v26) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v179) = v3 c
          ∧ r.2.mem ((c.tc : Thread Cert.ReferenceIdeal.nD Cert.ReferenceIdeal.τ).loc Cert.ReferenceIdeal.main_arg2) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_v182) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_edges_in_graphs : Cert.Pre_edges_in_graphs.Facts),
    quiescent_Kernel (hKernel := hKernel) (hPre_edges_in_graphs := hPre_edges_in_graphs)
    ∧ quiescent_KernelIdeal (hKernelIdeal := hKernelIdeal) (hPre_edges_in_graphs := hPre_edges_in_graphs)
    ∧ quiescent_ReferenceIdeal (hReferenceIdeal := hReferenceIdeal)
    ∧ quiescent_ReferenceIdeal_pre_edges_in_graphs (hReferenceIdeal := hReferenceIdeal) (hPre_edges_in_graphs := hPre_edges_in_graphs)
    ∧ preserves_Kernel_KernelIdeal
    ∧ algebraic_KernelIdeal_ReferenceIdeal (hKernelIdeal := hKernelIdeal) (hReferenceIdeal := hReferenceIdeal) (hPre_edges_in_graphs := hPre_edges_in_graphs)
-- ==== Pre_edges_in_graphs.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩

class Facts : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  reducesTo_S320000_S_d0 : S320000.ReducesTo [0] S_
  h_S_ : 0 < S_.numel

variable [Facts]

def fn_where {F : FTy → Type} [FloatOps F] (arg0 : IVec S320000 1) (arg1 : IVec S320000 32) (arg2 : IVec S320000 32) : IVec S320000 32 :=
  let v0 : IVec S320000 32 := select arg0 arg1 arg2
  v0

def fn_floor_divide {F : FTy → Type} [FloatOps F] (arg0 : IVec S320000 32) (arg1 : IVec S_ 32) : IVec S320000 32 :=
  let v0 : IVec S_ 32 := id arg1
  let v1 : IVec S320000 32 := broadcastInDim S320000 ![] bcast_S_S320000 v0
  let v2 : IVec S320000 32 := Host.divsi arg0 v1
  let v3 : IVec S320000 32 := signi arg0
  let v4 : IVec S_ 32 := signi v0
  let v5 : IVec S320000 32 := broadcastInDim S320000 ![] bcast_S_S320000 v4
  let v6 : IVec S320000 1 := cmpi .ne v3 v5
  let v7 : IVec S320000 32 := broadcastInDim S320000 ![] bcast_S_S320000 v0
  let v8 : IVec S320000 32 := Host.remsi arg0 v7
  let c : IVec S_ 32 := constantI S_ 32 0#32
  let v9 : IVec S320000 32 := broadcastInDim S320000 ![] bcast_S_S320000 c
  let v10 : IVec S320000 1 := cmpi .ne v8 v9
  let v11 : IVec S320000 1 := andi v6 v10
  let c_0 : IVec S_ 32 := constantI S_ 32 1#32
  let v12 : IVec S320000 32 := broadcastInDim S320000 ![] bcast_S_S320000 c_0
  let v13 : IVec S320000 32 := subi v2 v12
  let v14 : IVec S320000 32 := fn_where (F := F) v11 v13 v2
  v14

def fn_part1 {F : FTy → Type} [FloatOps F] (main_v17 : IVec S320000 1) (main_c_4 : IVec S_ 1) : IVec S_ 1 :=
  let main_v18 : IVec S_ 1 := (fun x v => Host.reduce IntOp.andi x v reducesTo_S320000_S_d0 h_S_) main_v17 main_c_4
  main_v18

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : IVec S1x320000 32 := (extractStridedSlice S1x320000 ![0, 0] · slices_S2x320000_S1x320000_0_0) main_arg1
  let main_v1 : IVec S320000 32 := shapeCast S320000 main_v0 shapeCasts_S1x320000_S320000
  let main_v2 : IVec S1x320000 32 := (extractStridedSlice S1x320000 ![1, 0] · slices_S2x320000_S1x320000_1_0) main_arg1
  let main_v3 : IVec S320000 32 := shapeCast S320000 main_v2 shapeCasts_S1x320000_S320000
  let main_c : IVec S_ 32 := constantI S_ 32 100#32
  let main_v4 : IVec S320000 32 := fn_floor_divide (F := F) main_v1 main_c
  let main_c_0 : IVec S_ 32 := constantI S_ 32 100#32
  let main_v5 : IVec S320000 32 := broadcastInDim S320000 ![] bcast_S_S320000 main_c_0
  let main_v6 : IVec S320000 32 := muli main_v4 main_v5
  let main_c_1 : IVec S_ 32 := constantI S_ 32 0#32
  let main_v7 : IVec S320000 32 := broadcastInDim S320000 ![] bcast_S_S320000 main_c_1
  let main_v8 : IVec S320000 1 := cmpi .sge main_v1 main_v7
  let main_c_2 : IVec S_ 32 := constantI S_ 32 10000#32
  let main_v9 : IVec S320000 32 := broadcastInDim S320000 ![] bcast_S_S320000 main_c_2
  let main_v10 : IVec S320000 1 := cmpi .slt main_v1 main_v9
  let main_v11 : IVec S320000 1 := andi main_v8 main_v10
  let main_v12 : IVec S320000 1 := cmpi .sge main_v3 main_v6
  let main_v13 : IVec S320000 1 := andi main_v11 main_v12
  let main_c_3 : IVec S_ 32 := constantI S_ 32 100#32
  let main_v14 : IVec S320000 32 := broadcastInDim S320000 ![] bcast_S_S320000 main_c_3
  let main_v15 : IVec S320000 32 := addi main_v6 main_v14
  let main_v16 : IVec S320000 1 := cmpi .slt main_v3 main_v15
  let main_v17 : IVec S320000 1 := andi main_v13 main_v16
  let main_c_4 : IVec S_ 1 := constantI S_ 1 1#1
  fn_part1 (F := F) main_v17 main_c_4
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S1331200 : Shape := ⟨1, ![1331200]⟩
abbrev S102400 : Shape := ⟨1, ![102400]⟩
abbrev S4000 : Shape := ⟨1, ![4000]⟩
abbrev S_ : Shape := ⟨0, ![]⟩
abbrev S16 : Shape := ⟨1, ![16]⟩
abbrev S104x100x128 : Shape := ⟨3, ![104, 100, 128]⟩
abbrev S100x100x128 : Shape := ⟨3, ![100, 100, 128]⟩
abbrev S100x128x128 : Shape := ⟨3, ![100, 128, 128]⟩
abbrev S1x128 : Shape := ⟨2, ![1, 128]⟩
abbrev S100x64x128 : Shape := ⟨3, ![100, 64, 128]⟩
abbrev S100x32x128 : Shape := ⟨3, ![100, 32, 128]⟩
abbrev S100x1x256 : Shape := ⟨3, ![100, 1, 256]⟩
abbrev S100x1x128 : Shape := ⟨3, ![100, 1, 128]⟩
abbrev S100x64x64 : Shape := ⟨3, ![100, 64, 64]⟩
abbrev S100x1x64 : Shape := ⟨3, ![100, 1, 64]⟩
abbrev S100x32x32 : Shape := ⟨3, ![100, 32, 32]⟩
abbrev S28x128 : Shape := ⟨2, ![28, 128]⟩
abbrev S1x100x128 : Shape := ⟨3, ![1, 100, 128]⟩
abbrev S100x128 : Shape := ⟨2, ![100, 128]⟩
abbrev S1x128x128 : Shape := ⟨3, ![1, 128, 128]⟩
abbrev S128x1 : Shape := ⟨2, ![128, 1]⟩
abbrev S12800x128 : Shape := ⟨2, ![12800, 128]⟩
abbrev S1x1x128 : Shape := ⟨3, ![1, 1, 128]⟩
abbrev S100 : Shape := ⟨1, ![100]⟩
abbrev S100x1 : Shape := ⟨2, ![100, 1]⟩
abbrev S64x128 : Shape := ⟨2, ![64, 128]⟩
abbrev S1x64x128 : Shape := ⟨3, ![1, 64, 128]⟩
abbrev S64x64 : Shape := ⟨2, ![64, 64]⟩
abbrev S1x64x64 : Shape := ⟨3, ![1, 64, 64]⟩
abbrev S64 : Shape := ⟨1, ![64]⟩
abbrev S64x1 : Shape := ⟨2, ![64, 1]⟩
abbrev S1x64 : Shape := ⟨2, ![1, 64]⟩
abbrev S6400x128 : Shape := ⟨2, ![6400, 128]⟩
abbrev S128x64 : Shape := ⟨2, ![128, 64]⟩
abbrev S1x1x64 : Shape := ⟨3, ![1, 1, 64]⟩
abbrev S100x64 : Shape := ⟨2, ![100, 64]⟩
abbrev S32x64 : Shape := ⟨2, ![32, 64]⟩
abbrev S32x128 : Shape := ⟨2, ![32, 128]⟩
abbrev S1x32x128 : Shape := ⟨3, ![1, 32, 128]⟩
abbrev S32x32 : Shape := ⟨2, ![32, 32]⟩
abbrev S1x32x32 : Shape := ⟨3, ![1, 32, 32]⟩
abbrev S32 : Shape := ⟨1, ![32]⟩
abbrev S32x1 : Shape := ⟨2, ![32, 1]⟩
abbrev S1x32 : Shape := ⟨2, ![1, 32]⟩
abbrev S3200x128 : Shape := ⟨2, ![3200, 128]⟩
abbrev S1x256 : Shape := ⟨2, ![1, 256]⟩
abbrev S1x1x256 : Shape := ⟨3, ![1, 1, 256]⟩
abbrev S100x50x128 : Shape := ⟨3, ![100, 50, 128]⟩
abbrev S5000x128 : Shape := ⟨2, ![5000, 128]⟩
abbrev S100x25x128 : Shape := ⟨3, ![100, 25, 128]⟩
abbrev S2500x128 : Shape := ⟨2, ![2500, 128]⟩
abbrev S100x50 : Shape := ⟨2, ![100, 50]⟩
abbrev S5000 : Shape := ⟨1, ![5000]⟩
abbrev S100x25 : Shape := ⟨2, ![100, 25]⟩
abbrev S2500 : Shape := ⟨1, ![2500]⟩
abbrev S100x256 : Shape := ⟨2, ![100, 256]⟩

abbrev nBuf : Table → Nat
  | .hbm => 43
  | .local .tc .vmem => 25
  | .local .scVector .vmem => 5
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S1331200, .f32⟩
  | .hbm, ⟨14, _⟩ => ⟨S1331200, .f32⟩
  | .hbm, ⟨15, _⟩ => ⟨S104x100x128, .f32⟩
  | .hbm, ⟨16, _⟩ => ⟨S100x100x128, .f32⟩
  | .hbm, ⟨17, _⟩ => ⟨S104x100x128, .f32⟩
  | .hbm, ⟨18, _⟩ => ⟨S100x100x128, .f32⟩
  | .hbm, ⟨19, _⟩ => ⟨S100x100x128, .f32⟩
  | .hbm, ⟨20, _⟩ => ⟨S_, .i32⟩
  | .hbm, ⟨21, _⟩ => ⟨S_, .f32⟩
  | .hbm, ⟨22, _⟩ => ⟨S100x128x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S100x128x128, .f32⟩
  | .hbm, ⟨27, _⟩ => ⟨S100x64x128, .f32⟩
  | .hbm, ⟨28, _⟩ => ⟨S100x32x128, .f32⟩
  | .hbm, ⟨29, _⟩ => ⟨S100x1x256, .f32⟩
  | .hbm, ⟨30, _⟩ => ⟨S100x100x128, .f32⟩
  | .hbm, ⟨31, _⟩ => ⟨S10000x128, .f32⟩
  | .hbm, ⟨32, _⟩ => ⟨S100x50x128, .f32⟩
  | .hbm, ⟨33, _⟩ => ⟨S5000x128, .f32⟩
  | .hbm, ⟨34, _⟩ => ⟨S100x25x128, .f32⟩
  | .hbm, ⟨35, _⟩ => ⟨S2500x128, .f32⟩
  | .hbm, ⟨36, _⟩ => ⟨S100, .i32⟩
  | .hbm, ⟨37, _⟩ => ⟨S100x50, .i32⟩
  | .hbm, ⟨38, _⟩ => ⟨S5000, .i32⟩
  | .hbm, ⟨39, _⟩ => ⟨S100, .i32⟩
  | .hbm, ⟨40, _⟩ => ⟨S100x25, .i32⟩
  | .hbm, ⟨41, _⟩ => ⟨S2500, .i32⟩
  | .hbm, ⟨42, _⟩ => ⟨S100x256, .f32⟩
  | .local .tc .vmem, ⟨0, _⟩ => ⟨S100x100x128, .f32⟩
  | .local .tc .vmem, ⟨1, _⟩ => ⟨S100x100x128, .f32⟩
  | .local .tc .vmem, ⟨2, _⟩ => ⟨S100x128x128, .f32⟩
  | .local .tc .vmem, ⟨3, _⟩ => ⟨S128x128, .f32⟩
  | .local .tc .vmem, ⟨4, _⟩ => ⟨S1x128, .f32⟩
  | .local .tc .vmem, ⟨5, _⟩ => ⟨S128x128, .f32⟩
  | .local .tc .vmem, ⟨6, _⟩ => ⟨S1x128, .f32⟩
  | .local .tc .vmem, ⟨7, _⟩ => ⟨S128x128, .f32⟩
  | .local .tc .vmem, ⟨8, _⟩ => ⟨S1x128, .f32⟩
  | .local .tc .vmem, ⟨9, _⟩ => ⟨S100x128x128, .f32⟩
  | .local .tc .vmem, ⟨10, _⟩ => ⟨S100x64x128, .f32⟩
  | .local .tc .vmem, ⟨11, _⟩ => ⟨S100x32x128, .f32⟩
  | .local .tc .vmem, ⟨12, _⟩ => ⟨S100x1x256, .f32⟩
  | .local .tc .vmem, ⟨13, _⟩ => ⟨S100x1x128, .f32⟩
  | .local .tc .vmem, ⟨14, _⟩ => ⟨S100x1x128, .f32⟩
  | .local .tc .vmem, ⟨15, _⟩ => ⟨S100x64x128, .f32⟩
  | .local .tc .vmem, ⟨16, _⟩ => ⟨S100x64x64, .f32⟩
  | .local .tc .vmem, ⟨17, _⟩ => ⟨S100x1x64, .f32⟩
  | .local .tc .vmem, ⟨18, _⟩ => ⟨S100x1x64, .f32⟩
  | .local .tc .vmem, ⟨19, _⟩ => ⟨S100x32x128, .f32⟩
  | .local .tc .vmem, ⟨20, _⟩ => ⟨S100x32x32, .f32⟩
  | .local .tc .vmem, ⟨21, _⟩ => ⟨S100x128x128, .f32⟩
  | .local .tc .vmem, ⟨22, _⟩ => ⟨S100x64x128, .f32⟩
  | .local .tc .vmem, ⟨23, _⟩ => ⟨S100x32x128, .f32⟩
  | .local .tc .vmem, ⟨24, _⟩ => ⟨S100x128x128, .f32⟩
  | .local .scVector .vmem, ⟨0, _⟩ => ⟨S102400, .f32⟩
  | .local .scVector .vmem, ⟨1, _⟩ => ⟨S4000, .i32⟩
  | .local .scVector .vmem, ⟨2, _⟩ => ⟨S4000, .i32⟩
  | .local .scVector .vmem, ⟨3, _⟩ => ⟨S4000, .i32⟩
  | .local .scVector .vmem, ⟨4, _⟩ => ⟨S4000, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v1_scv : Ref sig .scVector := ⟨.hbm, 10, rfl⟩
abbrev main_v3_scv : Ref sig .scVector := ⟨.hbm, 12, rfl⟩
abbrev main_v4_0_scv : Ref sig .scVector := ⟨.hbm, 13, rfl⟩
abbrev main_v4_1_scv : Ref sig .scVector := ⟨.hbm, 14, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc1_scratch5 : Ref sig .tc := ⟨.vmem, 18, rfl⟩
abbrev cc1_scratch6 : Ref sig .tc := ⟨.vmem, 19, rfl⟩
abbrev cc1_scratch7 : Ref sig .tc := ⟨.vmem, 20, rfl⟩
abbrev cc1_scratch8 : Ref sig .tc := ⟨.vmem, 21, rfl⟩
abbrev cc1_scratch9 : Ref sig .tc := ⟨.vmem, 22, rfl⟩
abbrev cc1_scratch10 : Ref sig .tc := ⟨.vmem, 23, rfl⟩
abbrev cc1_scratch11 : Ref sig .tc := ⟨.vmem, 24, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_13 : BitVec 32 := 0#32
  let c800_i32 : BitVec 32 := 800#32
  let v31 : BitVec 32 := Scalar.addi c0_i32_13 c800_i32
  let c1_i32_14 : BitVec 32 := 1#32
  ⟨c0_i32_13, v31, c1_i32_14⟩
def k0_off1 (k0_t1 : Fin k0_t1_loop.trips) (c0_i32_18 : BitVec 32) : Fin 1 → Nat :=
  let c0_i32_13 : BitVec 32 := 0#32
  let c1_i32_14 : BitVec 32 := 1#32
  let arg13 : BitVec 32 := Scf.iv c0_i32_13 c1_i32_14 k0_t1
  let c8_i32_17 : BitVec 32 := 8#32
  let v37 : BitVec 32 := Scalar.muli arg13 c8_i32_17
  let v38 : BitVec 32 := Scalar.addi v37 c0_i32_18
  let c16_i32 : BitVec 32 := 16#32
  let v39 : BitVec 32 := Scalar.muli v38 c16_i32
  let v40 : Index := Scalar.indexCast v39
  ![v40.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v34 : BitVec 1 := Scalar.cmpi .slt v1 c26_i32
  let v35 : BitVec 32 := Scalar.extui v34
  let c0_i32_16 : BitVec 32 := 0#32
  let v36 : BitVec 1 := Scalar.cmpi .ne v35 c0_i32_16
  v36

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c40_i32 : BitVec 32 := 40#32
  let v33 : BitVec 32 := Scalar.muli v11 c40_i32
  let c4000_i32 : BitVec 32 := 4000#32
  let v37 : BitVec 32 := Scalar.muli v33 c4000_i32
  ![v37.toNat]
@[reducible] def k0_t2_loop : Scf.Loop 32 :=
  let c0_i32_19 : BitVec 32 := 0#32
  let c20_i32 : BitVec 32 := 20#32
  let v43 : BitVec 32 := Scalar.addi c0_i32_19 c20_i32
  let c1_i32_20 : BitVec 32 := 1#32
  ⟨c0_i32_19, v43, c1_i32_20⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c40_i32 : BitVec 32 := 40#32
  let v33 : BitVec 32 := Scalar.muli v11 c40_i32
  let c0_i32_19 : BitVec 32 := 0#32
  let c1_i32_20 : BitVec 32 := 1#32
  let arg13 : BitVec 32 := Scf.iv c0_i32_19 c1_i32_20 k0_t2
  let c2_i32_26 : BitVec 32 := 2#32
  let v50 : BitVec 32 := Scalar.muli arg13 c2_i32_26
  let v51 : BitVec 32 := Scalar.addi v33 v50
  let c1_i32_31 : BitVec 32 := 1#32
  let v56 : BitVec 32 := Scalar.addi v51 c1_i32_31
  let c4000_i32_32 : BitVec 32 := 4000#32
  let v57 : BitVec 32 := Scalar.muli v56 c4000_i32_32
  ![v57.toNat]
@[reducible] def k0_t3_loop : Scf.Loop 32 :=
  let c0_i32_35 : BitVec 32 := 0#32
  let c50_i32 : BitVec 32 := 50#32
  let v63 : BitVec 32 := Scalar.addi c0_i32_35 c50_i32
  let c1_i32_36 : BitVec 32 := 1#32
  ⟨c0_i32_35, v63, c1_i32_36⟩
def k0_off4 (k0_t3 : Fin k0_t3_loop.trips) : Fin 1 → Nat :=
  let c0_i32_35 : BitVec 32 := 0#32
  let c1_i32_36 : BitVec 32 := 1#32
  let arg14 : BitVec 32 := Scf.iv c0_i32_35 c1_i32_36 k0_t3
  let c5_i32 : BitVec 32 := 5#32
  let v73 : BitVec 32 := Scalar.muli arg14 c5_i32
  let c0_i32_50 : BitVec 32 := 0#32
  let v74 : BitVec 32 := Scalar.addi v73 c0_i32_50
  let c16_i32 : BitVec 32 := 16#32
  let v75 : BitVec 32 := Scalar.muli v74 c16_i32
  let v76 : Index := Scalar.indexCast v75
  ![v76.toNat]

def k0_chk1 (i : grid0.Coords) (v107 : IVec S16 32) : Prop :=
  (∀ (k0_h1 : k0_cond1 i = 1#1), ∀ a x, ((![v107] : Fin 1 → IVec S16 32) a x).toNat < S102400.size a)
theorem k0_idx1_inb : ∀ (i : grid0.Coords) (v107 : IVec S16 32) (k0_hw1 : k0_chk1 i v107), ∀ (k0_h1 : k0_cond1 i = 1#1), ∀ a x, ((![v107] : Fin 1 → IVec S16 32) a x).toNat < S102400.size a := fun i v107 k0_hw1 k0_h1 => k0_hw1 k0_h1

def k0_chk2 (i : grid0.Coords) (v111 : IVec S16 32) : Prop :=
  (∀ (k0_h1 : k0_cond1 i = 1#1), ∀ a x, ((![v111] : Fin 1 → IVec S16 32) a x).toNat < S102400.size a)
theorem k0_idx2_inb : ∀ (i : grid0.Coords) (v111 : IVec S16 32) (k0_hw2 : k0_chk2 i v111), ∀ (k0_h1 : k0_cond1 i = 1#1), ∀ a x, ((![v111] : Fin 1 → IVec S16 32) a x).toNat < S102400.size a := fun i v111 k0_hw2 k0_h1 => k0_hw2 k0_h1
def k0_off5 (k0_t3 : Fin k0_t3_loop.trips) : Fin 1 → Nat :=
  let c0_i32_35 : BitVec 32 := 0#32
  let c1_i32_36 : BitVec 32 := 1#32
  let arg14 : BitVec 32 := Scf.iv c0_i32_35 c1_i32_36 k0_t3
  let c5_i32_59 : BitVec 32 := 5#32
  let v112 : BitVec 32 := Scalar.muli arg14 c5_i32_59
  let c1_i32_60 : BitVec 32 := 1#32
  let v113 : BitVec 32 := Scalar.addi v112 c1_i32_60
  let c16_i32_61 : BitVec 32 := 16#32
  let v114 : BitVec 32 := Scalar.muli v113 c16_i32_61
  let v115 : Index := Scalar.indexCast v114
  ![v115.toNat]

def k0_chk3 (i : grid0.Coords) (v146 : IVec S16 32) : Prop :=
  (∀ (k0_h1 : k0_cond1 i = 1#1), ∀ a x, ((![v146] : Fin 1 → IVec S16 32) a x).toNat < S102400.size a)
theorem k0_idx3_inb : ∀ (i : grid0.Coords) (v146 : IVec S16 32) (k0_hw3 : k0_chk3 i v146), ∀ (k0_h1 : k0_cond1 i = 1#1), ∀ a x, ((![v146] : Fin 1 → IVec S16 32) a x).toNat < S102400.size a := fun i v146 k0_hw3 k0_h1 => k0_hw3 k0_h1

def k0_chk4 (i : grid0.Coords) (v150 : IVec S16 32) : Prop :=
  (∀ (k0_h1 : k0_cond1 i = 1#1), ∀ a x, ((![v150] : Fin 1 → IVec S16 32) a x).toNat < S102400.size a)
theorem k0_idx4_inb : ∀ (i : grid0.Coords) (v150 : IVec S16 32) (k0_hw4 : k0_chk4 i v150), ∀ (k0_h1 : k0_cond1 i = 1#1), ∀ a x, ((![v150] : Fin 1 → IVec S16 32) a x).toNat < S102400.size a := fun i v150 k0_hw4 k0_h1 => k0_hw4 k0_h1
def k0_off6 (k0_t3 : Fin k0_t3_loop.trips) : Fin 1 → Nat :=
  let c0_i32_35 : BitVec 32 := 0#32
  let c1_i32_36 : BitVec 32 := 1#32
  let arg14 : BitVec 32 := Scf.iv c0_i32_35 c1_i32_36 k0_t3
  let c5_i32_75 : BitVec 32 := 5#32
  let v151 : BitVec 32 := Scalar.muli arg14 c5_i32_75
  let c2_i32_76 : BitVec 32 := 2#32
  let v152 : BitVec 32 := Scalar.addi v151 c2_i32_76
  let c16_i32_77 : BitVec 32 := 16#32
  let v153 : BitVec 32 := Scalar.muli v152 c16_i32_77
  let v154 : Index := Scalar.indexCast v153
  ![v154.toNat]

def k0_chk5 (i : grid0.Coords) (v185 : IVec S16 32) : Prop :=
  (∀ (k0_h1 : k0_cond1 i = 1#1), ∀ a x, ((![v185] : Fin 1 → IVec S16 32) a x).toNat < S102400.size a)
theorem k0_idx5_inb : ∀ (i : grid0.Coords) (v185 : IVec S16 32) (k0_hw5 : k0_chk5 i v185), ∀ (k0_h1 : k0_cond1 i = 1#1), ∀ a x, ((![v185] : Fin 1 → IVec S16 32) a x).toNat < S102400.size a := fun i v185 k0_hw5 k0_h1 => k0_hw5 k0_h1

def k0_chk6 (i : grid0.Coords) (v189 : IVec S16 32) : Prop :=
  (∀ (k0_h1 : k0_cond1 i = 1#1), ∀ a x, ((![v189] : Fin 1 → IVec S16 32) a x).toNat < S102400.size a)
theorem k0_idx6_inb : ∀ (i : grid0.Coords) (v189 : IVec S16 32) (k0_hw6 : k0_chk6 i v189), ∀ (k0_h1 : k0_cond1 i = 1#1), ∀ a x, ((![v189] : Fin 1 → IVec S16 32) a x).toNat < S102400.size a := fun i v189 k0_hw6 k0_h1 => k0_hw6 k0_h1
def k0_off7 (k0_t3 : Fin k0_t3_loop.trips) : Fin 1 → Nat :=
  let c0_i32_35 : BitVec 32 := 0#32
  let c1_i32_36 : BitVec 32 := 1#32
  let arg14 : BitVec 32 := Scf.iv c0_i32_35 c1_i32_36 k0_t3
  let c5_i32_91 : BitVec 32 := 5#32
  let v190 : BitVec 32 := Scalar.muli arg14 c5_i32_91
  let c3_i32 : BitVec 32 := 3#32
  let v191 : BitVec 32 := Scalar.addi v190 c3_i32
  let c16_i32_92 : BitVec 32 := 16#32
  let v192 : BitVec 32 := Scalar.muli v191 c16_i32_92
  let v193 : Index := Scalar.indexCast v192
  ![v193.toNat]

def k0_chk7 (i : grid0.Coords) (v224 : IVec S16 32) : Prop :=
  (∀ (k0_h1 : k0_cond1 i = 1#1), ∀ a x, ((![v224] : Fin 1 → IVec S16 32) a x).toNat < S102400.size a)
theorem k0_idx7_inb : ∀ (i : grid0.Coords) (v224 : IVec S16 32) (k0_hw7 : k0_chk7 i v224), ∀ (k0_h1 : k0_cond1 i = 1#1), ∀ a x, ((![v224] : Fin 1 → IVec S16 32) a x).toNat < S102400.size a := fun i v224 k0_hw7 k0_h1 => k0_hw7 k0_h1

def k0_chk8 (i : grid0.Coords) (v228 : IVec S16 32) : Prop :=
  (∀ (k0_h1 : k0_cond1 i = 1#1), ∀ a x, ((![v228] : Fin 1 → IVec S16 32) a x).toNat < S102400.size a)
theorem k0_idx8_inb : ∀ (i : grid0.Coords) (v228 : IVec S16 32) (k0_hw8 : k0_chk8 i v228), ∀ (k0_h1 : k0_cond1 i = 1#1), ∀ a x, ((![v228] : Fin 1 → IVec S16 32) a x).toNat < S102400.size a := fun i v228 k0_hw8 k0_h1 => k0_hw8 k0_h1
def k0_off8 (k0_t3 : Fin k0_t3_loop.trips) : Fin 1 → Nat :=
  let c0_i32_35 : BitVec 32 := 0#32
  let c1_i32_36 : BitVec 32 := 1#32
  let arg14 : BitVec 32 := Scf.iv c0_i32_35 c1_i32_36 k0_t3
  let c5_i32_106 : BitVec 32 := 5#32
  let v229 : BitVec 32 := Scalar.muli arg14 c5_i32_106
  let c4_i32 : BitVec 32 := 4#32
  let v230 : BitVec 32 := Scalar.addi v229 c4_i32
  let c16_i32_107 : BitVec 32 := 16#32
  let v231 : BitVec 32 := Scalar.muli v230 c16_i32_107
  let v232 : Index := Scalar.indexCast v231
  ![v232.toNat]

def k0_chk9 (i : grid0.Coords) (v263 : IVec S16 32) : Prop :=
  (∀ (k0_h1 : k0_cond1 i = 1#1), ∀ a x, ((![v263] : Fin 1 → IVec S16 32) a x).toNat < S102400.size a)
theorem k0_idx9_inb : ∀ (i : grid0.Coords) (v263 : IVec S16 32) (k0_hw9 : k0_chk9 i v263), ∀ (k0_h1 : k0_cond1 i = 1#1), ∀ a x, ((![v263] : Fin 1 → IVec S16 32) a x).toNat < S102400.size a := fun i v263 k0_hw9 k0_h1 => k0_hw9 k0_h1

def k0_chk10 (i : grid0.Coords) (v267 : IVec S16 32) : Prop :=
  (∀ (k0_h1 : k0_cond1 i = 1#1), ∀ a x, ((![v267] : Fin 1 → IVec S16 32) a x).toNat < S102400.size a)
theorem k0_idx10_inb : ∀ (i : grid0.Coords) (v267 : IVec S16 32) (k0_hw10 : k0_chk10 i v267), ∀ (k0_h1 : k0_cond1 i = 1#1), ∀ a x, ((![v267] : Fin 1 → IVec S16 32) a x).toNat < S102400.size a := fun i v267 k0_hw10 k0_h1 => k0_hw10 k0_h1
def k0_cond2 (k0_t2 : Fin k0_t2_loop.trips) : BitVec 1 :=
  let c0_i32_19 : BitVec 32 := 0#32
  let c1_i32_20 : BitVec 32 := 1#32
  let arg13 : BitVec 32 := Scf.iv c0_i32_19 c1_i32_20 k0_t2
  let c1_i32_42 : BitVec 32 := 1#32
  let v68 : BitVec 32 := Scalar.addi arg13 c1_i32_42
  let c20_i32_43 : BitVec 32 := 20#32
  let v69 : BitVec 1 := Scalar.cmpi .slt v68 c20_i32_43
  let v70 : BitVec 32 := Scalar.extui v69
  let c0_i32_44 : BitVec 32 := 0#32
  let v71 : BitVec 1 := Scalar.cmpi .ne v70 c0_i32_44
  v71

def k0_off9 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c40_i32 : BitVec 32 := 40#32
  let v33 : BitVec 32 := Scalar.muli v11 c40_i32
  let c0_i32_19 : BitVec 32 := 0#32
  let c1_i32_20 : BitVec 32 := 1#32
  let arg13 : BitVec 32 := Scf.iv c0_i32_19 c1_i32_20 k0_t2
  let c2_i32_26 : BitVec 32 := 2#32
  let v50 : BitVec 32 := Scalar.muli arg13 c2_i32_26
  let v51 : BitVec 32 := Scalar.addi v33 v50
  let c2_i32_50 : BitVec 32 := 2#32
  let v73 : BitVec 32 := Scalar.addi v51 c2_i32_50
  let c4000_i32_51 : BitVec 32 := 4000#32
  let v74 : BitVec 32 := Scalar.muli v73 c4000_i32_51
  ![v74.toNat]
@[reducible] def k0_t4_loop : Scf.Loop 32 :=
  let c0_i32_46 : BitVec 32 := 0#32
  let c50_i32_47 : BitVec 32 := 50#32
  let v72 : BitVec 32 := Scalar.addi c0_i32_46 c50_i32_47
  let c1_i32_48 : BitVec 32 := 1#32
  ⟨c0_i32_46, v72, c1_i32_48⟩
def k0_off10 (k0_t4 : Fin k0_t4_loop.trips) : Fin 1 → Nat :=
  let c0_i32_46 : BitVec 32 := 0#32
  let c1_i32_48 : BitVec 32 := 1#32
  let arg14 : BitVec 32 := Scf.iv c0_i32_46 c1_i32_48 k0_t4
  let c5_i32 : BitVec 32 := 5#32
  let v73 : BitVec 32 := Scalar.muli arg14 c5_i32
  let c0_i32_50 : BitVec 32 := 0#32
  let v74 : BitVec 32 := Scalar.addi v73 c0_i32_50
  let c16_i32 : BitVec 32 := 16#32
  let v75 : BitVec 32 := Scalar.muli v74 c16_i32
  let v76 : Index := Scalar.indexCast v75
  ![v76.toNat]

def k0_chk11 (i : grid0.Coords) (v107 : IVec S16 32) : Prop :=
  (∀ (k0_h1 : k0_cond1 i = 1#1), ∀ a x, ((![v107] : Fin 1 → IVec S16 32) a x).toNat < S102400.size a)
theorem k0_idx11_inb : ∀ (i : grid0.Coords) (v107 : IVec S16 32) (k0_hw11 : k0_chk11 i v107), ∀ (k0_h1 : k0_cond1 i = 1#1), ∀ a x, ((![v107] : Fin 1 → IVec S16 32) a x).toNat < S102400.size a := fun i v107 k0_hw11 k0_h1 => k0_hw11 k0_h1

def k0_chk12 (i : grid0.Coords) (v111 : IVec S16 32) : Prop :=
  (∀ (k0_h1 : k0_cond1 i = 1#1), ∀ a x, ((![v111] : Fin 1 → IVec S16 32) a x).toNat < S102400.size a)
theorem k0_idx12_inb : ∀ (i : grid0.Coords) (v111 : IVec S16 32) (k0_hw12 : k0_chk12 i v111), ∀ (k0_h1 : k0_cond1 i = 1#1), ∀ a x, ((![v111] : Fin 1 → IVec S16 32) a x).toNat < S102400.size a := fun i v111 k0_hw12 k0_h1 => k0_hw12 k0_h1
def k0_off11 (k0_t4 : Fin k0_t4_loop.trips) : Fin 1 → Nat :=
  let c0_i32_46 : BitVec 32 := 0#32
  let c1_i32_48 : BitVec 32 := 1#32
  let arg14 : BitVec 32 := Scf.iv c0_i32_46 c1_i32_48 k0_t4
  let c5_i32_59 : BitVec 32 := 5#32
  let v112 : BitVec 32 := Scalar.muli arg14 c5_i32_59
  let c1_i32_60 : BitVec 32 := 1#32
  let v113 : BitVec 32 := Scalar.addi v112 c1_i32_60
  let c16_i32_61 : BitVec 32 := 16#32
  let v114 : BitVec 32 := Scalar.muli v113 c16_i32_61
  let v115 : Index := Scalar.indexCast v114
  ![v115.toNat]

def k0_chk13 (i : grid0.Coords) (v146 : IVec S16 32) : Prop :=
  (∀ (k0_h1 : k0_cond1 i = 1#1), ∀ a x, ((![v146] : Fin 1 → IVec S16 32) a x).toNat < S102400.size a)
theorem k0_idx13_inb : ∀ (i : grid0.Coords) (v146 : IVec S16 32) (k0_hw13 : k0_chk13 i v146), ∀ (k0_h1 : k0_cond1 i = 1#1), ∀ a x, ((![v146] : Fin 1 → IVec S16 32) a x).toNat < S102400.size a := fun i v146 k0_hw13 k0_h1 => k0_hw13 k0_h1

def k0_chk14 (i : grid0.Coords) (v150 : IVec S16 32) : Prop :=
  (∀ (k0_h1 : k0_cond1 i = 1#1), ∀ a x, ((![v150] : Fin 1 → IVec S16 32) a x).toNat < S102400.size a)
theorem k0_idx14_inb : ∀ (i : grid0.Coords) (v150 : IVec S16 32) (k0_hw14 : k0_chk14 i v150), ∀ (k0_h1 : k0_cond1 i = 1#1), ∀ a x, ((![v150] : Fin 1 → IVec S16 32) a x).toNat < S102400.size a := fun i v150 k0_hw14 k0_h1 => k0_hw14 k0_h1
def k0_off12 (k0_t4 : Fin k0_t4_loop.trips) : Fin 1 → Nat :=
  let c0_i32_46 : BitVec 32 := 0#32
  let c1_i32_48 : BitVec 32 := 1#32
  let arg14 : BitVec 32 := Scf.iv c0_i32_46 c1_i32_48 k0_t4
  let c5_i32_75 : BitVec 32 := 5#32
  let v151 : BitVec 32 := Scalar.muli arg14 c5_i32_75
  let c2_i32_76 : BitVec 32 := 2#32
  let v152 : BitVec 32 := Scalar.addi v151 c2_i32_76
  let c16_i32_77 : BitVec 32 := 16#32
  let v153 : BitVec 32 := Scalar.muli v152 c16_i32_77
  let v154 : Index := Scalar.indexCast v153
  ![v154.toNat]

def k0_chk15 (i : grid0.Coords) (v185 : IVec S16 32) : Prop :=
  (∀ (k0_h1 : k0_cond1 i = 1#1), ∀ a x, ((![v185] : Fin 1 → IVec S16 32) a x).toNat < S102400.size a)
theorem k0_idx15_inb : ∀ (i : grid0.Coords) (v185 : IVec S16 32) (k0_hw15 : k0_chk15 i v185), ∀ (k0_h1 : k0_cond1 i = 1#1), ∀ a x, ((![v185] : Fin 1 → IVec S16 32) a x).toNat < S102400.size a := fun i v185 k0_hw15 k0_h1 => k0_hw15 k0_h1

def k0_chk16 (i : grid0.Coords) (v189 : IVec S16 32) : Prop :=
  (∀ (k0_h1 : k0_cond1 i = 1#1), ∀ a x, ((![v189] : Fin 1 → IVec S16 32) a x).toNat < S102400.size a)
theorem k0_idx16_inb : ∀ (i : grid0.Coords) (v189 : IVec S16 32) (k0_hw16 : k0_chk16 i v189), ∀ (k0_h1 : k0_cond1 i = 1#1), ∀ a x, ((![v189] : Fin 1 → IVec S16 32) a x).toNat < S102400.size a := fun i v189 k0_hw16 k0_h1 => k0_hw16 k0_h1
def k0_off13 (k0_t4 : Fin k0_t4_loop.trips) : Fin 1 → Nat :=
  let c0_i32_46 : BitVec 32 := 0#32
  let c1_i32_48 : BitVec 32 := 1#32
  let arg14 : BitVec 32 := Scf.iv c0_i32_46 c1_i32_48 k0_t4
  let c5_i32_91 : BitVec 32 := 5#32
  let v190 : BitVec 32 := Scalar.muli arg14 c5_i32_91
  let c3_i32 : BitVec 32 := 3#32
  let v191 : BitVec 32 := Scalar.addi v190 c3_i32
  let c16_i32_92 : BitVec 32 := 16#32
  let v192 : BitVec 32 := Scalar.muli v191 c16_i32_92
  let v193 : Index := Scalar.indexCast v192
  ![v193.toNat]

def k0_chk17 (i : grid0.Coords) (v224 : IVec S16 32) : Prop :=
  (∀ (k0_h1 : k0_cond1 i = 1#1), ∀ a x, ((![v224] : Fin 1 → IVec S16 32) a x).toNat < S102400.size a)
theorem k0_idx17_inb : ∀ (i : grid0.Coords) (v224 : IVec S16 32) (k0_hw17 : k0_chk17 i v224), ∀ (k0_h1 : k0_cond1 i = 1#1), ∀ a x, ((![v224] : Fin 1 → IVec S16 32) a x).toNat < S102400.size a := fun i v224 k0_hw17 k0_h1 => k0_hw17 k0_h1

def k0_chk18 (i : grid0.Coords) (v228 : IVec S16 32) : Prop :=
  (∀ (k0_h1 : k0_cond1 i = 1#1), ∀ a x, ((![v228] : Fin 1 → IVec S16 32) a x).toNat < S102400.size a)
theorem k0_idx18_inb : ∀ (i : grid0.Coords) (v228 : IVec S16 32) (k0_hw18 : k0_chk18 i v228), ∀ (k0_h1 : k0_cond1 i = 1#1), ∀ a x, ((![v228] : Fin 1 → IVec S16 32) a x).toNat < S102400.size a := fun i v228 k0_hw18 k0_h1 => k0_hw18 k0_h1
def k0_off14 (k0_t4 : Fin k0_t4_loop.trips) : Fin 1 → Nat :=
  let c0_i32_46 : BitVec 32 := 0#32
  let c1_i32_48 : BitVec 32 := 1#32
  let arg14 : BitVec 32 := Scf.iv c0_i32_46 c1_i32_48 k0_t4
  let c5_i32_106 : BitVec 32 := 5#32
  let v229 : BitVec 32 := Scalar.muli arg14 c5_i32_106
  let c4_i32 : BitVec 32 := 4#32
  let v230 : BitVec 32 := Scalar.addi v229 c4_i32
  let c16_i32_107 : BitVec 32 := 16#32
  let v231 : BitVec 32 := Scalar.muli v230 c16_i32_107
  let v232 : Index := Scalar.indexCast v231
  ![v232.toNat]

def k0_chk19 (i : grid0.Coords) (v263 : IVec S16 32) : Prop :=
  (∀ (k0_h1 : k0_cond1 i = 1#1), ∀ a x, ((![v263] : Fin 1 → IVec S16 32) a x).toNat < S102400.size a)
theorem k0_idx19_inb : ∀ (i : grid0.Coords) (v263 : IVec S16 32) (k0_hw19 : k0_chk19 i v263), ∀ (k0_h1 : k0_cond1 i = 1#1), ∀ a x, ((![v263] : Fin 1 → IVec S16 32) a x).toNat < S102400.size a := fun i v263 k0_hw19 k0_h1 => k0_hw19 k0_h1

def k0_chk20 (i : grid0.Coords) (v267 : IVec S16 32) : Prop :=
  (∀ (k0_h1 : k0_cond1 i = 1#1), ∀ a x, ((![v267] : Fin 1 → IVec S16 32) a x).toNat < S102400.size a)
theorem k0_idx20_inb : ∀ (i : grid0.Coords) (v267 : IVec S16 32) (k0_hw20 : k0_chk20 i v267), ∀ (k0_h1 : k0_cond1 i = 1#1), ∀ a x, ((![v267] : Fin 1 → IVec S16 32) a x).toNat < S102400.size a := fun i v267 k0_hw20 k0_h1 => k0_hw20 k0_h1
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_22 : BitVec 32 := 0#32
  let v44 : BitVec 1 := Scalar.cmpi .eq v11 c0_i32_22
  let v45 : BitVec 32 := Scalar.extui v44
  let c0_i32_23 : BitVec 32 := 0#32
  let v46 : BitVec 1 := Scalar.cmpi .ne v45 c0_i32_23
  v46

def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c102400_i32 : BitVec 32 := 102400#32
  let v50 : BitVec 32 := Scalar.muli v28 c102400_i32
  ![v50.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c1_i32_24 : BitVec 32 := 1#32
  let v47 : BitVec 1 := Scalar.cmpi .eq v11 c1_i32_24
  let v48 : BitVec 32 := Scalar.extui v47
  let c0_i32_25 : BitVec 32 := 0#32
  let v49 : BitVec 1 := Scalar.cmpi .ne v48 c0_i32_25
  v49

def k0_off16 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c102400_i32 : BitVec 32 := 102400#32
  let v50 : BitVec 32 := Scalar.muli v28 c102400_i32
  ![v50.toNat]
abbrev grid1 : Pipeline.Grid := .none

@[reducible] def k1_t1_loop : Scf.Loop 32 :=
  let c0_i32 : BitVec 32 := 0#32
  let c25_i32 : BitVec 32 := 25#32
  let v10 : BitVec 32 := Scalar.addi c0_i32 c25_i32
  let c1_i32 : BitVec 32 := 1#32
  ⟨c0_i32, v10, c1_i32⟩
def k1_off1 (k1_t1 : Fin k1_t1_loop.trips) (c0_i32_105 : BitVec 32) : Fin 3 → Nat :=
  let c0_i32 : BitVec 32 := 0#32
  let c1_i32 : BitVec 32 := 1#32
  let arg25 : BitVec 32 := Scf.iv c0_i32 c1_i32 k1_t1
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
def k1_off2 (k1_t1 : Fin k1_t1_loop.trips) (c0_i32_105 : BitVec 32) : Fin 3 → Nat :=
  let c0_i32 : BitVec 32 := 0#32
  let c1_i32 : BitVec 32 := 1#32
  let arg25 : BitVec 32 := Scf.iv c0_i32 c1_i32 k1_t1
  let c4_i32 : BitVec 32 := 4#32
  let v138 : BitVec 32 := Scalar.muli arg25 c4_i32
  let v139 : BitVec 32 := Scalar.addi v138 c0_i32_105
  let v148 : Index := Scalar.indexCast v139
  let c0_110 : Index := 0#32
  let c0_111 : Index := 0#32
  ![v148.toNat, 0, 0]
@[reducible] def k1_t2_loop : Scf.Loop 32 :=
  let c0_i32_12 : BitVec 32 := 0#32
  let c25_i32_13 : BitVec 32 := 25#32
  let v11 : BitVec 32 := Scalar.addi c0_i32_12 c25_i32_13
  let c1_i32_14 : BitVec 32 := 1#32
  ⟨c0_i32_12, v11, c1_i32_14⟩
def k1_off3 (k1_t2 : Fin k1_t2_loop.trips) (c0_i32_105 : BitVec 32) : Fin 3 → Nat :=
  let c0_i32_12 : BitVec 32 := 0#32
  let c1_i32_14 : BitVec 32 := 1#32
  let arg25 : BitVec 32 := Scf.iv c0_i32_12 c1_i32_14 k1_t2
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
@[reducible] def k1_t3_loop : Scf.Loop 32 :=
  let c0_i32_30 : BitVec 32 := 0#32
  let c25_i32_31 : BitVec 32 := 25#32
  let v43 : BitVec 32 := Scalar.addi c0_i32_30 c25_i32_31
  let c1_i32_32 : BitVec 32 := 1#32
  ⟨c0_i32_30, v43, c1_i32_32⟩
def k1_off4 (k1_t3 : Fin k1_t3_loop.trips) (c0_i32_105 : BitVec 32) : Fin 3 → Nat :=
  let c0_i32_30 : BitVec 32 := 0#32
  let c1_i32_32 : BitVec 32 := 1#32
  let arg25 : BitVec 32 := Scf.iv c0_i32_30 c1_i32_32 k1_t3
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
def k1_off5 (k1_t3 : Fin k1_t3_loop.trips) (c0_i32_105 : BitVec 32) : Fin 3 → Nat :=
  let c0_i32_30 : BitVec 32 := 0#32
  let c1_i32_32 : BitVec 32 := 1#32
  let arg25 : BitVec 32 := Scf.iv c0_i32_30 c1_i32_32 k1_t3
  let c4_i32 : BitVec 32 := 4#32
  let v138 : BitVec 32 := Scalar.muli arg25 c4_i32
  let v139 : BitVec 32 := Scalar.addi v138 c0_i32_105
  let v162 : Index := Scalar.indexCast v139
  let c0_114 : Index := 0#32
  let c0_115 : Index := 0#32
  ![v162.toNat, 0, 0]
@[reducible] def k1_t4_loop : Scf.Loop 32 :=
  let c0_i32_40 : BitVec 32 := 0#32
  let c50_i32 : BitVec 32 := 50#32
  let v52 : BitVec 32 := Scalar.addi c0_i32_40 c50_i32
  let c1_i32_41 : BitVec 32 := 1#32
  ⟨c0_i32_40, v52, c1_i32_41⟩
@[reducible] def k1_t5_loop : Scf.Loop 32 :=
  let c0_i32_46 : BitVec 32 := 0#32
  let c25_i32_47 : BitVec 32 := 25#32
  let v58 : BitVec 32 := Scalar.addi c0_i32_46 c25_i32_47
  let c1_i32_48 : BitVec 32 := 1#32
  ⟨c0_i32_46, v58, c1_i32_48⟩
def k1_off6 (k1_t5 : Fin k1_t5_loop.trips) (c0_i32_105 : BitVec 32) : Fin 3 → Nat :=
  let c0_i32_46 : BitVec 32 := 0#32
  let c1_i32_48 : BitVec 32 := 1#32
  let arg25 : BitVec 32 := Scf.iv c0_i32_46 c1_i32_48 k1_t5
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
def k1_off7 (k1_t5 : Fin k1_t5_loop.trips) (c0_i32_105 : BitVec 32) : Fin 3 → Nat :=
  let c0_i32_46 : BitVec 32 := 0#32
  let c1_i32_48 : BitVec 32 := 1#32
  let arg25 : BitVec 32 := Scf.iv c0_i32_46 c1_i32_48 k1_t5
  let c4_i32 : BitVec 32 := 4#32
  let v138 : BitVec 32 := Scalar.muli arg25 c4_i32
  let v139 : BitVec 32 := Scalar.addi v138 c0_i32_105
  let v151 : Index := Scalar.indexCast v139
  let c0_110 : Index := 0#32
  let c0_111 : Index := 0#32
  ![v151.toNat, 0, 0]
def k1_off8 (k1_t5 : Fin k1_t5_loop.trips) (c0_i32_105 : BitVec 32) : Fin 3 → Nat :=
  let c0_i32_46 : BitVec 32 := 0#32
  let c1_i32_48 : BitVec 32 := 1#32
  let arg25 : BitVec 32 := Scf.iv c0_i32_46 c1_i32_48 k1_t5
  let c4_i32 : BitVec 32 := 4#32
  let v138 : BitVec 32 := Scalar.muli arg25 c4_i32
  let v139 : BitVec 32 := Scalar.addi v138 c0_i32_105
  let v158 : Index := Scalar.indexCast v139
  let c0_115 : Index := 0#32
  let c0_116 : Index := 0#32
  ![v158.toNat, 0, 0]
def k1_off9 (k1_t5 : Fin k1_t5_loop.trips) (c0_i32_105 : BitVec 32) : Fin 3 → Nat :=
  let c0_i32_46 : BitVec 32 := 0#32
  let c1_i32_48 : BitVec 32 := 1#32
  let arg25 : BitVec 32 := Scf.iv c0_i32_46 c1_i32_48 k1_t5
  let c4_i32 : BitVec 32 := 4#32
  let v138 : BitVec 32 := Scalar.muli arg25 c4_i32
  let v139 : BitVec 32 := Scalar.addi v138 c0_i32_105
  let v164 : Index := Scalar.indexCast v139
  let c0_119 : Index := 0#32
  let c0_120 : Index := 0#32
  ![v164.toNat, 0, 0]
@[reducible] def k1_t6_loop : Scf.Loop 32 :=
  let c0_i32_65 : BitVec 32 := 0#32
  let c25_i32_66 : BitVec 32 := 25#32
  let v90 : BitVec 32 := Scalar.addi c0_i32_65 c25_i32_66
  let c1_i32_67 : BitVec 32 := 1#32
  ⟨c0_i32_65, v90, c1_i32_67⟩
def k1_off10 (k1_t6 : Fin k1_t6_loop.trips) (c0_i32_105 : BitVec 32) : Fin 3 → Nat :=
  let c0_i32_65 : BitVec 32 := 0#32
  let c1_i32_67 : BitVec 32 := 1#32
  let arg25 : BitVec 32 := Scf.iv c0_i32_65 c1_i32_67 k1_t6
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
def k1_off11 (k1_t6 : Fin k1_t6_loop.trips) (c0_i32_105 : BitVec 32) : Fin 3 → Nat :=
  let c0_i32_65 : BitVec 32 := 0#32
  let c1_i32_67 : BitVec 32 := 1#32
  let arg25 : BitVec 32 := Scf.iv c0_i32_65 c1_i32_67 k1_t6
  let c4_i32 : BitVec 32 := 4#32
  let v138 : BitVec 32 := Scalar.muli arg25 c4_i32
  let v139 : BitVec 32 := Scalar.addi v138 c0_i32_105
  let v143 : Index := Scalar.indexCast v139
  let c0_108 : Index := 0#32
  let c0_109 : Index := 0#32
  ![v143.toNat, 0, 0]
def k1_off12 (k1_t6 : Fin k1_t6_loop.trips) (c0_i32_105 : BitVec 32) : Fin 3 → Nat :=
  let c0_i32_65 : BitVec 32 := 0#32
  let c1_i32_67 : BitVec 32 := 1#32
  let arg25 : BitVec 32 := Scf.iv c0_i32_65 c1_i32_67 k1_t6
  let c4_i32 : BitVec 32 := 4#32
  let v138 : BitVec 32 := Scalar.muli arg25 c4_i32
  let v139 : BitVec 32 := Scalar.addi v138 c0_i32_105
  let v162 : Index := Scalar.indexCast v139
  let c0_114 : Index := 0#32
  let c0_115 : Index := 0#32
  ![v162.toNat, 0, 0]
@[reducible] def k1_t7_loop : Scf.Loop 32 :=
  let c0_i32_75 : BitVec 32 := 0#32
  let c25_i32_76 : BitVec 32 := 25#32
  let v99 : BitVec 32 := Scalar.addi c0_i32_75 c25_i32_76
  let c1_i32_77 : BitVec 32 := 1#32
  ⟨c0_i32_75, v99, c1_i32_77⟩
@[reducible] def k1_t8_loop : Scf.Loop 32 :=
  let c0_i32_82 : BitVec 32 := 0#32
  let c25_i32_83 : BitVec 32 := 25#32
  let v105 : BitVec 32 := Scalar.addi c0_i32_82 c25_i32_83
  let c1_i32_84 : BitVec 32 := 1#32
  ⟨c0_i32_82, v105, c1_i32_84⟩
def k1_off13 (k1_t8 : Fin k1_t8_loop.trips) (c0_i32_105 : BitVec 32) : Fin 3 → Nat :=
  let c0_i32_82 : BitVec 32 := 0#32
  let c1_i32_84 : BitVec 32 := 1#32
  let arg25 : BitVec 32 := Scf.iv c0_i32_82 c1_i32_84 k1_t8
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
def k1_off14 (k1_t8 : Fin k1_t8_loop.trips) (c0_i32_105 : BitVec 32) : Fin 3 → Nat :=
  let c0_i32_82 : BitVec 32 := 0#32
  let c1_i32_84 : BitVec 32 := 1#32
  let arg25 : BitVec 32 := Scf.iv c0_i32_82 c1_i32_84 k1_t8
  let c4_i32 : BitVec 32 := 4#32
  let v138 : BitVec 32 := Scalar.muli arg25 c4_i32
  let v139 : BitVec 32 := Scalar.addi v138 c0_i32_105
  let v151 : Index := Scalar.indexCast v139
  let c0_110 : Index := 0#32
  let c0_111 : Index := 0#32
  ![v151.toNat, 0, 0]
def k1_off15 (k1_t8 : Fin k1_t8_loop.trips) (c0_i32_105 : BitVec 32) : Fin 3 → Nat :=
  let c0_i32_82 : BitVec 32 := 0#32
  let c1_i32_84 : BitVec 32 := 1#32
  let arg25 : BitVec 32 := Scf.iv c0_i32_82 c1_i32_84 k1_t8
  let c4_i32 : BitVec 32 := 4#32
  let v138 : BitVec 32 := Scalar.muli arg25 c4_i32
  let v139 : BitVec 32 := Scalar.addi v138 c0_i32_105
  let v155 : Index := Scalar.indexCast v139
  let c0_113 : Index := 0#32
  let c0_114 : Index := 0#32
  ![v155.toNat, 0, 0]
def k1_off16 (k1_t8 : Fin k1_t8_loop.trips) (c0_i32_105 : BitVec 32) : Fin 3 → Nat :=
  let c0_i32_82 : BitVec 32 := 0#32
  let c1_i32_84 : BitVec 32 := 1#32
  let arg25 : BitVec 32 := Scf.iv c0_i32_82 c1_i32_84 k1_t8
  let c4_i32 : BitVec 32 := 4#32
  let v138 : BitVec 32 := Scalar.muli arg25 c4_i32
  let v139 : BitVec 32 := Scalar.addi v138 c0_i32_105
  let v159 : Index := Scalar.indexCast v139
  let c0_115 : Index := 0#32
  let c0_116 : Index := 0#32
  ![v159.toNat, 0, 0]
def k1_off17 (k1_t8 : Fin k1_t8_loop.trips) (c0_i32_105 : BitVec 32) : Fin 3 → Nat :=
  let c0_i32_82 : BitVec 32 := 0#32
  let c1_i32_84 : BitVec 32 := 1#32
  let arg25 : BitVec 32 := Scf.iv c0_i32_82 c1_i32_84 k1_t8
  let c4_i32 : BitVec 32 := 4#32
  let v138 : BitVec 32 := Scalar.muli arg25 c4_i32
  let v139 : BitVec 32 := Scalar.addi v138 c0_i32_105
  let v164 : Index := Scalar.indexCast v139
  let c0_119 : Index := 0#32
  let c0_120 : Index := 0#32
  ![v164.toNat, 0, 0]
@[reducible] def k1_t9_loop : Scf.Loop 32 :=
  let c0_i32_101 : BitVec 32 := 0#32
  let c25_i32_102 : BitVec 32 := 25#32
  let v137 : BitVec 32 := Scalar.addi c0_i32_101 c25_i32_102
  let c1_i32_103 : BitVec 32 := 1#32
  ⟨c0_i32_101, v137, c1_i32_103⟩
def k1_off18 (k1_t9 : Fin k1_t9_loop.trips) (c0_i32_105 : BitVec 32) : Fin 3 → Nat :=
  let c0_i32_101 : BitVec 32 := 0#32
  let c1_i32_103 : BitVec 32 := 1#32
  let arg25 : BitVec 32 := Scf.iv c0_i32_101 c1_i32_103 k1_t9
  let c4_i32 : BitVec 32 := 4#32
  let v138 : BitVec 32 := Scalar.muli arg25 c4_i32
  let v139 : BitVec 32 := Scalar.addi v138 c0_i32_105
  let v140 : Index := Scalar.indexCast v139
  let c0_106 : Index := 0#32
  let c0_107 : Index := 0#32
  ![v140.toNat, 0, 0]
def k1_off19 (k1_t9 : Fin k1_t9_loop.trips) (c0_i32_105 : BitVec 32) : Fin 3 → Nat :=
  let c0_i32_101 : BitVec 32 := 0#32
  let c1_i32_103 : BitVec 32 := 1#32
  let arg25 : BitVec 32 := Scf.iv c0_i32_101 c1_i32_103 k1_t9
  let c4_i32 : BitVec 32 := 4#32
  let v138 : BitVec 32 := Scalar.muli arg25 c4_i32
  let v139 : BitVec 32 := Scalar.addi v138 c0_i32_105
  let v143 : Index := Scalar.indexCast v139
  let c0_108 : Index := 0#32
  let c0_109 : Index := 0#32
  ![v143.toNat, 0, 0]
def k1_off20 (k1_t9 : Fin k1_t9_loop.trips) (c0_i32_105 : BitVec 32) : Fin 3 → Nat :=
  let c0_i32_101 : BitVec 32 := 0#32
  let c1_i32_103 : BitVec 32 := 1#32
  let arg25 : BitVec 32 := Scf.iv c0_i32_101 c1_i32_103 k1_t9
  let c4_i32 : BitVec 32 := 4#32
  let v138 : BitVec 32 := Scalar.muli arg25 c4_i32
  let v139 : BitVec 32 := Scalar.addi v138 c0_i32_105
  let v184 : Index := Scalar.indexCast v139
  let c0_127 : Index := 0#32
  let c0_128 : Index := 0#32
  ![v184.toNat, 0, 0]
abbrev stage1_0 : Fin 1 → Memref sig .tc .vmem S100x100x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S100x100x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S100x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S100x128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S100x64x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S100x32x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S100x1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S100x100x100 : Shape := ⟨3, ![100, 100, 100]⟩
abbrev S320000x1 : Shape := ⟨2, ![320000, 1]⟩
abbrev S320000x3 : Shape := ⟨2, ![320000, 3]⟩
abbrev S100x100x128 : Shape := ⟨3, ![100, 100, 128]⟩
abbrev S100x100 : Shape := ⟨2, ![100, 100]⟩
abbrev S1x100x100 : Shape := ⟨3, ![1, 100, 100]⟩
abbrev S100x100x1 : Shape := ⟨3, ![100, 100, 1]⟩
abbrev S100x1x100 : Shape := ⟨3, ![100, 1, 100]⟩
abbrev S1x1x128 : Shape := ⟨3, ![1, 1, 128]⟩
abbrev S100x50 : Shape := ⟨2, ![100, 50]⟩
abbrev S100x50x1 : Shape := ⟨3, ![100, 50, 1]⟩
abbrev S1 : Shape := ⟨1, ![1]⟩
abbrev S1x1x1 : Shape := ⟨3, ![1, 1, 1]⟩
abbrev S100x50x128 : Shape := ⟨3, ![100, 50, 128]⟩
abbrev S100x50x100 : Shape := ⟨3, ![100, 50, 100]⟩
abbrev S100x50x50 : Shape := ⟨3, ![100, 50, 50]⟩
abbrev S5000x128 : Shape := ⟨2, ![5000, 128]⟩
abbrev S100x128 : Shape := ⟨2, ![100, 128]⟩
abbrev S100x256 : Shape := ⟨2, ![100, 256]⟩
abbrev S50x50 : Shape := ⟨2, ![50, 50]⟩
abbrev S1x50x50 : Shape := ⟨3, ![1, 50, 50]⟩
abbrev S100x1x50 : Shape := ⟨3, ![100, 1, 50]⟩
abbrev S100 : Shape := ⟨1, ![100]⟩
abbrev S5000 : Shape := ⟨1, ![5000]⟩
abbrev S100x25 : Shape := ⟨2, ![100, 25]⟩
abbrev S100x25x1 : Shape := ⟨3, ![100, 25, 1]⟩
abbrev S100x25x128 : Shape := ⟨3, ![100, 25, 128]⟩
abbrev S100x25x50 : Shape := ⟨3, ![100, 25, 50]⟩
abbrev S100x25x25 : Shape := ⟨3, ![100, 25, 25]⟩
abbrev S2500x128 : Shape := ⟨2, ![2500, 128]⟩
abbrev S25x25 : Shape := ⟨2, ![25, 25]⟩
abbrev S1x25x25 : Shape := ⟨3, ![1, 25, 25]⟩
abbrev S100x1x25 : Shape := ⟨3, ![100, 1, 25]⟩
abbrev S2500 : Shape := ⟨1, ![2500]⟩

abbrev nBuf : Space → Nat
  | .hbm => 372
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x320000, .i32⟩
  | 10 => ⟨S320000, .i32⟩
  | 11 => ⟨S_, .i32⟩
  | 12 => ⟨S_, .i32⟩
  | 13 => ⟨S320000, .i32⟩
  | 14 => ⟨S320000, .i32⟩
  | 15 => ⟨S320000, .i32⟩
  | 16 => ⟨S_, .i32⟩
  | 17 => ⟨S320000, .i32⟩
  | 18 => ⟨S320000, .i1⟩
  | 19 => ⟨S320000, .i32⟩
  | 20 => ⟨S320000, .i32⟩
  | 21 => ⟨S_, .i32⟩
  | 22 => ⟨S320000, .i32⟩
  | 23 => ⟨S320000, .i1⟩
  | 24 => ⟨S320000, .i1⟩
  | 25 => ⟨S_, .i32⟩
  | 26 => ⟨S320000, .i32⟩
  | 27 => ⟨S320000, .i32⟩
  | 28 => ⟨S320000, .i32⟩
  | 29 => ⟨S1x320000, .i32⟩
  | 30 => ⟨S320000, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S320000, .i32⟩
  | 38 => ⟨S320000, .i32⟩
  | 39 => ⟨S_, .i32⟩
  | 40 => ⟨S320000, .i32⟩
  | 41 => ⟨S320000, .i1⟩
  | 42 => ⟨S_, .i32⟩
  | 43 => ⟨S320000, .i32⟩
  | 44 => ⟨S320000, .i1⟩
  | 45 => ⟨S_, .i32⟩
  | 46 => ⟨S_, .i1⟩
  | 47 => ⟨S320000, .i1⟩
  | 48 => ⟨S320000, .i1⟩
  | 49 => ⟨S320000, .i1⟩
  | 50 => ⟨S320000, .i32⟩
  | 51 => ⟨S320000, .i32⟩
  | 52 => ⟨S320000, .i32⟩
  | 53 => ⟨S1x320000, .i32⟩
  | 54 => ⟨S320000, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S320000, .i32⟩
  | 62 => ⟨S320000, .i32⟩
  | 63 => ⟨S_, .i32⟩
  | 64 => ⟨S320000, .i32⟩
  | 65 => ⟨S320000, .i1⟩
  | 66 => ⟨S_, .i32⟩
  | 67 => ⟨S320000, .i32⟩
  | 68 => ⟨S320000, .i1⟩
  | 69 => ⟨S_, .i32⟩
  | 70 => ⟨S_, .i1⟩
  | 71 => ⟨S320000, .i1⟩
  | 72 => ⟨S320000, .i1⟩
  | 73 => ⟨S320000, .i1⟩
  | 74 => ⟨S320000, .i32⟩
  | 75 => ⟨S320000, .i32⟩
  | 76 => ⟨S320000, .i32⟩
  | 77 => ⟨S_, .f32⟩
  | 78 => ⟨S100x100x100, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x1, .i32⟩
  | 102 => ⟨S320000x1, .i32⟩
  | 103 => ⟨S320000x3, .i32⟩
  | 104 => ⟨S_, .f32⟩
  | 105 => ⟨S320000, .f32⟩
  | 106 => ⟨S100x100x100, .f32⟩
  | 107 => ⟨S100x100x100, .f32⟩
  | 108 => ⟨S100x100x100, .f32⟩
  | 109 => ⟨S100x100x128, .f32⟩
  | 110 => ⟨S100x100, .i32⟩
  | 111 => ⟨S100x100, .i32⟩
  | 112 => ⟨S_, .i32⟩
  | 113 => ⟨S100x100, .i32⟩
  | 114 => ⟨S100x100, .i32⟩
  | 115 => ⟨S100x100, .i1⟩
  | 116 => ⟨S100x100, .f32⟩
  | 117 => ⟨S1x100x100, .f32⟩
  | 118 => ⟨S100x100x100, .f32⟩
  | 119 => ⟨S100x100x100, .f32⟩
  | 120 => ⟨S_, .f32⟩
  | 121 => ⟨S100x100, .f32⟩
  | 122 => ⟨S_, .f32⟩
  | 123 => ⟨S_, .f32⟩
  | 124 => ⟨S100x100, .f32⟩
  | 125 => ⟨S100x100, .f32⟩
  | 126 => ⟨S100x100, .f32⟩
  | 127 => ⟨S_, .f32⟩
  | _ => ⟨S10000x128, .f32⟩

abbrev hbmTy0_1 (i : Nat) : BufTy := match i % 128 with
  | 0 => ⟨S100x100, .f32⟩
  | 1 => ⟨S100x100, .f32⟩
  | 2 => ⟨S100x100x1, .f32⟩
  | 3 => ⟨S100x100x100, .f32⟩
  | 4 => ⟨S100x100x100, .f32⟩
  | 5 => ⟨S100x1x100, .f32⟩
  | 6 => ⟨S100x100x100, .f32⟩
  | 7 => ⟨S100x100x100, .f32⟩
  | 8 => ⟨S100x100x128, .f32⟩
  | 9 => ⟨S100x100x128, .f32⟩
  | 10 => ⟨S1x1x128, .f32⟩
  | 11 => ⟨S100x100x128, .f32⟩
  | 12 => ⟨S100x100x128, .f32⟩
  | 13 => ⟨S_, .f32⟩
  | 14 => ⟨S100x100x128, .f32⟩
  | 15 => ⟨S100x100x128, .f32⟩
  | 16 => ⟨S10000x128, .f32⟩
  | 17 => ⟨S_, .f32⟩
  | 18 => ⟨S100x100, .f32⟩
  | 19 => ⟨S_, .f32⟩
  | 20 => ⟨S_, .f32⟩
  | 21 => ⟨S100x100, .f32⟩
  | 22 => ⟨S100x100, .f32⟩
  | 23 => ⟨S100x100x128, .f32⟩
  | 24 => ⟨S100x100x1, .f32⟩
  | 25 => ⟨S100x100x128, .f32⟩
  | 26 => ⟨S100x100x128, .f32⟩
  | 27 => ⟨S100x100x128, .f32⟩
  | 28 => ⟨S100x100x128, .f32⟩
  | 29 => ⟨S_, .f32⟩
  | 30 => ⟨S100x100, .f32⟩
  | 31 => ⟨S100x50, .f32⟩
  | 32 => ⟨S100x50, .i32⟩
  | 33 => ⟨S100x50x1, .i32⟩
  | 34 => ⟨S_, .i32⟩
  | 35 => ⟨S100x50x1, .i32⟩
  | 36 => ⟨S100x50x1, .i1⟩
  | 37 => ⟨S_, .i32⟩
  | 38 => ⟨S100x50x1, .i32⟩
  | 39 => ⟨S100x50x1, .i32⟩
  | 40 => ⟨S100x50x1, .i32⟩
  | 41 => ⟨S1, .i32⟩
  | 42 => ⟨S_, .i32⟩
  | 43 => ⟨S100x50x1, .i32⟩
  | 44 => ⟨S100x50x1, .i1⟩
  | 45 => ⟨S1x1x1, .i32⟩
  | 46 => ⟨S100x50x1, .i32⟩
  | 47 => ⟨S100x50x1, .i1⟩
  | 48 => ⟨S100x50x1, .i1⟩
  | 49 => ⟨S_, .i1⟩
  | 50 => ⟨S100x50, .i1⟩
  | 51 => ⟨S100x50x128, .f32⟩
  | 52 => ⟨S100x50x128, .i1⟩
  | 53 => ⟨S_, .f32⟩
  | 54 => ⟨S100x50x128, .f32⟩
  | 55 => ⟨S100x50x128, .f32⟩
  | 56 => ⟨S_, .i32⟩
  | 57 => ⟨S100x50, .i32⟩
  | 58 => ⟨S100x50, .i1⟩
  | 59 => ⟨S_, .i32⟩
  | 60 => ⟨S100x50, .i32⟩
  | 61 => ⟨S100x50, .i32⟩
  | 62 => ⟨S100x50, .i32⟩
  | 63 => ⟨S100x50x1, .i32⟩
  | 64 => ⟨S100x50x100, .f32⟩
  | 65 => ⟨S_, .i32⟩
  | 66 => ⟨S100x50, .i32⟩
  | 67 => ⟨S100x50, .i1⟩
  | 68 => ⟨S_, .i32⟩
  | 69 => ⟨S100x50, .i32⟩
  | 70 => ⟨S100x50, .i32⟩
  | 71 => ⟨S100x50, .i32⟩
  | 72 => ⟨S100x50x1, .i32⟩
  | 73 => ⟨S100x50x50, .f32⟩
  | 74 => ⟨S5000x128, .f32⟩
  | 75 => ⟨S_, .f32⟩
  | 76 => ⟨S100x128, .f32⟩
  | 77 => ⟨S_, .f32⟩
  | 78 => ⟨S100x128, .f32⟩
  | 79 => ⟨S_, .f32⟩
  | 80 => ⟨S100x128, .f32⟩
  | 81 => ⟨S100x128, .f32⟩
  | 82 => ⟨S100x256, .f32⟩
  | 83 => ⟨S50x50, .i32⟩
  | 84 => ⟨S50x50, .i32⟩
  | 85 => ⟨S_, .i32⟩
  | 86 => ⟨S50x50, .i32⟩
  | 87 => ⟨S50x50, .i32⟩
  | 88 => ⟨S50x50, .i1⟩
  | 89 => ⟨S50x50, .f32⟩
  | 90 => ⟨S1x50x50, .f32⟩
  | 91 => ⟨S100x50x50, .f32⟩
  | 92 => ⟨S100x50x50, .f32⟩
  | 93 => ⟨S_, .f32⟩
  | 94 => ⟨S100x50, .f32⟩
  | 95 => ⟨S_, .f32⟩
  | 96 => ⟨S_, .f32⟩
  | 97 => ⟨S100x50, .f32⟩
  | 98 => ⟨S100x50, .f32⟩
  | 99 => ⟨S100x50, .f32⟩
  | 100 => ⟨S_, .f32⟩
  | 101 => ⟨S100x50, .f32⟩
  | 102 => ⟨S100x50, .f32⟩
  | 103 => ⟨S100x50x1, .f32⟩
  | 104 => ⟨S100x50x50, .f32⟩
  | 105 => ⟨S100x50x50, .f32⟩
  | 106 => ⟨S100x1x50, .f32⟩
  | 107 => ⟨S100x50x50, .f32⟩
  | 108 => ⟨S100x50x50, .f32⟩
  | 109 => ⟨S100x50x128, .f32⟩
  | 110 => ⟨S100x50x128, .f32⟩
  | 111 => ⟨S1x1x128, .f32⟩
  | 112 => ⟨S100x50x128, .f32⟩
  | 113 => ⟨S100x50x128, .f32⟩
  | 114 => ⟨S_, .f32⟩
  | 115 => ⟨S100x50x128, .f32⟩
  | 116 => ⟨S100x50x128, .f32⟩
  | 117 => ⟨S5000x128, .f32⟩
  | 118 => ⟨S100, .i32⟩
  | 119 => ⟨S100x50, .i32⟩
  | 120 => ⟨S5000, .i32⟩
  | 121 => ⟨S_, .f32⟩
  | 122 => ⟨S100x50, .f32⟩
  | 123 => ⟨S_, .f32⟩
  | 124 => ⟨S_, .f32⟩
  | 125 => ⟨S100x50, .f32⟩
  | 126 => ⟨S100x50, .f32⟩
  | 127 => ⟨S100x50x128, .f32⟩
  | _ => ⟨S10000x128, .f32⟩

abbrev hbmTy0_2 (i : Nat) : BufTy := match i % 128 with
  | 0 => ⟨S100x50x1, .f32⟩
  | 1 => ⟨S100x50x128, .f32⟩
  | 2 => ⟨S100x50x128, .f32⟩
  | 3 => ⟨S100x50x128, .f32⟩
  | 4 => ⟨S100x50x128, .f32⟩
  | 5 => ⟨S_, .f32⟩
  | 6 => ⟨S100x50, .f32⟩
  | 7 => ⟨S100x25, .f32⟩
  | 8 => ⟨S100x25, .i32⟩
  | 9 => ⟨S100x25x1, .i32⟩
  | 10 => ⟨S_, .i32⟩
  | 11 => ⟨S100x25x1, .i32⟩
  | 12 => ⟨S100x25x1, .i1⟩
  | 13 => ⟨S_, .i32⟩
  | 14 => ⟨S100x25x1, .i32⟩
  | 15 => ⟨S100x25x1, .i32⟩
  | 16 => ⟨S100x25x1, .i32⟩
  | 17 => ⟨S1, .i32⟩
  | 18 => ⟨S_, .i32⟩
  | 19 => ⟨S100x25x1, .i32⟩
  | 20 => ⟨S100x25x1, .i1⟩
  | 21 => ⟨S1x1x1, .i32⟩
  | 22 => ⟨S100x25x1, .i32⟩
  | 23 => ⟨S100x25x1, .i1⟩
  | 24 => ⟨S100x25x1, .i1⟩
  | 25 => ⟨S_, .i1⟩
  | 26 => ⟨S100x25, .i1⟩
  | 27 => ⟨S100x25x128, .f32⟩
  | 28 => ⟨S100x25x128, .i1⟩
  | 29 => ⟨S_, .f32⟩
  | 30 => ⟨S100x25x128, .f32⟩
  | 31 => ⟨S100x25x128, .f32⟩
  | 32 => ⟨S_, .i32⟩
  | 33 => ⟨S100x25, .i32⟩
  | 34 => ⟨S100x25, .i1⟩
  | 35 => ⟨S_, .i32⟩
  | 36 => ⟨S100x25, .i32⟩
  | 37 => ⟨S100x25, .i32⟩
  | 38 => ⟨S100x25, .i32⟩
  | 39 => ⟨S100x25x1, .i32⟩
  | 40 => ⟨S100x25x50, .f32⟩
  | 41 => ⟨S_, .i32⟩
  | 42 => ⟨S100x25, .i32⟩
  | 43 => ⟨S100x25, .i1⟩
  | 44 => ⟨S_, .i32⟩
  | 45 => ⟨S100x25, .i32⟩
  | 46 => ⟨S100x25, .i32⟩
  | 47 => ⟨S100x25, .i32⟩
  | 48 => ⟨S100x25x1, .i32⟩
  | 49 => ⟨S100x25x25, .f32⟩
  | 50 => ⟨S2500x128, .f32⟩
  | 51 => ⟨S_, .f32⟩
  | 52 => ⟨S100x128, .f32⟩
  | 53 => ⟨S_, .f32⟩
  | 54 => ⟨S100x128, .f32⟩
  | 55 => ⟨S_, .f32⟩
  | 56 => ⟨S100x128, .f32⟩
  | 57 => ⟨S100x128, .f32⟩
  | 58 => ⟨S100x256, .f32⟩
  | 59 => ⟨S25x25, .i32⟩
  | 60 => ⟨S25x25, .i32⟩
  | 61 => ⟨S_, .i32⟩
  | 62 => ⟨S25x25, .i32⟩
  | 63 => ⟨S25x25, .i32⟩
  | 64 => ⟨S25x25, .i1⟩
  | 65 => ⟨S25x25, .f32⟩
  | 66 => ⟨S1x25x25, .f32⟩
  | 67 => ⟨S100x25x25, .f32⟩
  | 68 => ⟨S100x25x25, .f32⟩
  | 69 => ⟨S_, .f32⟩
  | 70 => ⟨S100x25, .f32⟩
  | 71 => ⟨S_, .f32⟩
  | 72 => ⟨S_, .f32⟩
  | 73 => ⟨S100x25, .f32⟩
  | 74 => ⟨S100x25, .f32⟩
  | 75 => ⟨S100x25, .f32⟩
  | 76 => ⟨S_, .f32⟩
  | 77 => ⟨S100x25, .f32⟩
  | 78 => ⟨S100x25, .f32⟩
  | 79 => ⟨S100x25x1, .f32⟩
  | 80 => ⟨S100x25x25, .f32⟩
  | 81 => ⟨S100x25x25, .f32⟩
  | 82 => ⟨S100x1x25, .f32⟩
  | 83 => ⟨S100x25x25, .f32⟩
  | 84 => ⟨S100x25x25, .f32⟩
  | 85 => ⟨S100x25x128, .f32⟩
  | 86 => ⟨S100x25x128, .f32⟩
  | 87 => ⟨S1x1x128, .f32⟩
  | 88 => ⟨S100x25x128, .f32⟩
  | 89 => ⟨S100x25x128, .f32⟩
  | 90 => ⟨S_, .f32⟩
  | 91 => ⟨S100x25x128, .f32⟩
  | 92 => ⟨S100x25x128, .f32⟩
  | 93 => ⟨S2500x128, .f32⟩
  | 94 => ⟨S100, .i32⟩
  | 95 => ⟨S100x25, .i32⟩
  | 96 => ⟨S2500, .i32⟩
  | 97 => ⟨S_, .f32⟩
  | 98 => ⟨S100x128, .f32⟩
  | 99 => ⟨S_, .f32⟩
  | 100 => ⟨S100x128, .f32⟩
  | 101 => ⟨S_, .f32⟩
  | 102 => ⟨S100x128, .f32⟩
  | 103 => ⟨S100x128, .f32⟩
  | 104 => ⟨S100x256, .f32⟩
  | 105 => ⟨S_, .f32⟩
  | 106 => ⟨S100x256, .f32⟩
  | 107 => ⟨S100x256, .f32⟩
  | 108 => ⟨S_, .f32⟩
  | 109 => ⟨S100x256, .f32⟩
  | 110 => ⟨S100x256, .f32⟩
  | 111 => ⟨S100x256, .f32⟩
  | 112 => ⟨S_, .f32⟩
  | 113 => ⟨S100x256, .f32⟩
  | 114 => ⟨S100x256, .f32⟩
  | 115 => ⟨S100x256, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v8 : Ref sig .tc := ⟨.hbm, 76, rfl⟩
abbrev main_cst : Ref sig .tc := ⟨.hbm, 77, rfl⟩
abbrev main_v9 : Ref sig .tc := ⟨.hbm, 78, rfl⟩
abbrev main_c_2 : Ref sig .tc := ⟨.hbm, 79, rfl⟩
abbrev main_v10 : Ref sig .tc := ⟨.hbm, 80, rfl⟩
abbrev main_v11 : Ref sig .tc := ⟨.hbm, 81, rfl⟩
abbrev main_c_3 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_c_4 : Ref sig .tc := ⟨.hbm, 86, rfl⟩
abbrev main_v15 : Ref sig .tc := ⟨.hbm, 87, rfl⟩
abbrev main_v16 : Ref sig .tc := ⟨.hbm, 88, rfl⟩
abbrev main_c_5 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_c_6 : Ref sig .tc := ⟨.hbm, 93, rfl⟩
abbrev main_v20 : Ref sig .tc := ⟨.hbm, 94, rfl⟩
abbrev main_v21 : Ref sig .tc := ⟨.hbm, 95, rfl⟩
abbrev main_c_7 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_cst_8 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_c_9 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_cst_10 : Ref sig .tc := ⟨.hbm, 120, rfl⟩
abbrev main_v43 : Ref sig .tc := ⟨.hbm, 121, rfl⟩
abbrev main_cst_11 : Ref sig .tc := ⟨.hbm, 122, rfl⟩
abbrev main_call3_v0 : Ref sig .tc := ⟨.hbm, 123, rfl⟩
abbrev main_call3_v1 : Ref sig .tc := ⟨.hbm, 124, rfl⟩
abbrev main_v44 : Ref sig .tc := ⟨.hbm, 125, rfl⟩
abbrev main_v45 : Ref sig .tc := ⟨.hbm, 126, rfl⟩
abbrev main_cst_12 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_call4_cst : Ref sig .tc := ⟨.hbm, 141, rfl⟩
abbrev main_call4_v0 : Ref sig .tc := ⟨.hbm, 142, rfl⟩
abbrev main_v59 : Ref sig .tc := ⟨.hbm, 143, rfl⟩
abbrev main_v60 : Ref sig .tc := ⟨.hbm, 144, rfl⟩
abbrev main_cst_13 : Ref sig .tc := ⟨.hbm, 145, rfl⟩
abbrev main_v61 : Ref sig .tc := ⟨.hbm, 146, rfl⟩
abbrev main_cst_14 : Ref sig .tc := ⟨.hbm, 147, rfl⟩
abbrev main_call5_v0 : Ref sig .tc := ⟨.hbm, 148, rfl⟩
abbrev main_call5_v1 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_cst_15 : Ref sig .tc := ⟨.hbm, 157, rfl⟩
abbrev main_v69 : Ref sig .tc := ⟨.hbm, 158, rfl⟩
abbrev main_values : Ref sig .tc := ⟨.hbm, 159, rfl⟩
abbrev main_indices : Ref sig .tc := ⟨.hbm, 160, rfl⟩
abbrev main_v70 : Ref sig .tc := ⟨.hbm, 161, rfl⟩
abbrev main_call6_c : Ref sig .tc := ⟨.hbm, 162, rfl⟩
abbrev main_call6_v0 : Ref sig .tc := ⟨.hbm, 163, rfl⟩
abbrev main_call6_v1 : Ref sig .tc := ⟨.hbm, 164, rfl⟩
abbrev main_call6_c_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_c_1 : Ref sig .tc := ⟨.hbm, 169, rfl⟩
abbrev main_call6_c_2 : Ref sig .tc := ⟨.hbm, 170, rfl⟩
abbrev main_call6_v5 : Ref sig .tc := ⟨.hbm, 171, rfl⟩
abbrev main_call6_v6 : Ref sig .tc := ⟨.hbm, 172, rfl⟩
abbrev main_call6_v7 : Ref sig .tc := ⟨.hbm, 173, rfl⟩
abbrev main_call6_v8 : Ref sig .tc := ⟨.hbm, 174, rfl⟩
abbrev main_call6_v9 : Ref sig .tc := ⟨.hbm, 175, rfl⟩
abbrev main_call6_v10 : Ref sig .tc := ⟨.hbm, 176, rfl⟩
abbrev main_call6_c_3 : Ref sig .tc := ⟨.hbm, 177, rfl⟩
abbrev main_call6_v11 : Ref sig .tc := ⟨.hbm, 178, rfl⟩
abbrev main_call6_v12 : Ref sig .tc := ⟨.hbm, 179, rfl⟩
abbrev main_call6_v13 : Ref sig .tc := ⟨.hbm, 180, rfl⟩
abbrev main_call6_cst : Ref sig .tc := ⟨.hbm, 181, rfl⟩
abbrev main_call6_v14 : Ref sig .tc := ⟨.hbm, 182, rfl⟩
abbrev main_v71 : Ref sig .tc := ⟨.hbm, 183, rfl⟩
abbrev main_c_16 : Ref sig .tc := ⟨.hbm, 184, rfl⟩
abbrev main_v72 : Ref sig .tc := ⟨.hbm, 185, rfl⟩
abbrev main_v73 : Ref sig .tc := ⟨.hbm, 186, rfl⟩
abbrev main_c_17 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_c_18 : Ref sig .tc := ⟨.hbm, 193, rfl⟩
abbrev main_v79 : Ref sig .tc := ⟨.hbm, 194, rfl⟩
abbrev main_v80 : Ref sig .tc := ⟨.hbm, 195, rfl⟩
abbrev main_c_19 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_cst_20 : Ref sig .tc := ⟨.hbm, 203, rfl⟩
abbrev main_v87 : Ref sig .tc := ⟨.hbm, 204, rfl⟩
abbrev main_cst_21 : Ref sig .tc := ⟨.hbm, 205, rfl⟩
abbrev main_v88 : Ref sig .tc := ⟨.hbm, 206, rfl⟩
abbrev main_cst_22 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_v92 : Ref sig .tc := ⟨.hbm, 211, rfl⟩
abbrev main_v93 : Ref sig .tc := ⟨.hbm, 212, rfl⟩
abbrev main_c_23 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_cst_24 : Ref sig .tc := ⟨.hbm, 221, rfl⟩
abbrev main_v101 : Ref sig .tc := ⟨.hbm, 222, rfl⟩
abbrev main_cst_25 : Ref sig .tc := ⟨.hbm, 223, rfl⟩
abbrev main_call7_v0 : Ref sig .tc := ⟨.hbm, 224, rfl⟩
abbrev main_call7_v1 : Ref sig .tc := ⟨.hbm, 225, rfl⟩
abbrev main_v102 : Ref sig .tc := ⟨.hbm, 226, rfl⟩
abbrev main_v103 : Ref sig .tc := ⟨.hbm, 227, rfl⟩
abbrev main_cst_26 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_call8_cst : Ref sig .tc := ⟨.hbm, 242, rfl⟩
abbrev main_call8_v0 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_cst_27 : Ref sig .tc := ⟨.hbm, 249, rfl⟩
abbrev main_v122 : Ref sig .tc := ⟨.hbm, 250, rfl⟩
abbrev main_cst_28 : Ref sig .tc := ⟨.hbm, 251, rfl⟩
abbrev main_call9_v0 : Ref sig .tc := ⟨.hbm, 252, rfl⟩
abbrev main_call9_v1 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_v129 : Ref sig .tc := ⟨.hbm, 260, rfl⟩
abbrev main_cst_29 : Ref sig .tc := ⟨.hbm, 261, rfl⟩
abbrev main_v130 : Ref sig .tc := ⟨.hbm, 262, rfl⟩
abbrev main_values_30 : Ref sig .tc := ⟨.hbm, 263, rfl⟩
abbrev main_indices_31 : Ref sig .tc := ⟨.hbm, 264, rfl⟩
abbrev main_v131 : Ref sig .tc := ⟨.hbm, 265, rfl⟩
abbrev main_call10_c : Ref sig .tc := ⟨.hbm, 266, rfl⟩
abbrev main_call10_v0 : Ref sig .tc := ⟨.hbm, 267, rfl⟩
abbrev main_call10_v1 : Ref sig .tc := ⟨.hbm, 268, rfl⟩
abbrev main_call10_c_0 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_call10_c_1 : Ref sig .tc := ⟨.hbm, 273, rfl⟩
abbrev main_call10_c_2 : Ref sig .tc := ⟨.hbm, 274, rfl⟩
abbrev main_call10_v5 : Ref sig .tc := ⟨.hbm, 275, rfl⟩
abbrev main_call10_v6 : Ref sig .tc := ⟨.hbm, 276, rfl⟩
abbrev main_call10_v7 : Ref sig .tc := ⟨.hbm, 277, rfl⟩
abbrev main_call10_v8 : Ref sig .tc := ⟨.hbm, 278, rfl⟩
abbrev main_call10_v9 : Ref sig .tc := ⟨.hbm, 279, rfl⟩
abbrev main_call10_v10 : Ref sig .tc := ⟨.hbm, 280, rfl⟩
abbrev main_call10_c_3 : Ref sig .tc := ⟨.hbm, 281, rfl⟩
abbrev main_call10_v11 : Ref sig .tc := ⟨.hbm, 282, rfl⟩
abbrev main_call10_v12 : Ref sig .tc := ⟨.hbm, 283, rfl⟩
abbrev main_call10_v13 : Ref sig .tc := ⟨.hbm, 284, rfl⟩
abbrev main_call10_cst : Ref sig .tc := ⟨.hbm, 285, rfl⟩
abbrev main_call10_v14 : Ref sig .tc := ⟨.hbm, 286, rfl⟩
abbrev main_v132 : Ref sig .tc := ⟨.hbm, 287, rfl⟩
abbrev main_c_32 : Ref sig .tc := ⟨.hbm, 288, rfl⟩
abbrev main_v133 : Ref sig .tc := ⟨.hbm, 289, rfl⟩
abbrev main_v134 : Ref sig .tc := ⟨.hbm, 290, rfl⟩
abbrev main_c_33 : Ref sig .tc := ⟨.hbm, 291, rfl⟩
abbrev main_v135 : Ref sig .tc := ⟨.hbm, 292, rfl⟩
abbrev main_v136 : Ref sig .tc := ⟨.hbm, 293, rfl⟩
abbrev main_v137 : Ref sig .tc := ⟨.hbm, 294, rfl⟩
abbrev main_v138 : Ref sig .tc := ⟨.hbm, 295, rfl⟩
abbrev main_v139 : Ref sig .tc := ⟨.hbm, 296, rfl⟩
abbrev main_c_34 : Ref sig .tc := ⟨.hbm, 297, rfl⟩
abbrev main_v140 : Ref sig .tc := ⟨.hbm, 298, rfl⟩
abbrev main_v141 : Ref sig .tc := ⟨.hbm, 299, rfl⟩
abbrev main_c_35 : Ref sig .tc := ⟨.hbm, 300, rfl⟩
abbrev main_v142 : Ref sig .tc := ⟨.hbm, 301, rfl⟩
abbrev main_v143 : Ref sig .tc := ⟨.hbm, 302, rfl⟩
abbrev main_v144 : Ref sig .tc := ⟨.hbm, 303, rfl⟩
abbrev main_v145 : Ref sig .tc := ⟨.hbm, 304, rfl⟩
abbrev main_v146 : Ref sig .tc := ⟨.hbm, 305, rfl⟩
abbrev main_v147 : Ref sig .tc := ⟨.hbm, 306, rfl⟩
abbrev main_cst_36 : Ref sig .tc := ⟨.hbm, 307, rfl⟩
abbrev main_v148 : Ref sig .tc := ⟨.hbm, 308, rfl⟩
abbrev main_cst_37 : Ref sig .tc := ⟨.hbm, 309, rfl⟩
abbrev main_v149 : Ref sig .tc := ⟨.hbm, 310, rfl⟩
abbrev main_cst_38 : Ref sig .tc := ⟨.hbm, 311, rfl⟩
abbrev main_v150 : Ref sig .tc := ⟨.hbm, 312, rfl⟩
abbrev main_v151 : Ref sig .tc := ⟨.hbm, 313, rfl⟩
abbrev main_v152 : Ref sig .tc := ⟨.hbm, 314, rfl⟩
abbrev main_v153 : Ref sig .tc := ⟨.hbm, 315, rfl⟩
abbrev main_v154 : Ref sig .tc := ⟨.hbm, 316, rfl⟩
abbrev main_c_39 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_cst_40 : Ref sig .tc := ⟨.hbm, 325, rfl⟩
abbrev main_v162 : Ref sig .tc := ⟨.hbm, 326, rfl⟩
abbrev main_cst_41 : Ref sig .tc := ⟨.hbm, 327, rfl⟩
abbrev main_call11_v0 : Ref sig .tc := ⟨.hbm, 328, rfl⟩
abbrev main_call11_v1 : Ref sig .tc := ⟨.hbm, 329, rfl⟩
abbrev main_v163 : Ref sig .tc := ⟨.hbm, 330, rfl⟩
abbrev main_v164 : Ref sig .tc := ⟨.hbm, 331, rfl⟩
abbrev main_cst_42 : Ref sig .tc := ⟨.hbm, 332, rfl⟩
abbrev main_v165 : Ref sig .tc := ⟨.hbm, 333, rfl⟩
abbrev main_v166 : Ref sig .tc := ⟨.hbm, 334, rfl⟩
abbrev main_v167 : Ref sig .tc := ⟨.hbm, 335, rfl⟩
abbrev main_v168 : Ref sig .tc := ⟨.hbm, 336, rfl⟩
abbrev main_v169 : Ref sig .tc := ⟨.hbm, 337, rfl⟩
abbrev main_v170 : Ref sig .tc := ⟨.hbm, 338, rfl⟩
abbrev main_v171 : Ref sig .tc := ⟨.hbm, 339, rfl⟩
abbrev main_v172 : Ref sig .tc := ⟨.hbm, 340, rfl⟩
abbrev main_v173 : Ref sig .tc := ⟨.hbm, 341, rfl⟩
abbrev main_v174 : Ref sig .tc := ⟨.hbm, 342, rfl⟩
abbrev main_v175 : Ref sig .tc := ⟨.hbm, 343, rfl⟩
abbrev main_v176 : Ref sig .tc := ⟨.hbm, 344, rfl⟩
abbrev main_v177 : Ref sig .tc := ⟨.hbm, 345, rfl⟩
abbrev main_call12_cst : Ref sig .tc := ⟨.hbm, 346, rfl⟩
abbrev main_call12_v0 : Ref sig .tc := ⟨.hbm, 347, rfl⟩
abbrev main_v178 : Ref sig .tc := ⟨.hbm, 348, rfl⟩
abbrev main_v179 : Ref sig .tc := ⟨.hbm, 349, rfl⟩
abbrev main_v180 : Ref sig .tc := ⟨.hbm, 350, rfl⟩
abbrev main_v181 : Ref sig .tc := ⟨.hbm, 351, rfl⟩
abbrev main_v182 : Ref sig .tc := ⟨.hbm, 352, rfl⟩
abbrev main_cst_43 : Ref sig .tc := ⟨.hbm, 353, rfl⟩
abbrev main_v183 : Ref sig .tc := ⟨.hbm, 354, rfl⟩
abbrev main_cst_44 : Ref sig .tc := ⟨.hbm, 355, rfl⟩
abbrev main_v184 : Ref sig .tc := ⟨.hbm, 356, rfl⟩
abbrev main_cst_45 : Ref sig .tc := ⟨.hbm, 357, rfl⟩
abbrev main_v185 : Ref sig .tc := ⟨.hbm, 358, rfl⟩
abbrev main_v186 : Ref sig .tc := ⟨.hbm, 359, rfl⟩
abbrev main_v187 : Ref sig .tc := ⟨.hbm, 360, rfl⟩
abbrev main_call13_cst : Ref sig .tc := ⟨.hbm, 361, rfl⟩
abbrev main_call13_v0 : Ref sig .tc := ⟨.hbm, 362, rfl⟩
abbrev main_v188 : Ref sig .tc := ⟨.hbm, 363, rfl⟩
abbrev main_call14_cst : Ref sig .tc := ⟨.hbm, 364, rfl⟩
abbrev main_call14_v0 : Ref sig .tc := ⟨.hbm, 365, rfl⟩
abbrev main_v189 : Ref sig .tc := ⟨.hbm, 366, rfl⟩
abbrev main_v190 : Ref sig .tc := ⟨.hbm, 367, rfl⟩
abbrev main_call15_cst : Ref sig .tc := ⟨.hbm, 368, rfl⟩
abbrev main_call15_v0 : Ref sig .tc := ⟨.hbm, 369, rfl⟩
abbrev main_v191 : Ref sig .tc := ⟨.hbm, 370, rfl⟩
abbrev main_v192 : Ref sig .tc := ⟨.hbm, 371, rfl⟩

abbrev nD : Nat := 1
abbrev τ : Topo := Topo.v7x

variable {F : FTy → Type} [FloatOps F]
-- ==== Proof.Spec.lean ====
/-
  What one tile of the SparseCore call leaves in its accumulator, as a pure function of the two rows of the edge list.
  A tile owns eight graphs. It walks its SparseCore's half of the edge list sixteen edges at a time; for each edge `(a, b)` whose
  source lies in one of its graphs it adds one at the two mirrored places `(a, b)` and `(b, a)` of that graph's block.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Adj

open Cert.KernelIdeal Cert.KernelIdeal.Gen
open Idealize.ShloMosaic

variable {F : FTy → Type} [FloatOps F]

/-! ## One lane -/

/-- The graph of a node, as the body computes it: `(a * 5243) >>> 19`. -/
def gr (a : BitVec 32) : BitVec 32 := IntOp.shrui .vector (IntOp.muli a 5243#32) 19#32
/-- The graph counted from the tile's first graph `v`. -/
def rel (v a : BitVec 32) : BitVec 32 := gr a - v
/-- Whether the tile owns the source's graph. -/
def own (v a : BitVec 32) : BitVec 1 := IntOp.andi (IntOp.cmpi .sge (rel v a) 0#32) (IntOp.cmpi .slt (rel v a) 8#32)
/-- Where the graph's block starts in the accumulator (the first block for an edge the tile does not own). -/
def blk (v a : BitVec 32) : BitVec 32 := Scalar.select (own v a) (rel v a) 0#32 * 12800#32
/-- The node's number inside its graph, and the other endpoint's. -/
def srem (a : BitVec 32) : BitVec 32 := a - gr a * 100#32
def trem (a b : BitVec 32) : BitVec 32 := b - gr a * 100#32
/-- The element of the edge and the element of its mirror image. -/
def ixA (v a b : BitVec 32) : BitVec 32 := blk v a + srem a * 128#32 + trem a b
def ixB (v a b : BitVec 32) : BitVec 32 := blk v a + trem a b * 128#32 + srem a

theorem pay5_eq (v : BitVec 32) (a : Vec F S16 .i32) : k0_pay5 (F := F) v a = fun x => own v (a x) := rfl
theorem pay7_eq (v : BitVec 32) (a b : Vec F S16 .i32) : k0_pay7 (F := F) v a b = fun x => ixA v (a x) (b x) := rfl
theorem pay8_eq (v : BitVec 32) (a b : Vec F S16 .i32) : k0_pay8 (F := F) v a b = fun x => ixB v (a x) (b x) := rfl

/-! ## An edge whose endpoints are nodes of one graph -/

/-- Both endpoints are nodes of one graph of the batch. -/
def EdgeOK (a b : BitVec 32) : Prop :=
  a.toNat < 10000 ∧ a.toNat / 100 * 100 ≤ b.toNat ∧ b.toNat < a.toNat / 100 * 100 + 100

theorem gr_table : ∀ n : Fin 10000, n.val * 5243 / 524288 = n.val / 100 := by decide +kernel

theorem gr_toNat {a : BitVec 32} (h : a.toNat < 10000) : (gr a).toNat = a.toNat / 100 := by
  have h1 : (gr a).toNat = a.toNat * 5243 % 4294967296 / 524288 := by
    simp [gr, IntOp.shrui, IntOp.muli, BitVec.toNat_mul, Nat.shiftRight_eq_div_pow]
  rw [h1, Nat.mod_eq_of_lt (by omega)]
  exact gr_table ⟨a.toNat, h⟩

theorem own_iff {a : BitVec 32} (h : a.toNat < 10000) {s : ℕ} (hs : s < 13) :
    own (BitVec.ofNat 32 (8 * s)) a = 1#1 ↔ a.toNat / 100 / 8 = s := by
  have hg := gr_toNat h
  have hr : (rel (BitVec.ofNat 32 (8 * s)) a).toNat = (4294967296 - 8 * s + a.toNat / 100) % 4294967296 := by
    simp only [rel, BitVec.toNat_sub, hg, BitVec.toNat_ofNat]
    have : 8 * s % 2 ^ 32 = 8 * s := by omega
    rw [this]
  have e1 : (0#32).sle (rel (BitVec.ofNat 32 (8 * s)) a) = decide (8 * s ≤ a.toNat / 100) := by
    rw [BitVec.sle_eq_decide]
    simp only [BitVec.toInt_eq_toNat_cond, hr, BitVec.toNat_ofNat]
    apply decide_eq_decide.mpr
    split <;> split <;> omega
  have e2 : 8 * s ≤ a.toNat / 100 → (rel (BitVec.ofNat 32 (8 * s)) a).slt 8#32 = decide (a.toNat / 100 < 8 * s + 8) := by
    intro hle
    rw [BitVec.slt_eq_decide]
    simp only [BitVec.toInt_eq_toNat_cond, hr, BitVec.toNat_ofNat]
    apply decide_eq_decide.mpr
    split <;> split <;> omega
  simp only [own, IntOp.andi, IntOp.cmpi, e1]
  by_cases hle : 8 * s ≤ a.toNat / 100
  · rw [e2 hle]
    simp only [hle, decide_true]
    by_cases hlt : a.toNat / 100 < 8 * s + 8
    · simp only [hlt, decide_true]
      exact ⟨fun _ => by omega, fun _ => rfl⟩
    · simp only [hlt, decide_false]
      exact ⟨fun hc => absurd hc (by decide), fun hc => by omega⟩
  · simp only [hle, decide_false]
    constructor
    · intro hc
      exfalso
      cases hb : (rel (BitVec.ofNat 32 (8 * s)) a).slt 8#32 <;> rw [hb] at hc <;> exact absurd hc (by decide)
    · intro hc; omega

theorem blk_toNat {a : BitVec 32} (h : a.toNat < 10000) {s : ℕ} (hs : s < 13) :
    (blk (BitVec.ofNat 32 (8 * s)) a).toNat = if a.toNat / 100 / 8 = s then (a.toNat / 100 - 8 * s) * 12800 else 0 := by
  have hg := gr_toNat h
  by_cases ho : a.toNat / 100 / 8 = s
  · have h1 := (own_iff h hs).mpr ho
    have hr : (rel (BitVec.ofNat 32 (8 * s)) a).toNat = a.toNat / 100 - 8 * s := by
      simp only [rel, BitVec.toNat_sub, hg, BitVec.toNat_ofNat]
      omega
    rw [if_pos ho]
    simp only [blk, h1, Scalar.select]
    simp only [BitVec.toNat_mul, BitVec.toNat_ofNat]
    rw [show (if (1#1 : BitVec 1) = 1 then rel (BitVec.ofNat 32 (8 * s)) a else 0#32) = rel (BitVec.ofNat 32 (8 * s)) a from if_pos rfl, hr]
    omega
  · have h1 : ¬ own (BitVec.ofNat 32 (8 * s)) a = 1#1 := fun hc => ho ((own_iff h hs).mp hc)
    rw [if_neg ho]
    simp only [blk, Scalar.select]
    rw [show (if own (BitVec.ofNat 32 (8 * s)) a = 1 then rel (BitVec.ofNat 32 (8 * s)) a else 0#32) = 0#32 from if_neg h1]
    rfl

theorem srem_toNat {a : BitVec 32} (h : a.toNat < 10000) : (srem a).toNat = a.toNat % 100 := by
  have hg := gr_toNat h
  simp only [srem, BitVec.toNat_sub, BitVec.toNat_mul, hg, BitVec.toNat_ofNat]
  omega

theorem trem_toNat {a b : BitVec 32} (h : EdgeOK a b) : (trem a b).toNat = b.toNat - a.toNat / 100 * 100 := by
  obtain ⟨h0, h1, h2⟩ := h
  have hg := gr_toNat h0
  simp only [trem, BitVec.toNat_sub, BitVec.toNat_mul, hg, BitVec.toNat_ofNat]
  omega

/-- The base of the block the edge is added in. -/
def blkN (s : ℕ) (a : BitVec 32) : ℕ := if a.toNat / 100 / 8 = s then (a.toNat / 100 - 8 * s) * 12800 else 0

theorem blkN_le {a : BitVec 32} (h : a.toNat < 10000) {s : ℕ} : blkN s a ≤ 89600 := by
  unfold blkN; split <;> omega

theorem ixA_toNat {a b : BitVec 32} (h : EdgeOK a b) {s : ℕ} (hs : s < 13) :
    (ixA (BitVec.ofNat 32 (8 * s)) a b).toNat = blkN s a + a.toNat % 100 * 128 + (b.toNat - a.toNat / 100 * 100) := by
  have e1 : (blk (BitVec.ofNat 32 (8 * s)) a).toNat = blkN s a := blk_toNat h.1 hs
  have e2 := srem_toNat h.1
  have e3 := trem_toNat h
  have e4 := blkN_le h.1 (s := s)
  obtain ⟨h0, h1, h2⟩ := h
  simp only [ixA, BitVec.toNat_add, BitVec.toNat_mul, e1, e2, e3, BitVec.toNat_ofNat]
  omega

theorem ixB_toNat {a b : BitVec 32} (h : EdgeOK a b) {s : ℕ} (hs : s < 13) :
    (ixB (BitVec.ofNat 32 (8 * s)) a b).toNat = blkN s a + (b.toNat - a.toNat / 100 * 100) * 128 + a.toNat % 100 := by
  have e1 : (blk (BitVec.ofNat 32 (8 * s)) a).toNat = blkN s a := blk_toNat h.1 hs
  have e2 := srem_toNat h.1
  have e3 := trem_toNat h
  have e4 := blkN_le h.1 (s := s)
  obtain ⟨h0, h1, h2⟩ := h
  simp only [ixB, BitVec.toNat_add, BitVec.toNat_mul, e1, e2, e3, BitVec.toNat_ofNat]
  omega

theorem ixA_lt {a b : BitVec 32} (h : EdgeOK a b) {s : ℕ} (hs : s < 13) : (ixA (BitVec.ofNat 32 (8 * s)) a b).toNat < 102400 := by
  rw [ixA_toNat h hs]
  have e4 := blkN_le h.1 (s := s)
  obtain ⟨h0, h1, h2⟩ := h
  omega

theorem ixB_lt {a b : BitVec 32} (h : EdgeOK a b) {s : ℕ} (hs : s < 13) : (ixB (BitVec.ofNat 32 (8 * s)) a b).toNat < 102400 := by
  rw [ixB_toNat h hs]
  have e4 := blkN_le h.1 (s := s)
  obtain ⟨h0, h1, h2⟩ := h
  omega

/-! ## Sixteen lanes, and a tile's whole walk -/

/-- A masked indexed addition of ones, lanes in ascending order. -/
def lanes (g : Vec F S102400 .f32) (ix : IVec S16 32) (mask : IVec S16 1) : Vec F S102400 .f32 :=
  (List.finRange 16).foldl (fun g (k : Fin 16) =>
    if mask (Shape.ofLane (d := ![16]) k) = 1 then
      fun j => if (j 0).val = (ix (Shape.ofLane (d := ![16]) k)).toNat then Elt.idxAdd .f32 (g j) (k0_pay82 (F := F) (Shape.ofLane (d := ![16]) k)) else g j
    else g) g

theorem storeIdx_eq (g : Vec F S102400 .f32) (ix : IVec S16 32) (mask : IVec S16 1)
    (h : ∀ a x, ((![ix] : Fin 1 → IVec S16 32) a x).toNat < S102400.size a) :
    storeIdx (s := S102400) (e := .f32) (d := ![16]) g ![ix] (k0_pay82 (F := F)) mask true h = lanes g ix mask := by
  unfold storeIdx lanes
  show List.foldl _ g (List.finRange 16) = List.foldl _ g (List.finRange 16)
  congr 1
  funext g k
  by_cases hm : mask (Shape.ofLane (d := ![16]) k) = 1
  · simp only [hm, if_true]
    funext j
    have key : (∀ a, (j a).val = (idxAt (s := S102400) ![ix] h (Shape.ofLane (d := ![16]) k) a).val) ↔ (j 0).val = (ix (Shape.ofLane (d := ![16]) k)).toNat := by
      constructor
      · intro h'; exact h' 0
      · intro h' a; obtain rfl : a = 0 := Subsingleton.elim _ _; exact h'
    by_cases hj : (j 0).val = (ix (Shape.ofLane (d := ![16]) k)).toNat
    · rw [if_pos (key.mpr hj), if_pos hj]
      congr 2
      funext a
      exact (Fin.ext (key.mpr hj a)).symm
    · rw [if_neg (fun hc => hj (key.mp hc)), if_neg hj]
  · simp only [hm, if_false]

/-- Sixteen edges: first their elements, then the mirror images. -/
def vecStep (v : BitVec 32) (g : Vec F S102400 .f32) (a b : IVec S16 32) : Vec F S102400 .f32 :=
  lanes (lanes g (fun x => ixA v (a x) (b x)) (fun x => own v (a x))) (fun x => ixB v (a x) (b x)) (fun x => own v (a x))

/-- Word `n` of a row of the edge list (zero beyond its end). -/
def wordAt (f : S320000.Idx → BitVec 32) (n : ℕ) : BitVec 32 :=
  if h : n < 320000 then f (fun a => (⟨n, h⟩ : Fin 320000).cast (by rw [Fin.eq_zero a]; rfl)) else 0#32

/-- The chunk of 4000 words, and the vector of 16 words, that starts at word `n`. -/
def chunkOf (f : S320000.Idx → BitVec 32) (n : ℕ) : S4000.Idx → BitVec 32 := fun j => wordAt f (n + (j 0).val)
def vecOf (f : S320000.Idx → BitVec 32) (n : ℕ) : IVec S16 32 := fun x => wordAt f (n + (x 0).val)

/-- Every element of the accumulator after the zeroing loop. -/
def zeroE : F .f32 := Scalar.ofBits .f32 0x00000000#32

/-- The accumulator after the first `n` vectors of the walk that starts at word `base`. -/
def accAt (v : BitVec 32) (src dst : S320000.Idx → BitVec 32) (base : ℕ) : ℕ → Vec F S102400 .f32
  | 0 => fun _ => zeroE
  | n + 1 => vecStep v (accAt v src dst base n) (vecOf src (base + 16 * n)) (vecOf dst (base + 16 * n))

/-- Every edge of the list is one. -/
def EdgesOK (src dst : S320000.Idx → BitVec 32) : Prop := ∀ n, n < 320000 → EdgeOK (wordAt src n) (wordAt dst n)

/-- What the whole of SparseCore `c`'s result holds: its block `s` is tile `s`'s accumulator after the walk over half `c` of the edge list. -/
def outVal (src dst : S320000.Idx → BitVec 32) (c : ℕ) : Vec F S1331200 .f32 := fun j =>
  accAt (F := F) (BitVec.ofNat 32 (8 * ((j 0).val / 102400))) src dst (160000 * c) 10000
    (fun a => (⟨(j 0).val % 102400, Nat.mod_lt _ (by decide)⟩ : Fin 102400).cast (by rw [Fin.eq_zero a]; rfl))

end Cert.Proof.Adj
-- ==== Proof.Setup.lean ====
/-
  The launch of the SparseCore call: the program as the launch theorem sees it, the resource algebra, the places of the arrays, and
  what the handshakes carry. Each SparseCore is handed a read share of the two rows of the edge list and the whole of its own result;
  each of its sixteen tiles a read share of the rows and its own block of the result (the last three tiles an empty one).
-/
module

public import proofs.«01_k».proof.Proof.Spec
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 16384

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the rounds of the TensorCore pipeline's staging cells, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

instance EP_landsIn : (EP (F := F)).LandsIn (upEmb : UEmb _ (MT nD τ sig (HIx 1) (Elt F) ℕ UU ℕ)) := by
  unfold EP embR; infer_instance

/-! ## The arrays -/

/-- The sources, the destinations and the two results, as locations of device `d`. -/
abbrev sLoc (d : Dev nD) : Loc nD τ sig := (SparseCore.T d).loc main_v1
abbrev tLoc (d : Dev nD) : Loc nD τ sig := (SparseCore.T d).loc main_v3
abbrev o0Loc (d : Dev nD) : Loc nD τ sig := (SparseCore.T d).loc main_v4_0
abbrev o1Loc (d : Dev nD) : Loc nD τ sig := (SparseCore.T d).loc main_v4_1

/-- Block `i` of a result. -/
def blkSet (i : ℕ) : Finset S1331200.Idx := Finset.univ.filter fun j => (j 0).val / 102400 = i

/-- Elements `I` of SparseCore `c`'s result hold `f`. -/
def outPts (d : Dev nD) (c : ℕ) (I : Finset S1331200.Idx) (f : Vec F S1331200 .f32) : sProp 𝕄 :=
  if c = 0 then o0Loc d ↦[I]{fullShare} f else o1Loc d ↦[I]{fullShare} f

instance outPts_storable (d : Dev nD) (c : ℕ) (I : Finset S1331200.Idx) (f : Vec F S1331200 .f32) :
    BI.Storable (upEmb : UEmb _ 𝕄) (outPts (F := F) d c I f) := by
  unfold outPts; split <;> infer_instance

/-- What a result holds before the call. -/
def outInit (m : (ℓ : Loc nD τ sig) → Buf (Elt F) ℓ) (d : Dev nD) (c : ℕ) : Vec F S1331200 .f32 :=
  if c = 0 then m (o0Loc d) else m (o1Loc d)

/-- A SparseCore's share of the edge list, and a tile's. -/
def qC (c : ℕ) : PosShare TreeShare := Transfers.shareTokN fullShare c
def qT (c i : ℕ) : PosShare TreeShare := Transfers.shareTokN (qC c) i

variable (m : (ℓ : Loc nD τ sig) → Buf (Elt F) ℓ) (sE dE : Dev nD → S320000.Idx → BitVec 32)

variable [FloatOps F]

/-! ## What the handshakes carry -/

def stP (d : Dev nD) (c : ℕ) : sProp 𝕄 :=
  iprop((sLoc d ↦{qC c} (sE d : Buf (Elt F) (sLoc d))) ∗ (tLoc d ↦{qC c} (dE d : Buf (Elt F) (tLoc d))) ∗ outPts d c Finset.univ (outInit m d c))
def dnP (d : Dev nD) (c : ℕ) : sProp 𝕄 := outPts d c Finset.univ (outVal (sE d) (dE d) c)
def goP (d : Dev nD) (c i : ℕ) : sProp 𝕄 :=
  iprop((sLoc d ↦{qT c i} (sE d : Buf (Elt F) (sLoc d))) ∗ (tLoc d ↦{qT c i} (dE d : Buf (Elt F) (tLoc d))) ∗ outPts d c (blkSet i) (outInit m d c))
def tdP (d : Dev nD) (c i : ℕ) : sProp 𝕄 := outPts d c (blkSet i) (outVal (sE d) (dE d) c)

def P : (K (F := F)).Pay (nD := nD) (Val := Elt F) (Name := ℕ) (U := UU) where
  st := fun _ d c => stP m sE dE d c.val
  dn := fun _ d c => dnP sE dE d c.val
  go := fun _ d c i => goP m sE dE d c.val i.val
  td := fun _ d c i => tdP sE dE d c.val i.val
  x := fun _ _ => iprop(emp)

instance P_storable : (P (F := F) m sE dE).IsStorable where
  st _ d c := by
    show BI.Storable (upEmb : UEmb _ 𝕄) (stP m sE dE d c.val)
    unfold stP; infer_instance
  dn _ d c := by
    show BI.Storable (upEmb : UEmb _ 𝕄) (dnP sE dE d c.val)
    unfold dnP; infer_instance
  go _ d c i := by
    show BI.Storable (upEmb : UEmb _ 𝕄) (goP m sE dE d c.val i.val)
    unfold goP; infer_instance
  td _ d c i := by
    show BI.Storable (upEmb : UEmb _ 𝕄) (tdP sE dE d c.val i.val)
    unfold tdP; infer_instance

end Cert.Proof.Adj
-- ==== Proof.Ops.lean ====
/-
  The memory operations of a tile's body, each as one step over a buffer held at what its view reads: a load, a store, an indexed
  addition, and a local copy of a stretch of the edge list from its issue to its wait.
-/
module

public import proofs.«01_k».proof.Proof.Setup

@[expose] public section

set_option maxRecDepth 16384

noncomputable section

namespace Cert.Proof.Adj

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EC : UEmb Counters 𝕄 := countersEmb (U := UU)

abbrev cV (L : grid0.Coords) : Fin τ.nSC := (L 0).castLE hcore0
abbrev jV (L : grid0.Coords) : Fin τ.nSub := (L 1).castLE hsub0
/-- The tile at coordinates `L` of device `d`. -/
abbrev thr (d : Dev nD) (L : grid0.Coords) : Thread nD τ := V d (cV L) (jV L)

variable (d : Dev nD) (L : grid0.Coords)

/-- The memref's elements, held at share `q`, read `w`. -/
def Holds {sp : Space} {s : Shape} {e : EltTy} (v : Memref sig .scVector sp s e) (q : PosShare TreeShare) (w : s.Idx → Elt F e) : sProp 𝕄 :=
  iprop(∃ f : Buf (Elt F) (v.view.loc (thr d L)), ⌜v.view.read (Elt F) f = w⌝ ∗ (v.view.loc (thr d L) ↦[v.view.set]{q} f))

abbrev WP {α : Type} (p : Prog (TpuEff nD τ sig (Elt F) Λ₀ (thr d L).2) α) (Q : α → sProp 𝕄) : sProp 𝕄 :=
  wp frame (wpE (defs₀ (F := F)) 𝒱₀ (thr d L) none) Set.univ p Q

theorem step_load {α : Type} {Φ : α → sProp 𝕄} {sp : CoreSpace} {s : Shape} {e : EltTy} (v : Memref sig .scVector sp s e) (q : PosShare TreeShare) (w : s.Idx → Elt F e)
    {r : Rect s} {hl : v.view.LoadsAt r.toLoadRect} {k : (r.toLoadRect.shape.Idx → Elt F e) → Prog (TpuEff nD τ sig (Elt F) Λ₀ (thr d L).2) α} :
    Holds (F := F) d L v q w ⊢ iprop((Holds d L v q w -∗ WP d L (k (fun x => w (r.toLoadRect.idx x))) Φ) -∗ WP d L (.op (.load v r.toLoadRect hl) k) Φ) := by
  unfold Holds
  iintro ⟨%f, %hf, H⟩ Hk
  iapply (wp_load 𝒱₀ (thr d L) none Set.univ (m := v) (S := v.view.set) (v.view.setOn_subset_set _)) $$ H
  iintro H
  rw [show v.view.readAt (Elt F) r.toLoadRect f = fun x => w (r.toLoadRect.idx x) from by rw [← hf]; rfl]
  iapply Hk
  iexists f
  isplitr; · ipureintro; exact hf
  iexact H

theorem step_store {α : Type} {Φ : α → sProp 𝕄} {sp : CoreSpace} {s : Shape} {e : EltTy} (v : Memref sig .scVector sp s e) (w w' : s.Idx → Elt F e)
    {r : Rect s} {u : r.shape.Idx → Elt F e} {hx : (v.access r).Stores Finset.univ} {hm : (Finset.univ : Finset r.shape.Idx) = Finset.univ ∨ ∀ a, r.stride a = 1}
    {k : PUnit → Prog (TpuEff nD τ sig (Elt F) Λ₀ (thr d L).2) α}
    (h1 : ∀ x, w' (r.emb x) = u x) (h2 : ∀ y, y ∉ r.set → w' y = w y) :
    Holds (F := F) d L v fullShare w ⊢ iprop((Holds d L v fullShare w' -∗ WP d L (k ⟨⟩) Φ) -∗ WP d L (.op (.store v r u Finset.univ hx hm) k) Φ) := by
  unfold Holds
  iintro ⟨%f, %hf, H⟩ Hk
  iapply (wp_store 𝒱₀ (thr d L) none Set.univ (m := v) (r := r) (Mk := Finset.univ) (S := v.view.set) (f := f)
    (View.set_slice_subset _ _)) $$ H
  iintro H
  iapply Hk
  iexists _
  isplitr
  swap; · iexact H
  ipureintro
  funext y
  by_cases hy : y ∈ r.set
  · rw [← Rect.map_emb_univ] at hy
    obtain ⟨x, -, rfl⟩ := Finset.mem_map.mp hy
    rw [h1]
    exact View.read_slice_write_emb (v := v.view) r f u (Finset.mem_univ x)
  · rw [h2 y hy, ← hf]
    refine View.read_slice_write_of_not_mem (v := v.view) r f u Finset.univ ?_
    rw [Rect.map_emb_univ]; exact hy

theorem step_idx {α : Type} {Φ : α → sProp 𝕄} {s : Shape} {e : EltTy} (v : Memref sig .scVector .vmem s e) (g : s.Idx → Elt F e)
    {dd : Fin 1 → Nat} {idxs : Fin s.rank → IVec ⟨1, dd⟩ 32} {u : Vec F ⟨1, dd⟩ e}
    {mask : IVec ⟨1, dd⟩ 1} {add : Bool} {h : ∀ a x, (idxs a x).toNat < s.size a} {hs : (v.access (.whole s)).Stores Finset.univ}
    {k : PUnit → Prog (TpuEff nD τ sig (Elt F) Λ₀ (thr d L).2) α} :
    Holds (F := F) d L v fullShare g
      ⊢ iprop((Holds d L v fullShare (storeIdx g idxs u mask add h) -∗ WP d L (k ⟨⟩) Φ)
        -∗ WP d L (SparseCore.vectorStoreIdx v idxs u mask add h hs >>= k) Φ) := by
  unfold Holds
  iintro ⟨%f, %hf, H⟩ Hk
  have hset : (v.access (.whole s)).set = v.view.set := by
    show (v.view.slice (.whole s)).set = _
    rw [View.set_slice, Rect.set_whole]; rfl
  have hread : (v.access (.whole s)).read (Elt F) f = g := by
    rw [← hf]; funext x
    show _root_.cast _ (f (v.view.emb ((Rect.whole s).emb x))) = _root_.cast _ (f (v.view.emb x))
    rw [Rect.emb_whole_apply]
  ihave H' := (Entails.of_eq (show (v.view.loc (thr d L) ↦[v.view.set]{fullShare} f : sProp 𝕄)
      = ((v.access (.whole s)).loc (thr d L) ↦[(v.access (.whole s)).set]{fullShare} f) by rw [hset])) $$ H
  iapply (SparseCore.wp_vectorStoreIdx 𝒱₀ (thr d L) none Set.univ (base := v)) $$ H'
  iintro H
  iapply Hk
  rw [hread, hset]
  iexists _
  isplitr
  swap; · iexact H
  ipureintro
  funext y
  have := View.read_slice_write_emb (Val := Elt F) (v := v.view) (Rect.whole s) f (storeIdx g idxs u mask add h) (Finset.mem_univ y)
  rw [Rect.emb_whole_apply] at this
  exact this

/-! ## A copy between its issue and its wait -/

/-- The copy in flight: at its wait the buffer reads `w` and the read share of the edge list is back. -/
def InFl (src : Memref sig .scVector .hbm S320000 .i32) (b : Memref sig .scVector .vmem S4000 .i32) (sm : DmaSem sig) (q : PosShare TreeShare)
    (sE : S320000.Idx → BitVec 32) (n : ℕ) : sProp 𝕄 :=
  iprop(∃ D R : sProp 𝕄, Transfers.Flight (EC (F := F)) (thr d L) (.dma sm) (default : HIx 1) b.view.dmaCredit D ∗ R
    ∗ ⌜iprop(D ∗ R) ⊢ iprop(Holds d L b fullShare (chunkOf sE n : S4000.Idx → Elt F .i32) ∗ Holds d L src q (sE : S320000.Idx → Elt F .i32))⌝)

theorem chunk_read (src : Memref sig .scVector .hbm S320000 .i32) (sE : S320000.Idx → BitVec 32) (off : Fin 1 → Nat)
    (inb : ∀ a, off a + S4000.size a ≤ S320000.size a) (n : ℕ) (hn : off 0 = n)
    (f : src.view.ty.Contents (Elt F)) (hf : src.view.read (Elt F) f = (sE : S320000.Idx → Elt F .i32)) :
    (src.slice (Rect.unit (s := S320000) off S4000.size inb) (fun _ => rfl)).view.read (Elt F) f = (chunkOf sE n : S4000.Idx → Elt F .i32) := by
  funext x
  have hx : (x 0).val < 4000 := (x 0).isLt
  have hb : n + 4000 ≤ 320000 := by have := inb 0; rw [hn] at this; exact this
  have h0 : n + (x 0).val < 320000 := by omega
  show src.view.read (Elt F) f ((Rect.unit (s := S320000) off S4000.size inb).emb x) = wordAt sE (n + (x 0).val)
  rw [hf, wordAt, dif_pos h0]
  congr 1
  funext a
  apply Fin.ext
  obtain rfl : a = 0 := Subsingleton.elim _ _
  show off 0 + 1 * (x 0).val = n + (x 0).val
  omega

theorem step_start {α : Type} {Φ : α → sProp 𝕄} (src : Memref sig .scVector .hbm S320000 .i32) (b : Memref sig .scVector .vmem S4000 .i32) (sm : DmaSem sig) (q : PosShare TreeShare)
    (sE : S320000.Idx → BitVec 32) (n : ℕ) (ch : S4000.Idx → Elt F .i32)
    {off : Fin 1 → Nat} {inb : ∀ a, off a + S4000.size a ≤ S320000.size a} (hn : off 0 = n)
    {hsrc : (src.slice (Rect.unit (s := S320000) off S4000.size inb) (fun _ => rfl)).view.WordExact} {hdst : b.view.WordExact}
    {hsem : DmaTarget.Typed (nD := nD) .hbm (.dma sm) (.here (p := (thr d L).2) b)}
    {k : PUnit → Prog (TpuEff nD τ sig (Elt F) Λ₀ (thr d L).2) α} :
    iprop(Holds d L src q (sE : S320000.Idx → Elt F .i32) ∗ Holds (F := F) d L b fullShare ch ∗ semVal (thr d L, .dma sm) 0)
      ⊢ iprop((InFl d L src b sm q sE n -∗ WP d L (k ⟨⟩) Φ)
        -∗ WP d L (.op (.enqueueDma (src.slice (Rect.unit (s := S320000) off S4000.size inb) (fun _ => rfl)) (.here b) (.dma sm) hsrc hdst hsem) k) Φ) := by
  unfold Holds
  iintro ⟨⟨%f, %hf, Hs⟩, ⟨%g, %hg, Hb⟩, Hv⟩ Hk
  ihave Hs' := (pointsTo_split_subset (ℓ := src.view.loc (thr d L)) (q := q) (f := f)
    (show (src.slice (Rect.unit (s := S320000) off S4000.size inb) (fun _ => rfl)).view.set ⊆ src.view.set from View.set_slice_subset _ _)).1 $$ Hs
  icases Hs' with ⟨Hs, Hr⟩
  iapply (Transfers.wp_dmaLocal (EC (F := F)) 𝒱₀ (thr d L) none (src := src.slice (Rect.unit (s := S320000) off S4000.size inb) (fun _ => rfl)) (dst := b)
      (sm := .dma sm) (default : HIx 1) b.view.dmaCredit rfl (View.dmaCredit_pos _ (by decide)) (Sd := b.view.set) subset_rfl) $$ [Hs Hb Hv]
  · isplitl [Hs]; · iexact Hs
    isplitl [Hb]; · iexact Hb
    iexact Hv
  iintro Hfl
  iapply Hk
  unfold InFl
  iexists _, _
  isplitl [Hfl]; · iexact Hfl
  isplitl [Hr]; · iexact Hr
  ipureintro
  iintro ⟨⟨Hb, Hs⟩, Hr⟩
  unfold Holds
  isplitl [Hb]
  · iexists _
    isplitr
    swap; · iexact Hb
    ipureintro
    rw [View.read_write_univ]
    exact chunk_read src sE off inb n hn f hf
  · iexists f
    isplitr; · ipureintro; exact hf
    iapply (pointsTo_split_subset (ℓ := src.view.loc (thr d L)) (q := q) (f := f)
      (show (src.slice (Rect.unit (s := S320000) off S4000.size inb) (fun _ => rfl)).view.set ⊆ src.view.set from View.set_slice_subset _ _)).2
    isplitl [Hs]; · iexact Hs
    iexact Hr

theorem step_wait {α : Type} {Φ : α → sProp 𝕄} (src : Memref sig .scVector .hbm S320000 .i32) (b : Memref sig .scVector .vmem S4000 .i32) (sm : DmaSem sig) (q : PosShare TreeShare)
    (sE : S320000.Idx → BitVec 32) (n : ℕ) {O : CellTallies nD τ sig (HIx 1)} {W : Waits sig (HIx 1)}
    {sp' : Space} {s' : Shape} {e' : EltTy} {srcw : Memref sig .scVector sp' s' e'} {hsrc : srcw.view.WordExact} {hdst : b.view.WordExact}
    {k : PUnit → Prog (TpuEff nD τ sig (Elt F) Λ₀ (thr d L).2) α} :
    iprop(InFl (F := F) d L src b sm q sE n ∗ owes (thr d L) O W ∗ Transfers.MayWaits (thr d L) (default : HIx 1) O)
      ⊢ iprop((iprop(Holds d L b fullShare (chunkOf sE n : S4000.Idx → Elt F .i32) ∗ Holds d L src q (sE : S320000.Idx → Elt F .i32)
            ∗ semVal (thr d L, .dma sm) 0 ∗ owes (thr d L) O (insert (SemLoc.dma sm, (default : HIx 1)) W)) -∗ WP d L (k ⟨⟩) Φ)
        -∗ WP d L (.op (.waitDma2 sm srcw b hsrc hdst) k) Φ) := by
  unfold InFl
  iintro ⟨⟨%D, %R, Hfl, HR, %hD⟩, HO, Hmw⟩ Hk
  iapply (Transfers.wp_waitLocalO (EC (F := F)) 𝒱₀ (thr d L) none (dstw := b) (default : HIx 1) rfl) $$ [Hfl HO Hmw]
  · isplitl [Hfl]; · iexact Hfl
    isplitl [HO]; · iexact HO
    iapply (Transfers.MayWaits.elim (.dma sm)); iexact Hmw
  iintro ⟨HD, Hv, HO⟩
  iapply Hk
  ihave HB := hD $$ [HD HR]
  · isplitl [HD]; · iexact HD
    iexact HR
  icases HB with ⟨Hb, Hs⟩
  isplitl [Hb]; · iexact Hb
  isplitl [Hs]; · iexact Hs
  isplitl [Hv]; · iexact Hv
  iexact HO

end Cert.Proof.Adj
-- ==== Proof.Steps.lean ====
/-
  The two steps a tile repeats: sixteen elements of the accumulator zeroed, and sixteen edges added to it.
-/
module

public import proofs.«01_k».proof.Proof.Ops

@[expose] public section

set_option maxRecDepth 16384

noncomputable section

namespace Cert.Proof.Adj

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The accumulator is zero below element `n`. -/
def ZeroTo (acc : Memref sig .scVector .vmem S102400 .f32) (n : ℕ) : sProp 𝕄 :=
  iprop(∃ w : S102400.Idx → Elt F .f32, ⌜∀ y, (y 0).val < n → w y = zeroE (F := F)⌝ ∗ Holds d L acc fullShare w)

theorem step_zero {α : Type} {Φ : α → sProp 𝕄} (acc : Memref sig .scVector .vmem S102400 .f32) (n : ℕ)
    {off off' : Fin 1 → Nat} {inb : ∀ a, off a + S16.size a ≤ S102400.size a} {inb' : ∀ a, off' a + S16.size a ≤ S102400.size a} (hn : off' 0 = n)
    {hl : acc.view.LoadsAt (Rect.unit (s := S102400) off S16.size inb).toLoadRect}
    {hx : (acc.access (Rect.unit (s := S102400) off' S16.size inb')).Stores Finset.univ}
    {hm : (Finset.univ : Finset (Rect.unit (s := S102400) off' S16.size inb').shape.Idx) = Finset.univ ∨ ∀ a, (Rect.unit (s := S102400) off' S16.size inb').stride a = 1}
    {k : PUnit → Prog (TpuEff nD τ sig (Elt F) Λ₀ (thr d L).2) α} :
    ZeroTo (F := F) d L acc n ⊢ iprop((ZeroTo d L acc (n + 16) -∗ WP d L (k ⟨⟩) Φ)
      -∗ WP d L (.op (.load acc (Rect.unit (s := S102400) off S16.size inb).toLoadRect hl) fun _ =>
        .op (.store acc (Rect.unit (s := S102400) off' S16.size inb') (k0_pay81 (F := F)) Finset.univ hx hm) k) Φ) := by
  unfold ZeroTo
  iintro ⟨%w, %hw, H⟩ Hk
  iapply (step_load (F := F) d L acc fullShare w) $$ H
  iintro H
  iapply (step_store (F := F) d L acc w (fun y => if n ≤ (y 0).val ∧ (y 0).val < n + 16 then zeroE (F := F) else w y) ?h1 ?h2) $$ H
  case h1 =>
    intro x
    have hx0 : (x 0).val < 16 := (x 0).isLt
    have e : (((Rect.unit (s := S102400) off' S16.size inb').emb x) 0).val = n + (x 0).val := by
      show off' 0 + 1 * (x 0).val = n + (x 0).val
      omega
    show (if n ≤ (((Rect.unit (s := S102400) off' S16.size inb').emb x) 0).val ∧ (((Rect.unit (s := S102400) off' S16.size inb').emb x) 0).val < n + 16 then zeroE (F := F) else _) = zeroE (F := F)
    rw [if_pos (by omega)]
  case h2 =>
    intro y hy
    show (if _ then zeroE (F := F) else w y) = w y
    rw [if_neg]
    intro hc
    apply hy
    rw [← Rect.map_emb_univ]
    refine Finset.mem_map.mpr ⟨fun a => (⟨(y 0).val - n, by omega⟩ : Fin 16).cast (by rw [Fin.eq_zero a]; rfl), Finset.mem_univ _, ?_⟩
    funext a
    obtain rfl : a = 0 := Subsingleton.elim _ _
    apply Fin.ext
    show off' 0 + 1 * ((y 0).val - n) = (y 0).val
    omega
  iintro H
  iapply Hk
  iexists _
  isplitr
  swap; · iexact H
  ipureintro
  intro y hy
  show (if n ≤ (y 0).val ∧ (y 0).val < n + 16 then zeroE (F := F) else w y) = zeroE (F := F)
  split
  · rfl
  · exact hw y (by omega)

theorem vec_read (f : S320000.Idx → BitVec 32) (cb j : ℕ) {off : Fin 1 → Nat} {inb : ∀ a, off a + S16.size a ≤ S4000.size a} (hj : off 0 = j) :
    (fun x => chunkOf f cb ((Rect.unit (s := S4000) off S16.size inb).idx x)) = vecOf f (cb + j) := by
  funext x
  have e : (((Rect.unit (s := S4000) off S16.size inb).idx x) 0).val = j + (x 0).val := by
    show off 0 + 1 * (x 0).val = j + (x 0).val
    omega
  show wordAt f (cb + (((Rect.unit (s := S4000) off S16.size inb).idx x) 0).val) = wordAt f (cb + j + (x 0).val)
  rw [e, Nat.add_assoc]

/-- The three buffers an edge step works on: two chunks of the edge list and the accumulator after `n` vectors. -/
def Work (acc : Memref sig .scVector .vmem S102400 .f32) (bs bd : Memref sig .scVector .vmem S4000 .i32)
    (v : BitVec 32) (src dst : S320000.Idx → BitVec 32) (base cb n : ℕ) : sProp 𝕄 :=
  iprop(Holds d L bs fullShare (chunkOf src cb : S4000.Idx → Elt F .i32) ∗ Holds d L bd fullShare (chunkOf dst cb : S4000.Idx → Elt F .i32)
    ∗ Holds d L acc fullShare (accAt (F := F) v src dst base n))

theorem step_edges {α : Type} {Φ : α → sProp 𝕄} (acc : Memref sig .scVector .vmem S102400 .f32) (bs bd : Memref sig .scVector .vmem S4000 .i32)
    {s : ℕ} (hs : s < 13) {src dst : S320000.Idx → BitVec 32} (hE : EdgesOK src dst) {base cb n j : ℕ} (hcb : cb + j = base + 16 * n) (hlim : cb + j + 16 ≤ 320000)
    {off : Fin 1 → Nat} {inb inb' : ∀ a, off a + S16.size a ≤ S4000.size a} (hj : off 0 = j)
    {hl : bs.view.LoadsAt (Rect.unit (s := S4000) off S16.size inb).toLoadRect} {hl' : bd.view.LoadsAt (Rect.unit (s := S4000) off S16.size inb').toLoadRect}
    (p1 p2 : Vec F S16 .i32 → Vec F S16 .i32 → IVec S16 32) (p0 : Vec F S16 .i32 → IVec S16 1)
    (hp1 : ∀ a b, p1 a b = fun x => ixA (BitVec.ofNat 32 (8 * s)) (a x) (b x)) (hp2 : ∀ a b, p2 a b = fun x => ixB (BitVec.ofNat 32 (8 * s)) (a x) (b x))
    (hp0 : ∀ a, p0 a = fun x => own (BitVec.ofNat 32 (8 * s)) (a x))
    (C1 C2 : IVec S16 32 → Prop) {D1 : ∀ v, Decidable (C1 v)} {D2 : ∀ v, Decidable (C2 v)}
    (hC1 : ∀ v, (∀ a x, ((![v] : Fin 1 → IVec S16 32) a x).toNat < S102400.size a) → C1 v)
    (hC2 : ∀ v, (∀ a x, ((![v] : Fin 1 → IVec S16 32) a x).toNat < S102400.size a) → C2 v)
    {inb1 : ∀ v, C1 v → ∀ a x, ((![v] : Fin 1 → IVec S16 32) a x).toNat < S102400.size a}
    {inb2 : ∀ v, C2 v → ∀ a x, ((![v] : Fin 1 → IVec S16 32) a x).toNat < S102400.size a}
    {st1 st2 : (acc.access (.whole S102400)).Stores Finset.univ}
    {k : PUnit → Prog (TpuEff nD τ sig (Elt F) Λ₀ (thr d L).2) α} :
    Work (F := F) d L acc bs bd (BitVec.ofNat 32 (8 * s)) src dst base cb n
      ⊢ iprop((Work (F := F) d L acc bs bd (BitVec.ofNat 32 (8 * s)) src dst base cb (n + 1) -∗ WP d L (k ⟨⟩) Φ)
        -∗ WP d L (.op (.load bs (Rect.unit (s := S4000) off S16.size inb).toLoadRect hl) fun a =>
          .op (.load bd (Rect.unit (s := S4000) off S16.size inb').toLoadRect hl') fun b =>
          .op (.assume (C1 (p1 a b)) (D1 _)) fun h1 =>
          .op (.assume (C2 (p2 a b)) (D2 _)) fun h2 =>
          SparseCore.vectorStoreIdx acc ![p1 a b] (k0_pay82 (F := F)) (p0 a) true (inb1 _ h1.down) st1 >>= fun _ =>
          SparseCore.vectorStoreIdx acc ![p2 a b] (k0_pay82 (F := F)) (p0 a) true (inb2 _ h2.down) st2 >>= k) Φ) := by
  unfold Work
  iintro ⟨Hs, Hd, Ha⟩ Hk
  iapply (step_load (F := F) d L bs fullShare (chunkOf src cb)) $$ Hs
  iintro Hs
  rw [vec_read src cb j hj]
  iapply (step_load (F := F) d L bd fullShare (chunkOf dst cb)) $$ Hd
  iintro Hd
  rw [vec_read dst cb j hj]
  have hin : ∀ x : S16.Idx, EdgeOK (vecOf src (cb + j) x) (vecOf dst (cb + j) x) := fun x => hE _ (by
    have hx0 : (x 0).val < 16 := (x 0).isLt
    omega)
  have h7 : ∀ a x, ((![p1 (vecOf src (cb + j)) (vecOf dst (cb + j))] : Fin 1 → IVec S16 32) a x).toNat < S102400.size a := by
    intro a x
    obtain rfl : a = 0 := Subsingleton.elim _ _
    rw [hp1]
    exact ixA_lt (hin x) hs
  have h8 : ∀ a x, ((![p2 (vecOf src (cb + j)) (vecOf dst (cb + j))] : Fin 1 → IVec S16 32) a x).toNat < S102400.size a := by
    intro a x
    obtain rfl : a = 0 := Subsingleton.elim _ _
    rw [hp2]
    exact ixB_lt (hin x) hs
  iapply (wp_assume 𝒱₀ (thr d L) none Set.univ (hC1 _ h7))
  iapply (wp_assume 𝒱₀ (thr d L) none Set.univ (hC2 _ h8))
  iapply (step_idx (F := F) d L acc (accAt (F := F) (BitVec.ofNat 32 (8 * s)) src dst base n)) $$ Ha
  iintro Ha
  iapply (step_idx (F := F) d L acc _) $$ Ha
  iintro Ha
  iapply Hk
  isplitl [Hs]; · iexact Hs
  isplitl [Hd]; · iexact Hd
  rw [storeIdx_eq, storeIdx_eq, hp1, hp2, hp0, hcb]
  iexact Ha

end Cert.Proof.Adj
-- ==== Proof.Parts.lean ====
/-
  The parts of a tile's body between its copies: the loop that zeroes the accumulator, and the two loops that add a chunk of
  4000 edges to it, 80 edges a trip.
-/
module

public import proofs.«01_k».proof.Proof.Steps

@[expose] public section

set_option maxRecDepth 16384

noncomputable section

namespace Cert.Proof.Adj

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
  (arg2 : Memref sig .scVector .hbm S320000 .i32) (harg2 : arg2.IsWhole) (arg3 : Memref sig .scVector .hbm S320000 .i32) (harg3 : arg3.IsWhole)
  (arg4 : Memref sig .scVector .hbm S1331200 .f32) (harg4 : arg4.IsWhole) (arg5 : Memref sig .scVector .hbm S1331200 .f32) (harg5 : arg5.IsWhole)
  (arg6 : Memref sig .scVector .vmem S102400 .f32) (harg6 : arg6.IsWhole) (arg7 : Memref sig .scVector .vmem S4000 .i32) (harg7 : arg7.IsWhole)
  (arg8 : Memref sig .scVector .vmem S4000 .i32) (harg8 : arg8.IsWhole) (arg9 : Memref sig .scVector .vmem S4000 .i32) (harg9 : arg9.IsWhole)
  (arg10 : Memref sig .scVector .vmem S4000 .i32) (harg10 : arg10.IsWhole)
  (arg11 arg12 v51_r0 v51_r1 : DmaSems sig S_)

/-- A loop at the head of a tile's program, by an invariant. -/
theorem loop {α : Type} {Φ : α → sProp 𝕄} {w : Nat} {lp : Scf.Loop w} {hok : lp.OK} {body : Fin lp.trips → Unit → Prog (TpuEff nD τ sig (Elt F) Λ₀ (thr d L).2) Unit}
    (I : ℕ → sProp 𝕄) (hbody : ∀ k : Fin lp.trips, I k.val ⊢ WP d L (body k ()) (fun _ => I (k.val + 1)))
    {k : Unit → Prog (TpuEff nD τ sig (Elt F) Λ₀ (thr d L).2) α} :
    I 0 ⊢ iprop((I lp.trips -∗ WP d L (k ()) Φ) -∗ WP d L (Scf.Loop.for lp hok () body >>= k) Φ) := by
  iintro HI Hk
  iapply (Scf.wp_for_bind frame (wpE (defs₀ (F := F)) 𝒱₀ (thr d L) none) Set.univ lp.lb lp.ub lp.st hok () body (fun n _ => I n) (fun k _ => hbody k)) $$ HI
  iintro %_ HI
  iapply Hk
  iexact HI

/-- The zeroing loop: 800 trips of eight vectors. -/
theorem zero_trip (t : Fin k0_t1_loop.trips) :
    ZeroTo (F := F) d L arg6 (128 * t.val) ⊢ WP d L (k0_t1_body L arg2 harg2 arg3 harg3 arg4 harg4 arg5 harg5 arg6 harg6 arg7 harg7 arg8 harg8 arg9 harg9 arg10 harg10 arg11 arg12 v51_r0 v51_r1 t ()) (fun _ => ZeroTo d L arg6 (128 * (t.val + 1))) := by
  unfold k0_t1_body
  simp only [k0_part1_eq_skeleton]; unfold k0_part1_skel
  simp only [Prog.lift, Prog.bind_op, Prog.bind_ret, Prog.pure_eq_ret]
  iintro H
  iapply (step_zero (F := F) d L arg6 (128 * t.val + 16 * 0) (by first | rw [k0_off1_eq t 0]; rfl | exact congrFun (k0_off1_eq t 0) 0)) $$ H
  iintro H
  iapply (step_zero (F := F) d L arg6 (128 * t.val + 16 * 1) (by first | rw [k0_off1_eq t 1]; rfl | exact congrFun (k0_off1_eq t 1) 0)) $$ H
  iintro H
  iapply (step_zero (F := F) d L arg6 (128 * t.val + 16 * 2) (by first | rw [k0_off1_eq t 2]; rfl | exact congrFun (k0_off1_eq t 2) 0)) $$ H
  iintro H
  iapply (step_zero (F := F) d L arg6 (128 * t.val + 16 * 3) (by first | rw [k0_off1_eq t 3]; rfl | exact congrFun (k0_off1_eq t 3) 0)) $$ H
  iintro H
  iapply (step_zero (F := F) d L arg6 (128 * t.val + 16 * 4) (by first | rw [k0_off1_eq t 4]; rfl | exact congrFun (k0_off1_eq t 4) 0)) $$ H
  iintro H
  iapply (step_zero (F := F) d L arg6 (128 * t.val + 16 * 5) (by first | rw [k0_off1_eq t 5]; rfl | exact congrFun (k0_off1_eq t 5) 0)) $$ H
  iintro H
  iapply (step_zero (F := F) d L arg6 (128 * t.val + 16 * 6) (by first | rw [k0_off1_eq t 6]; rfl | exact congrFun (k0_off1_eq t 6) 0)) $$ H
  iintro H
  iapply (step_zero (F := F) d L arg6 (128 * t.val + 16 * 7) (by first | rw [k0_off1_eq t 7]; rfl | exact congrFun (k0_off1_eq t 7) 0)) $$ H
  iintro H
  iapply (le_wp_ret)
  iexact H

theorem part2 {α : Type} {Φ : α → sProp 𝕄} {k : (BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (c0 c1 : BitVec 32) (t : Fin k0_t3_loop.trips) (hcb : cb + (80 * t.val) = base + 16 * n) (hlim : cb + (80 * t.val) + 16 ≤ 320000) :
    Work (F := F) d L arg6 arg7 arg8 (BitVec.ofNat 32 (8 * s)) src dst base cb n
      ⊢ iprop((∀ a, Work (F := F) d L arg6 arg7 arg8 (BitVec.ofNat 32 (8 * s)) src dst base cb (n + 1) -∗ WP d L (k a) Φ)
        -∗ WP d L (k0_part2 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 c0 c1 t >>= k) Φ) := by
  simp only [k0_part2_eq_skeleton]; unfold k0_part2_skel
  simp only [Prog.lift, Prog.bind_op, Prog.bind_ret, Prog.pure_eq_ret, Prog.bind_assoc]
  iintro H Hk
  iapply (step_edges (F := F) d L arg6 arg7 arg8 hs hE (base := base) (cb := cb) (j := 80 * t.val) (by omega) (by omega) (by rw [k0_off4_eq]; rfl) (k0_pay7 (F := F) _) (k0_pay8 (F := F) _) (k0_pay5 (F := F) _) (fun _ _ => rfl) (fun _ _ => rfl) (fun _ => rfl) (fun v => k0_chk1 L v) (fun v => k0_chk2 L v) (D1 := fun v => k0_chk1.dec L v) (D2 := fun v => k0_chk2.dec L v) (fun v h _ => h) (fun v h _ => h) (inb1 := fun v h => k0_idx1_inb L v h h1) (inb2 := fun v h => k0_idx2_inb L v h h1)) $$ H
  iintro H
  iapply Hk
  iexact H

theorem part3 {α : Type} {Φ : α → sProp 𝕄} {k : (BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (a14 : BitVec 32) (t : Fin k0_t3_loop.trips) (hcb : cb + (80 * t.val + 16) = base + 16 * n) (hlim : cb + (80 * t.val + 16) + 16 ≤ 320000) :
    Work (F := F) d L arg6 arg7 arg8 (BitVec.ofNat 32 (8 * s)) src dst base cb n
      ⊢ iprop((∀ a, Work (F := F) d L arg6 arg7 arg8 (BitVec.ofNat 32 (8 * s)) src dst base cb (n + 1) -∗ WP d L (k a) Φ)
        -∗ WP d L (k0_part3 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t a14 >>= k) Φ) := by
  simp only [k0_part3_eq_skeleton]; unfold k0_part3_skel
  simp only [Prog.lift, Prog.bind_op, Prog.bind_ret, Prog.pure_eq_ret, Prog.bind_assoc]
  iintro H Hk
  iapply (step_edges (F := F) d L arg6 arg7 arg8 hs hE (base := base) (cb := cb) (j := 80 * t.val + 16) (by omega) (by omega) (by rw [k0_off5_eq]; rfl) (k0_pay15 (F := F) _) (k0_pay16 (F := F) _) (k0_pay13 (F := F) _) (fun _ _ => rfl) (fun _ _ => rfl) (fun _ => rfl) (fun v => k0_chk3 L v) (fun v => k0_chk4 L v) (D1 := fun v => k0_chk3.dec L v) (D2 := fun v => k0_chk4.dec L v) (fun v h _ => h) (fun v h _ => h) (inb1 := fun v h => k0_idx3_inb L v h h1) (inb2 := fun v h => k0_idx4_inb L v h h1)) $$ H
  iintro H
  iapply Hk
  iexact H

theorem part4 {α : Type} {Φ : α → sProp 𝕄} {k : (BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (a14 a15 : BitVec 32) (t : Fin k0_t3_loop.trips) (hcb : cb + (80 * t.val + 32) = base + 16 * n) (hlim : cb + (80 * t.val + 32) + 16 ≤ 320000) :
    Work (F := F) d L arg6 arg7 arg8 (BitVec.ofNat 32 (8 * s)) src dst base cb n
      ⊢ iprop((∀ a, Work (F := F) d L arg6 arg7 arg8 (BitVec.ofNat 32 (8 * s)) src dst base cb (n + 1) -∗ WP d L (k a) Φ)
        -∗ WP d L (k0_part4 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t a14 a15 >>= k) Φ) := by
  simp only [k0_part4_eq_skeleton]; unfold k0_part4_skel
  simp only [Prog.lift, Prog.bind_op, Prog.bind_ret, Prog.pure_eq_ret, Prog.bind_assoc]
  iintro H Hk
  iapply (step_edges (F := F) d L arg6 arg7 arg8 hs hE (base := base) (cb := cb) (j := 80 * t.val + 32) (by omega) (by omega) (by rw [k0_off6_eq]; rfl) (k0_pay23 (F := F) _) (k0_pay24 (F := F) _) (k0_pay21 (F := F) _) (fun _ _ => rfl) (fun _ _ => rfl) (fun _ => rfl) (fun v => k0_chk5 L v) (fun v => k0_chk6 L v) (D1 := fun v => k0_chk5.dec L v) (D2 := fun v => k0_chk6.dec L v) (fun v h _ => h) (fun v h _ => h) (inb1 := fun v h => k0_idx5_inb L v h h1) (inb2 := fun v h => k0_idx6_inb L v h h1)) $$ H
  iintro H
  iapply Hk
  iexact H

theorem part5 {α : Type} {Φ : α → sProp 𝕄} {k : (Σ' (_ : BitVec 32), BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (a14 a15 : BitVec 32) (t : Fin k0_t3_loop.trips) (hcb : cb + (80 * t.val + 48) = base + 16 * n) (hlim : cb + (80 * t.val + 48) + 16 ≤ 320000) :
    Work (F := F) d L arg6 arg7 arg8 (BitVec.ofNat 32 (8 * s)) src dst base cb n
      ⊢ iprop((∀ a, Work (F := F) d L arg6 arg7 arg8 (BitVec.ofNat 32 (8 * s)) src dst base cb (n + 1) -∗ WP d L (k a) Φ)
        -∗ WP d L (k0_part5 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t a14 a15 >>= k) Φ) := by
  simp only [k0_part5_eq_skeleton]; unfold k0_part5_skel
  simp only [Prog.lift, Prog.bind_op, Prog.bind_ret, Prog.pure_eq_ret, Prog.bind_assoc]
  iintro H Hk
  iapply (step_edges (F := F) d L arg6 arg7 arg8 hs hE (base := base) (cb := cb) (j := 80 * t.val + 48) (by omega) (by omega) (by rw [k0_off7_eq]; rfl) (k0_pay31 (F := F) _) (k0_pay32 (F := F) _) (k0_pay29 (F := F) _) (fun _ _ => rfl) (fun _ _ => rfl) (fun _ => rfl) (fun v => k0_chk7 L v) (fun v => k0_chk8 L v) (D1 := fun v => k0_chk7.dec L v) (D2 := fun v => k0_chk8.dec L v) (fun v h _ => h) (fun v h _ => h) (inb1 := fun v h => k0_idx7_inb L v h h1) (inb2 := fun v h => k0_idx8_inb L v h h1)) $$ H
  iintro H
  iapply Hk
  iexact H

/-- A trip of the loop over the chunk in `arg7`, `arg8`: five vectors of edges. -/
theorem trip6 {s : ℕ} (hs : s < 13) {src dst : S320000.Idx → BitVec 32} (hE : EdgesOK src dst) {base cb n0 : ℕ}
    (h1 : k0_cond1 L = 1#1) (t : Fin k0_t3_loop.trips) (ht : t.val < 50) (hcb : cb = base + 16 * n0) (hlim : cb + 4000 ≤ 320000) :
    Work (F := F) d L arg6 arg7 arg8 (BitVec.ofNat 32 (8 * s)) src dst base cb (n0 + 5 * t.val)
      ⊢ WP d L (k0_t3_body L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t ())
        (fun _ => Work (F := F) d L arg6 arg7 arg8 (BitVec.ofNat 32 (8 * s)) src dst base cb (n0 + 5 * (t.val + 1))) := by
  unfold k0_t3_body
  simp only [k0_part6_eq_skeleton]; unfold k0_part6_skel
  simp only [Prog.lift, Prog.bind_op, Prog.bind_ret, Prog.pure_eq_ret, Prog.bind_assoc]
  iintro H
  iapply (part2 (F := F) d L arg2 harg2 arg3 harg3 arg4 harg4 arg5 harg5 arg6 harg6 arg7 harg7 arg8 harg8 arg9 harg9 arg10 harg10 arg11 arg12 v51_r0 v51_r1 hs hE (base := base) (cb := cb) h1 _ _ t (by omega) (by omega)) $$ H
  iintro %_ H
  iapply (part3 (F := F) d L arg2 harg2 arg3 harg3 arg4 harg4 arg5 harg5 arg6 harg6 arg7 harg7 arg8 harg8 arg9 harg9 arg10 harg10 arg11 arg12 v51_r0 v51_r1 hs hE (base := base) (cb := cb) h1 _ t (by omega) (by omega)) $$ H
  iintro %_ H
  iapply (part4 (F := F) d L arg2 harg2 arg3 harg3 arg4 harg4 arg5 harg5 arg6 harg6 arg7 harg7 arg8 harg8 arg9 harg9 arg10 harg10 arg11 arg12 v51_r0 v51_r1 hs hE (base := base) (cb := cb) h1 _ _ t (by omega) (by omega)) $$ H
  iintro %_ H
  iapply (part5 (F := F) d L arg2 harg2 arg3 harg3 arg4 harg4 arg5 harg5 arg6 harg6 arg7 harg7 arg8 harg8 arg9 harg9 arg10 harg10 arg11 arg12 v51_r0 v51_r1 hs hE (base := base) (cb := cb) h1 _ _ t (by omega) (by omega)) $$ H
  iintro %_ H
  iapply (step_edges (F := F) d L arg6 arg7 arg8 hs hE (base := base) (cb := cb) (j := 80 * t.val + 64) (by omega) (by omega) (by rw [k0_off8_eq]; rfl) (k0_pay39 (F := F) _) (k0_pay40 (F := F) _) (k0_pay37 (F := F) _) (fun _ _ => rfl) (fun _ _ => rfl) (fun _ => rfl) (fun v => k0_chk9 L v) (fun v => k0_chk10 L v) (D1 := fun v => k0_chk9.dec L v) (D2 := fun v => k0_chk10.dec L v) (fun v h _ => h) (fun v h _ => h) (inb1 := fun v h => k0_idx9_inb L v h h1) (inb2 := fun v h => k0_idx10_inb L v h h1)) $$ H
  iintro H
  iapply (le_wp_ret)
  iexact H

theorem part7 {α : Type} {Φ : α → sProp 𝕄} {k : (BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (c0 c1 : BitVec 32) (t : Fin k0_t4_loop.trips) (hcb : cb + (80 * t.val) = base + 16 * n) (hlim : cb + (80 * t.val) + 16 ≤ 320000) :
    Work (F := F) d L arg6 arg9 arg10 (BitVec.ofNat 32 (8 * s)) src dst base cb n
      ⊢ iprop((∀ a, Work (F := F) d L arg6 arg9 arg10 (BitVec.ofNat 32 (8 * s)) src dst base cb (n + 1) -∗ WP d L (k a) Φ)
        -∗ WP d L (k0_part7 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 c0 c1 t >>= k) Φ) := by
  simp only [k0_part7_eq_skeleton]; unfold k0_part7_skel
  simp only [Prog.lift, Prog.bind_op, Prog.bind_ret, Prog.pure_eq_ret, Prog.bind_assoc]
  iintro H Hk
  iapply (step_edges (F := F) d L arg6 arg9 arg10 hs hE (base := base) (cb := cb) (j := 80 * t.val) (by omega) (by omega) (by rw [k0_off10_eq]; rfl) (k0_pay47 (F := F) _) (k0_pay48 (F := F) _) (k0_pay45 (F := F) _) (fun _ _ => rfl) (fun _ _ => rfl) (fun _ => rfl) (fun v => k0_chk11 L v) (fun v => k0_chk12 L v) (D1 := fun v => k0_chk11.dec L v) (D2 := fun v => k0_chk12.dec L v) (fun v h _ => h) (fun v h _ => h) (inb1 := fun v h => k0_idx11_inb L v h h1) (inb2 := fun v h => k0_idx12_inb L v h h1)) $$ H
  iintro H
  iapply Hk
  iexact H

theorem part8 {α : Type} {Φ : α → sProp 𝕄} {k : (BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (a14 : BitVec 32) (t : Fin k0_t4_loop.trips) (hcb : cb + (80 * t.val + 16) = base + 16 * n) (hlim : cb + (80 * t.val + 16) + 16 ≤ 320000) :
    Work (F := F) d L arg6 arg9 arg10 (BitVec.ofNat 32 (8 * s)) src dst base cb n
      ⊢ iprop((∀ a, Work (F := F) d L arg6 arg9 arg10 (BitVec.ofNat 32 (8 * s)) src dst base cb (n + 1) -∗ WP d L (k a) Φ)
        -∗ WP d L (k0_part8 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t a14 >>= k) Φ) := by
  simp only [k0_part8_eq_skeleton]; unfold k0_part8_skel
  simp only [Prog.lift, Prog.bind_op, Prog.bind_ret, Prog.pure_eq_ret, Prog.bind_assoc]
  iintro H Hk
  iapply (step_edges (F := F) d L arg6 arg9 arg10 hs hE (base := base) (cb := cb) (j := 80 * t.val + 16) (by omega) (by omega) (by rw [k0_off11_eq]; rfl) (k0_pay55 (F := F) _) (k0_pay56 (F := F) _) (k0_pay53 (F := F) _) (fun _ _ => rfl) (fun _ _ => rfl) (fun _ => rfl) (fun v => k0_chk13 L v) (fun v => k0_chk14 L v) (D1 := fun v => k0_chk13.dec L v) (D2 := fun v => k0_chk14.dec L v) (fun v h _ => h) (fun v h _ => h) (inb1 := fun v h => k0_idx13_inb L v h h1) (inb2 := fun v h => k0_idx14_inb L v h h1)) $$ H
  iintro H
  iapply Hk
  iexact H

theorem part9 {α : Type} {Φ : α → sProp 𝕄} {k : (BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (a14 a15 : BitVec 32) (t : Fin k0_t4_loop.trips) (hcb : cb + (80 * t.val + 32) = base + 16 * n) (hlim : cb + (80 * t.val + 32) + 16 ≤ 320000) :
    Work (F := F) d L arg6 arg9 arg10 (BitVec.ofNat 32 (8 * s)) src dst base cb n
      ⊢ iprop((∀ a, Work (F := F) d L arg6 arg9 arg10 (BitVec.ofNat 32 (8 * s)) src dst base cb (n + 1) -∗ WP d L (k a) Φ)
        -∗ WP d L (k0_part9 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t a14 a15 >>= k) Φ) := by
  simp only [k0_part9_eq_skeleton]; unfold k0_part9_skel
  simp only [Prog.lift, Prog.bind_op, Prog.bind_ret, Prog.pure_eq_ret, Prog.bind_assoc]
  iintro H Hk
  iapply (step_edges (F := F) d L arg6 arg9 arg10 hs hE (base := base) (cb := cb) (j := 80 * t.val + 32) (by omega) (by omega) (by rw [k0_off12_eq]; rfl) (k0_pay63 (F := F) _) (k0_pay64 (F := F) _) (k0_pay61 (F := F) _) (fun _ _ => rfl) (fun _ _ => rfl) (fun _ => rfl) (fun v => k0_chk15 L v) (fun v => k0_chk16 L v) (D1 := fun v => k0_chk15.dec L v) (D2 := fun v => k0_chk16.dec L v) (fun v h _ => h) (fun v h _ => h) (inb1 := fun v h => k0_idx15_inb L v h h1) (inb2 := fun v h => k0_idx16_inb L v h h1)) $$ H
  iintro H
  iapply Hk
  iexact H

theorem part10 {α : Type} {Φ : α → sProp 𝕄} {k : (Σ' (_ : BitVec 32), BitVec 32) → Prog (TpuEff nD τ sig (Elt F) Λ₀ (thr d L).2) α} {s : ℕ} (hs : s < 13) {src dst : S320000.Idx → BitVec 32} (hE : EdgesOK src dst) {base cb n : ℕ}
    (h1 : k0_cond1 L = 1#1) (a14 a15 : BitVec 32) (t : Fin k0_t4_loop.trips) (hcb : cb + (80 * t.val + 48) = base + 16 * n) (hlim : cb + (80 * t.val + 48) + 16 ≤ 320000) :
    Work (F := F) d L arg6 arg9 arg10 (BitVec.ofNat 32 (8 * s)) src dst base cb n
      ⊢ iprop((∀ a, Work (F := F) d L arg6 arg9 arg10 (BitVec.ofNat 32 (8 * s)) src dst base cb (n + 1) -∗ WP d L (k a) Φ)
        -∗ WP d L (k0_part10 L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t a14 a15 >>= k) Φ) := by
  simp only [k0_part10_eq_skeleton]; unfold k0_part10_skel
  simp only [Prog.lift, Prog.bind_op, Prog.bind_ret, Prog.pure_eq_ret, Prog.bind_assoc]
  iintro H Hk
  iapply (step_edges (F := F) d L arg6 arg9 arg10 hs hE (base := base) (cb := cb) (j := 80 * t.val + 48) (by omega) (by omega) (by rw [k0_off13_eq]; rfl) (k0_pay71 (F := F) _) (k0_pay72 (F := F) _) (k0_pay69 (F := F) _) (fun _ _ => rfl) (fun _ _ => rfl) (fun _ => rfl) (fun v => k0_chk17 L v) (fun v => k0_chk18 L v) (D1 := fun v => k0_chk17.dec L v) (D2 := fun v => k0_chk18.dec L v) (fun v h _ => h) (fun v h _ => h) (inb1 := fun v h => k0_idx17_inb L v h h1) (inb2 := fun v h => k0_idx18_inb L v h h1)) $$ H
  iintro H
  iapply Hk
  iexact H

/-- A trip of the loop over the chunk in `arg9`, `arg10`: five vectors of edges. -/
theorem trip11 {s : ℕ} (hs : s < 13) {src dst : S320000.Idx → BitVec 32} (hE : EdgesOK src dst) {base cb n0 : ℕ}
    (h1 : k0_cond1 L = 1#1) (t : Fin k0_t4_loop.trips) (ht : t.val < 50) (hcb : cb = base + 16 * n0) (hlim : cb + 4000 ≤ 320000) :
    Work (F := F) d L arg6 arg9 arg10 (BitVec.ofNat 32 (8 * s)) src dst base cb (n0 + 5 * t.val)
      ⊢ WP d L (k0_t4_body L arg2 harg2 arg3 harg3 arg4 harg4 arg5 harg5 arg6 harg6 arg7 harg7 arg8 harg8 arg9 harg9 arg10 harg10 arg11 arg12 v51_r0 v51_r1 (k0_pay82 (F := F)) (BitVec.ofNat 32 (8 * s)) h1 t ())
        (fun _ => Work (F := F) d L arg6 arg9 arg10 (BitVec.ofNat 32 (8 * s)) src dst base cb (n0 + 5 * (t.val + 1))) := by
  unfold k0_t4_body
  simp only [k0_part11_eq_skeleton]; unfold k0_part11_skel
  simp only [Prog.lift, Prog.bind_op, Prog.bind_ret, Prog.pure_eq_ret, Prog.bind_assoc]
  iintro H
  iapply (part7 (F := F) d L arg2 harg2 arg3 harg3 arg4 harg4 arg5 harg5 arg6 harg6 arg7 harg7 arg8 harg8 arg9 harg9 arg10 harg10 arg11 arg12 v51_r0 v51_r1 hs hE (base := base) (cb := cb) h1 _ _ t (by omega) (by omega)) $$ H
  iintro %_ H
  iapply (part8 (F := F) d L arg2 harg2 arg3 harg3 arg4 harg4 arg5 harg5 arg6 harg6 arg7 harg7 arg8 harg8 arg9 harg9 arg10 harg10 arg11 arg12 v51_r0 v51_r1 hs hE (base := base) (cb := cb) h1 _ t (by omega) (by omega)) $$ H
  iintro %_ H
  iapply (part9 (F := F) d L arg2 harg2 arg3 harg3 arg4 harg4 arg5 harg5 arg6 harg6 arg7 harg7 arg8 harg8 arg9 harg9 arg10 harg10 arg11 arg12 v51_r0 v51_r1 hs hE (base := base) (cb := cb) h1 _ _ t (by omega) (by omega)) $$ H
  iintro %_ H
  iapply (part10 (F := F) d L arg2 harg2 arg3 harg3 arg4 harg4 arg5 harg5 arg6 harg6 arg7 harg7 arg8 harg8 arg9 harg9 arg10 harg10 arg11 arg12 v51_r0 v51_r1 hs hE (base := base) (cb := cb) h1 _ _ t (by omega) (by omega)) $$ H
  iintro %_ H
  iapply (step_edges (F := F) d L arg6 arg9 arg10 hs hE (base := base) (cb := cb) (j := 80 * t.val + 64) (by omega) (by omega) (by rw [k0_off14_eq]; rfl) (k0_pay79 (F := F) _) (k0_pay80 (F := F) _) (k0_pay77 (F := F) _) (fun _ _ => rfl) (fun _ _ => rfl) (fun _ => rfl) (fun v => k0_chk19 L v) (fun v => k0_chk20 L v) (D1 := fun v => k0_chk19.dec L v) (D2 := fun v => k0_chk20.dec L v) (fun v h _ => h) (fun v h _ => h) (inb1 := fun v h => k0_idx19_inb L v h h1) (inb2 := fun v h => k0_idx20_inb L v h h1)) $$ H
  iintro H
  iapply (le_wp_ret)
  iexact H

end Cert.Proof.Adj
-- ==== Proof.Body.lean ====
/-
  A tile's body: the accumulator zeroed, the 40 chunks of its half of the edge list added to it two at a time with the next chunk
  in flight, and the accumulator copied to the tile's block of the output.
-/
module

public import proofs.«01_k».proof.Proof.Parts

@[expose] public section

set_option maxRecDepth 16384

noncomputable section

namespace Cert.Proof.Adj

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The offsets and the conditions, in closed form -/

theorem cond1_iff : ∀ L : grid0.Coords, k0_cond1 L = 1#1 ↔ (L 1).val < 13 := by decide +kernel
theorem cond3_iff : ∀ L : grid0.Coords, k0_cond3 L = 1#1 ↔ (L 0).val = 0 := by decide +kernel
theorem cond4_iff : ∀ L : grid0.Coords, k0_cond4 L = 1#1 ↔ (L 0).val = 1 := by decide +kernel
theorem cond2_iff : ∀ k : Fin k0_t2_loop.trips, k0_cond2 k = 1#1 ↔ k.val < 19 := by decide +kernel
theorem off2_eq : ∀ L : grid0.Coords, k0_off2 L 0 = 160000 * (L 0).val := by decide +kernel
theorem off3_eq : ∀ (L : grid0.Coords) (k : Fin k0_t2_loop.trips), k0_off3 L k 0 = 160000 * (L 0).val + 8000 * k.val + 4000 := by decide +kernel
theorem off9_eq : ∀ (L : grid0.Coords) (k : Fin k0_t2_loop.trips), k0_off9 L k 0 = 160000 * (L 0).val + 8000 * (k.val + 1) := by decide +kernel
theorem off15_eq : ∀ L : grid0.Coords, k0_off15 L 0 = 102400 * (L 1).val := by decide +kernel
theorem off16_eq : ∀ L : grid0.Coords, k0_off16 L 0 = 102400 * (L 1).val := by decide +kernel
theorem t1_trips : k0_t1_loop.trips = 800 := by decide +kernel
theorem t2_trips : k0_t2_loop.trips = 20 := by decide +kernel
theorem t3_trips : k0_t3_loop.trips = 50 := by decide +kernel
theorem t4_trips : k0_t4_loop.trips = 50 := by decide +kernel

variable (d : Dev nD) (L : grid0.Coords)
  (arg2 : Memref sig .scVector .hbm S320000 .i32) (harg2 : arg2.IsWhole) (arg3 : Memref sig .scVector .hbm S320000 .i32) (harg3 : arg3.IsWhole)
  (arg4 : Memref sig .scVector .hbm S1331200 .f32) (harg4 : arg4.IsWhole) (arg5 : Memref sig .scVector .hbm S1331200 .f32) (harg5 : arg5.IsWhole)
  (arg6 : Memref sig .scVector .vmem S102400 .f32) (harg6 : arg6.IsWhole) (arg7 : Memref sig .scVector .vmem S4000 .i32) (harg7 : arg7.IsWhole)
  (arg8 : Memref sig .scVector .vmem S4000 .i32) (harg8 : arg8.IsWhole) (arg9 : Memref sig .scVector .vmem S4000 .i32) (harg9 : arg9.IsWhole)
  (arg10 : Memref sig .scVector .vmem S4000 .i32) (harg10 : arg10.IsWhole)
  (arg11 arg12 v51_r0 v51_r1 : DmaSems sig S_)

/-- A buffer held at some contents. -/
def Some' {sp : Space} {s : Shape} {e : EltTy} (v : Memref sig .scVector sp s e) : sProp 𝕄 := iprop(∃ w, Holds (F := F) d L v fullShare w)

/-- What the tile owes, whatever waits it has recorded. -/
def Owes (O : CellTallies nD τ sig (HIx 1)) : sProp 𝕄 := iprop(∃ W, owes (thr d L) O W)

/-- A wait for a copy of a chunk, whatever is recorded before it. -/
theorem step_wait' {α : Type} {Φ : α → sProp 𝕄} (src : Memref sig .scVector .hbm S320000 .i32) (b : Memref sig .scVector .vmem S4000 .i32) (sm : DmaSem sig) (q : PosShare TreeShare)
    (sE : S320000.Idx → BitVec 32) (n : ℕ) {O : CellTallies nD τ sig (HIx 1)} (hO : ∀ g, O g none = 0)
    {sp' : Space} {s' : Shape} {e' : EltTy} {srcw : Memref sig .scVector sp' s' e'} {hsrc : srcw.view.WordExact} {hdst : b.view.WordExact}
    {k : PUnit → Prog (TpuEff nD τ sig (Elt F) Λ₀ (thr d L).2) α} :
    iprop(levAts (K (F := F)).L (K (F := F)).lev ∗ InFl (F := F) d L src b sm q sE n ∗ Owes d L O)
      ⊢ iprop((iprop(Holds d L b fullShare (chunkOf sE n : S4000.Idx → Elt F .i32) ∗ Holds d L src q (sE : S320000.Idx → Elt F .i32)
            ∗ semVal (thr d L, .dma sm) 0 ∗ Owes d L O) -∗ WP d L (k ⟨⟩) Φ)
        -∗ WP d L (.op (.waitDma2 sm srcw b hsrc hdst) k) Φ) := by
  unfold Owes
  iintro ⟨Hlv, HF, %W, HO⟩ Hk
  ihave Hmw := (show levAts (K (F := F)).L (K (F := F)).lev ⊢ Transfers.MayWaits (thr d L) (default : HIx 1) O from
    (K (F := F)).mayWaits_none (thr := thr d L) hO) $$ Hlv
  iapply (step_wait (F := F) d L src b sm q sE n) $$ [HF HO Hmw]
  · isplitl [HF]; · iexact HF
    isplitl [HO]; · iexact HO
    iexact Hmw
  iintro ⟨Hb, Hs, Hv, HO⟩
  iapply Hk
  isplitl [Hb]; · iexact Hb
  isplitl [Hs]; · iexact Hs
  isplitl [Hv]; · iexact Hv
  iexists _; iexact HO

/-- A copy of the accumulator to the output, from its issue to its wait. -/
theorem step_out {α : Type} {Φ : α → sProp 𝕄} (src : Memref sig .scVector .vmem S102400 .f32) (dst : Memref sig .scVector .hbm S102400 .f32) (sm : DmaSem sig)
    (w : S102400.Idx → Elt F .f32) {O : CellTallies nD τ sig (HIx 1)} (hO : ∀ g, O g none = 0)
    {hsrc : src.view.WordExact} {hdst : dst.view.WordExact}
    {hsem : DmaTarget.Typed (nD := nD) .vmem (.dma sm) (.here (p := (thr d L).2) dst)}
    {hsrc' : src.view.WordExact} {hdst' : dst.view.WordExact}
    {k : PUnit → Prog (TpuEff nD τ sig (Elt F) Λ₀ (thr d L).2) α} :
    iprop(levAts (K (F := F)).L (K (F := F)).lev ∗ Holds (F := F) d L src fullShare w ∗ Some' d L dst ∗ semVal (thr d L, .dma sm) 0 ∗ Owes d L O)
      ⊢ iprop((iprop(Holds (F := F) d L src fullShare w ∗ Holds d L dst fullShare w ∗ semVal (thr d L, .dma sm) 0 ∗ Owes d L O) -∗ WP d L (k ⟨⟩) Φ)
        -∗ WP d L (.op (.enqueueDma src (.here dst) (.dma sm) hsrc hdst hsem) fun _ => .op (.waitDma2 sm src dst hsrc' hdst') k) Φ) := by
  unfold Owes Some' Holds
  iintro ⟨Hlv, ⟨%f, %hf, Hs⟩, ⟨%g0, %g, %hg, Hb⟩, Hv, %W, HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_dmaLocal (EC (F := F)) 𝒱₀ (thr d L) none (src := src) (dst := dst)
      (sm := .dma sm) (default : HIx 1) dst.view.dmaCredit rfl (View.dmaCredit_pos _ (by decide)) (Sd := dst.view.set) subset_rfl) $$ [Hs Hb Hv]
  · isplitl [Hs]; · iexact Hs
    isplitl [Hb]; · iexact Hb
    iexact Hv
  iintro Hfl
  iapply (Transfers.wp_waitLocalO (EC (F := F)) 𝒱₀ (thr d L) none (dstw := dst) (default : HIx 1) rfl) $$ [Hfl HO Hmw]
  · isplitl [Hfl]; · iexact Hfl
    isplitl [HO]; · iexact HO
    iapply (Transfers.MayWaits.elim (.dma sm)); iexact Hmw
  iintro ⟨⟨Hb, Hs⟩, Hv, HO⟩
  iapply Hk
  isplitl [Hs]
  · iexists f
    isplitr; · ipureintro; exact hf
    iexact Hs
  isplitl [Hb]
  · iexists _
    isplitr
    swap; · iexact Hb
    ipureintro
    rw [View.read_write_univ]
    exact hf
  isplitl [Hv]; · iexact Hv
  iexists _; iexact HO

/-- Both copies of the chunk at edge `n` in flight. -/
def Fly (qs qd : PosShare TreeShare) (src dst : S320000.Idx → BitVec 32) (n : ℕ) : sProp 𝕄 :=
  iprop(InFl (F := F) d L arg2 arg7 arg11.sem qs src n ∗ InFl d L arg3 arg8 arg12.sem qd dst n)

/-- The edge list's read shares and the first pair of buffers at rest. -/
def Idle (qs qd : PosShare TreeShare) (src dst : S320000.Idx → BitVec 32) : sProp 𝕄 :=
  iprop(Some' (F := F) d L arg7 ∗ Some' d L arg8 ∗ Holds d L arg2 qs (src : S320000.Idx → Elt F .i32) ∗ Holds d L arg3 qd (dst : S320000.Idx → Elt F .i32)
    ∗ semVal (thr d L, .dma arg11.sem) 0 ∗ semVal (thr d L, .dma arg12.sem) 0)

/-- Before pair `k` of chunks: the accumulator over the first `500 k` vectors, and the pair's first chunk in flight if there is one. -/
def PairInv (qs qd : PosShare TreeShare) (src dst : S320000.Idx → BitVec 32) (O : CellTallies nD τ sig (HIx 1)) (k : ℕ) : sProp 𝕄 :=
  iprop(levAts (K (F := F)).L (K (F := F)).lev
    ∗ Holds d L arg6 fullShare (accAt (F := F) (BitVec.ofNat 32 (8 * (L 1).val)) src dst (160000 * (L 0).val) (500 * k))
    ∗ Some' d L arg9 ∗ Some' d L arg10 ∗ Owes d L O
    ∗ (if k < 20 then Fly (F := F) d L arg2 arg3 arg7 arg8 arg11 arg12 qs qd src dst (160000 * (L 0).val + 8000 * k) else Idle d L arg2 arg3 arg7 arg8 arg11 arg12 qs qd src dst))

/-- Pair `k` of chunks. -/
theorem pair_trip (qs qd : PosShare TreeShare) {src dst : S320000.Idx → BitVec 32} (hE : EdgesOK src dst) {O : CellTallies nD τ sig (HIx 1)} (hO : ∀ g, O g none = 0)
    (h1 : k0_cond1 L = 1#1) (k : Fin k0_t2_loop.trips) :
    PairInv (F := F) d L arg2 arg3 arg6 arg7 arg8 arg9 arg10 arg11 arg12 qs qd src dst O k.val
      ⊢ WP d L (k0_t2_body L arg2 harg2 arg3 harg3 arg4 harg4 arg5 harg5 arg6 harg6 arg7 harg7 arg8 harg8 arg9 harg9 arg10 harg10 arg11 arg12 v51_r0 v51_r1 (k0_pay82 (F := F)) (BitVec.ofNat 32 (8 * (L 1).val)) h1 k ())
        (fun _ => PairInv (F := F) d L arg2 arg3 arg6 arg7 arg8 arg9 arg10 arg11 arg12 qs qd src dst O (k.val + 1)) := by
  have hk : k.val < 20 := t2_trips ▸ k.isLt
  have hs : (L 1).val < 13 := (cond1_iff L).mp h1
  have hc : (L 0).val < 2 := (L 0).isLt
  unfold k0_t2_body
  simp only [Prog.lift, Prog.bind_op, Prog.bind_ret, Prog.pure_eq_ret]
  unfold PairInv
  rw [if_pos hk]
  unfold Fly Some'
  iintro ⟨#Hlv, Hacc, ⟨%w9, H9⟩, ⟨%w10, H10⟩, HO, HF7, HF8⟩
  iapply (step_wait' (F := F) d L arg2 arg7 arg11.sem qs src (160000 * (L 0).val + 8000 * k.val) hO) $$ [HF7 HO]
  · isplitr; · iexact Hlv
    isplitl [HF7]; · iexact HF7
    iexact HO
  iintro ⟨H7, Hs, Hv1, HO⟩
  iapply (step_wait' (F := F) d L arg3 arg8 arg12.sem qd dst (160000 * (L 0).val + 8000 * k.val) hO) $$ [HF8 HO]
  · isplitr; · iexact Hlv
    isplitl [HF8]; · iexact HF8
    iexact HO
  iintro ⟨H8, Hd, Hv2, HO⟩
  iapply (step_start (F := F) d L arg2 arg9 arg11.sem qs src (160000 * (L 0).val + 8000 * k.val + 4000) w9 (off3_eq L k)) $$ [Hs H9 Hv1]
  · isplitl [Hs]; · iexact Hs
    isplitl [H9]; · iexact H9
    iexact Hv1
  iintro HF9
  iapply (step_start (F := F) d L arg3 arg10 arg12.sem qd dst (160000 * (L 0).val + 8000 * k.val + 4000) w10 (off3_eq L k)) $$ [Hd H10 Hv2]
  · isplitl [Hd]; · iexact Hd
    isplitl [H10]; · iexact H10
    iexact Hv2
  iintro HF10
  iapply (loop (F := F) d L (fun n => Work (F := F) d L arg6 arg7 arg8 (BitVec.ofNat 32 (8 * (L 1).val)) src dst (160000 * (L 0).val) (160000 * (L 0).val + 8000 * k.val) (500 * k.val + 5 * n))
    (fun t => trip6 (F := F) d L arg2 harg2 arg3 harg3 arg4 harg4 arg5 harg5 arg6 harg6 arg7 harg7 arg8 harg8 arg9 harg9 arg10 harg10 arg11 arg12 v51_r0 v51_r1 hs hE h1 t (t3_trips ▸ t.isLt) (by omega) (by omega))) $$ [H7 H8 Hacc]
  · unfold Work
    isplitl [H7]; · iexact H7
    isplitl [H8]; · iexact H8
    iexact Hacc
  iintro HW
  unfold Work
  icases HW with ⟨H7, H8, Hacc⟩
  iapply (step_wait' (F := F) d L arg2 arg9 arg11.sem qs src (160000 * (L 0).val + 8000 * k.val + 4000) hO) $$ [HF9 HO]
  · isplitr; · iexact Hlv
    isplitl [HF9]; · iexact HF9
    iexact HO
  iintro ⟨H9, Hs, Hv1, HO⟩
  iapply (step_wait' (F := F) d L arg3 arg10 arg12.sem qd dst (160000 * (L 0).val + 8000 * k.val + 4000) hO) $$ [HF10 HO]
  · isplitr; · iexact Hlv
    isplitl [HF10]; · iexact HF10
    iexact HO
  iintro ⟨H10, Hd, Hv2, HO⟩
  have hn : 500 * k.val + 5 * k0_t3_loop.trips = 500 * k.val + 250 := by rw [t3_trips]
  rw [hn]
  have hn' : 500 * k.val + 250 + 5 * k0_t4_loop.trips = 500 * (k.val + 1) := by rw [t4_trips]; omega
  by_cases h2 : k0_cond2 k = 1#1
  · rw [dif_pos h2]
    have hk' : k.val < 19 := (cond2_iff k).mp h2
    simp only [Prog.bind_op, Prog.bind_ret]
    iapply (step_start (F := F) d L arg2 arg7 arg11.sem qs src (160000 * (L 0).val + 8000 * (k.val + 1)) _ (off9_eq L k)) $$ [Hs H7 Hv1]
    · isplitl [Hs]; · iexact Hs
      isplitl [H7]; · iexact H7
      iexact Hv1
    iintro HF7
    iapply (step_start (F := F) d L arg3 arg8 arg12.sem qd dst (160000 * (L 0).val + 8000 * (k.val + 1)) _ (off9_eq L k)) $$ [Hd H8 Hv2]
    · isplitl [Hd]; · iexact Hd
      isplitl [H8]; · iexact H8
      iexact Hv2
    iintro HF8
    iapply (loop (F := F) d L (fun n => Work (F := F) d L arg6 arg9 arg10 (BitVec.ofNat 32 (8 * (L 1).val)) src dst (160000 * (L 0).val) (160000 * (L 0).val + 8000 * k.val + 4000) (500 * k.val + 250 + 5 * n))
      (fun t => trip11 (F := F) d L arg2 harg2 arg3 harg3 arg4 harg4 arg5 harg5 arg6 harg6 arg7 harg7 arg8 harg8 arg9 harg9 arg10 harg10 arg11 arg12 v51_r0 v51_r1 hs hE h1 t (t4_trips ▸ t.isLt) (by omega) (by omega))) $$ [H9 H10 Hacc]
    · unfold Work
      isplitl [H9]; · iexact H9
      isplitl [H10]; · iexact H10
      iexact Hacc
    rw [hn']
    iintro HW
    iapply (le_wp_ret)
    unfold Work
    icases HW with ⟨H9, H10, Hacc⟩
    isplitr; · iexact Hlv
    isplitl [Hacc]; · iexact Hacc
    isplitl [H9]; · iexists _; iexact H9
    isplitl [H10]; · iexists _; iexact H10
    isplitl [HO]; · iexact HO
    rw [if_pos (show k.val + 1 < 20 by omega)]
    isplitl [HF7]; · iexact HF7
    iexact HF8
  · rw [dif_neg h2]
    have hk' : ¬ k.val < 19 := fun h => h2 ((cond2_iff k).mpr h)
    simp only [Prog.bind_ret]
    iapply (loop (F := F) d L (fun n => Work (F := F) d L arg6 arg9 arg10 (BitVec.ofNat 32 (8 * (L 1).val)) src dst (160000 * (L 0).val) (160000 * (L 0).val + 8000 * k.val + 4000) (500 * k.val + 250 + 5 * n))
      (fun t => trip11 (F := F) d L arg2 harg2 arg3 harg3 arg4 harg4 arg5 harg5 arg6 harg6 arg7 harg7 arg8 harg8 arg9 harg9 arg10 harg10 arg11 arg12 v51_r0 v51_r1 hs hE h1 t (t4_trips ▸ t.isLt) (by omega) (by omega))) $$ [H9 H10 Hacc]
    · unfold Work
      isplitl [H9]; · iexact H9
      isplitl [H10]; · iexact H10
      iexact Hacc
    rw [hn']
    iintro HW
    iapply (le_wp_ret)
    unfold Work
    icases HW with ⟨H9, H10, Hacc⟩
    isplitr; · iexact Hlv
    isplitl [Hacc]; · iexact Hacc
    isplitl [H9]; · iexists _; iexact H9
    isplitl [H10]; · iexists _; iexact H10
    isplitl [HO]; · iexact HO
    rw [if_neg (show ¬ k.val + 1 < 20 by omega)]
    unfold Idle Some'
    isplitl [H7]; · iexists _; iexact H7
    isplitl [H8]; · iexists _; iexact H8
    isplitl [Hs]; · iexact Hs
    isplitl [Hd]; · iexact Hd
    isplitl [Hv1]; · iexact Hv1
    iexact Hv2

/-- The chunks of a tile's half of the edge list, from a zeroed accumulator to the sum over the half. -/
theorem pairs {α : Type} {Φ : α → sProp 𝕄} (qs qd : PosShare TreeShare) {src dst : S320000.Idx → BitVec 32} (hE : EdgesOK src dst) {O : CellTallies nD τ sig (HIx 1)} (hO : ∀ g, O g none = 0)
    (h1 : k0_cond1 L = 1#1)
    {ha : (arg2.slice (Rect.unit (s := S320000) (k0_off2 L) S4000.size (k0_off2_inb L h1)) (fun _ => rfl)).view.WordExact} {hb : arg7.view.WordExact}
    {hc : DmaTarget.Typed (nD := nD) .hbm (.dma arg11.sem) (.here (p := (thr d L).2) arg7)}
    {ha' : (arg3.slice (Rect.unit (s := S320000) (k0_off2 L) S4000.size (k0_off2_inb L h1)) (fun _ => rfl)).view.WordExact} {hb' : arg8.view.WordExact}
    {hc' : DmaTarget.Typed (nD := nD) .hbm (.dma arg12.sem) (.here (p := (thr d L).2) arg8)}
    {k : Unit → Prog (TpuEff nD τ sig (Elt F) Λ₀ (thr d L).2) α} :
    iprop(levAts (K (F := F)).L (K (F := F)).lev ∗ ZeroTo (F := F) d L arg6 102400 ∗ Some' d L arg9 ∗ Some' d L arg10 ∗ Owes d L O
        ∗ Idle d L arg2 arg3 arg7 arg8 arg11 arg12 qs qd src dst)
      ⊢ iprop((PairInv (F := F) d L arg2 arg3 arg6 arg7 arg8 arg9 arg10 arg11 arg12 qs qd src dst O 20 -∗ WP d L (k ()) Φ)
        -∗ WP d L (.op (.enqueueDma (arg2.slice (Rect.unit (s := S320000) (k0_off2 L) S4000.size (k0_off2_inb L h1)) (fun _ => rfl)) (.here arg7) (.dma arg11.sem) ha hb hc) fun _ =>
          .op (.enqueueDma (arg3.slice (Rect.unit (s := S320000) (k0_off2 L) S4000.size (k0_off2_inb L h1)) (fun _ => rfl)) (.here arg8) (.dma arg12.sem) ha' hb' hc') fun _ =>
          Scf.Loop.for k0_t2_loop (k0_t2_ok L h1) () (k0_t2_body L arg2 harg2 arg3 harg3 arg4 harg4 arg5 harg5 arg6 harg6 arg7 harg7 arg8 harg8 arg9 harg9 arg10 harg10 arg11 arg12 v51_r0 v51_r1 (k0_pay82 (F := F)) (BitVec.ofNat 32 (8 * (L 1).val)) h1) >>= k) Φ) := by
  unfold Idle ZeroTo Some'
  iintro ⟨#Hlv, ⟨%w, %hw, Hacc⟩, H9, H10, HO, ⟨%w7, H7⟩, ⟨%w8, H8⟩, Hs, Hd, Hv1, Hv2⟩ Hk
  have hw' : w = accAt (F := F) (BitVec.ofNat 32 (8 * (L 1).val)) src dst (160000 * (L 0).val) 0 := by
    funext y
    exact hw y (y 0).isLt
  subst hw'
  iapply (step_start (F := F) d L arg2 arg7 arg11.sem qs src (160000 * (L 0).val) w7 (off2_eq L)) $$ [Hs H7 Hv1]
  · isplitl [Hs]; · iexact Hs
    isplitl [H7]; · iexact H7
    iexact Hv1
  iintro HF7
  iapply (step_start (F := F) d L arg3 arg8 arg12.sem qd dst (160000 * (L 0).val) w8 (off2_eq L)) $$ [Hd H8 Hv2]
  · isplitl [Hd]; · iexact Hd
    isplitl [H8]; · iexact H8
    iexact Hv2
  iintro HF8
  iapply (loop (F := F) d L (PairInv (F := F) d L arg2 arg3 arg6 arg7 arg8 arg9 arg10 arg11 arg12 qs qd src dst O)
    (fun t => pair_trip (F := F) d L arg2 harg2 arg3 harg3 arg4 harg4 arg5 harg5 arg6 harg6 arg7 harg7 arg8 harg8 arg9 harg9 arg10 harg10 arg11 arg12 v51_r0 v51_r1 qs qd hE hO h1 t)) $$ [Hacc H9 H10 HO HF7 HF8]
  · unfold PairInv
    rw [if_pos (by decide)]
    unfold Fly Some'
    isplitr; · iexact Hlv
    isplitl [Hacc]; · iexact Hacc
    isplitl [H9]; · iexact H9
    isplitl [H10]; · iexact H10
    isplitl [HO]; · iexact HO
    isplitl [HF7]; · iexact HF7
    iexact HF8
  rw [t2_trips]
  iintro HI
  iapply Hk
  iexact HI

/-- The accumulator zeroed, and the scalars the rest of the body is given. -/
theorem head {α : Type} {Φ : α → sProp 𝕄}
    {k : (Σ' (v1 : BitVec 32) (v11 : BitVec 32) (v28 : BitVec 32) (v30 : FVec F S16 .f32) (v32 : BitVec 32), BitVec 32) → Prog (TpuEff nD τ sig (Elt F) Λ₀ (thr d L).2) α} :
    Some' (F := F) d L arg6
      ⊢ iprop((∀ a b c e, ZeroTo (F := F) d L arg6 102400 -∗ WP d L (k ⟨a, b, c, k0_pay82 (F := F), BitVec.ofNat 32 (8 * (L 1).val), e⟩) Φ)
        -∗ WP d L (k0_part12 L arg2 harg2 arg3 harg3 arg4 harg4 arg5 harg5 arg6 harg6 arg7 harg7 arg8 harg8 arg9 harg9 arg10 harg10 arg11 arg12 v51_r0 v51_r1 >>= k) Φ) := by
  simp only [k0_part12_eq_skeleton]; unfold k0_part12_skel
  simp only [Prog.bind_assoc, Prog.pure_eq_ret, Prog.bind_ret]
  unfold Some'
  iintro ⟨%w, H⟩ Hk
  iapply (loop (F := F) d L (fun n => ZeroTo (F := F) d L arg6 (128 * n)) (fun t => zero_trip (F := F) d L arg2 harg2 arg3 harg3 arg4 harg4 arg5 harg5 arg6 harg6 arg7 harg7 arg8 harg8 arg9 harg9 arg10 harg10 arg11 arg12 v51_r0 v51_r1 t)) $$ [H]
  · unfold ZeroTo
    iexists w
    isplitr; · ipureintro; intro y hy; exact absurd hy (Nat.not_lt_zero _)
    iexact H
  rw [t1_trips]
  iintro H
  generalize hv : Scalar.muli _ 8#32 = v
  have hv' : v = BitVec.ofNat 32 (8 * (L 1).val) := by
    rw [← hv]
    clear hv
    clear v k Φ
    revert L
    decide +kernel
  subst hv'
  iapply Hk
  iexact H

end Cert.Proof.Adj
-- ==== Proof.Tile.lean ====
/-
  A tile's whole task, from what it is handed to what it hands back: its block of its core's output holds the sum its accumulator
  reached.
-/
module

public import proofs.«01_k».proof.Proof.Body

@[expose] public section

set_option maxRecDepth 16384

noncomputable section

namespace Cert.Proof.Adj

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev aS : Memref sig .scVector .hbm S320000 .i32 := Memref.whole main_v1_scv
abbrev aT : Memref sig .scVector .hbm S320000 .i32 := Memref.whole main_v3_scv
abbrev aO0 : Memref sig .scVector .hbm S1331200 .f32 := Memref.whole main_v4_0_scv
abbrev aO1 : Memref sig .scVector .hbm S1331200 .f32 := Memref.whole main_v4_1_scv
abbrev aAcc : Memref sig .scVector .vmem S102400 .f32 := Memref.whole cc0_scratch0
abbrev aB1 : Memref sig .scVector .vmem S4000 .i32 := Memref.whole cc0_scratch1
abbrev aB2 : Memref sig .scVector .vmem S4000 .i32 := Memref.whole cc0_scratch2
abbrev aB3 : Memref sig .scVector .vmem S4000 .i32 := Memref.whole cc0_scratch3
abbrev aB4 : Memref sig .scVector .vmem S4000 .i32 := Memref.whole cc0_scratch4

variable (d : Dev nD) (L : grid0.Coords)

/-! ## The buffers in the body's spelling -/

theorem holds_src (q : PosShare TreeShare) (w : S320000.Idx → BitVec 32) :
    (sLoc d ↦{q} (w : Buf (Elt F) (sLoc d)) : sProp 𝕄) ⊢ Holds (F := F) d L aS q (w : S320000.Idx → Elt F .i32) := by
  unfold Holds
  iintro H
  iexists (w : Buf (Elt F) (sLoc d))
  isplitr; · ipureintro; rfl
  rw [show (aS).view.set = Finset.univ from View.set_whole _]
  iexact H

theorem holds_dst (q : PosShare TreeShare) (w : S320000.Idx → BitVec 32) :
    (tLoc d ↦{q} (w : Buf (Elt F) (tLoc d)) : sProp 𝕄) ⊢ Holds (F := F) d L aT q (w : S320000.Idx → Elt F .i32) := by
  unfold Holds
  iintro H
  iexists (w : Buf (Elt F) (tLoc d))
  isplitr; · ipureintro; rfl
  rw [show (aT).view.set = Finset.univ from View.set_whole _]
  iexact H

/-- A whole buffer of the tile, held at some contents. -/
theorem some_whole {sp : Space} {s : Shape} {e : EltTy} (v : Memref sig .scVector sp s e) (hv : v.view.set = Finset.univ) :
    Some' (F := F) d L v = iprop(∃ f, v.view.loc (thr d L) ↦{fullShare} f) := by
  unfold Some' Holds
  rw [hv]
  have h1 : iprop(∃ (w : s.Idx → Elt F e) (f : Buf (Elt F) (v.view.loc (thr d L))), ⌜v.view.read (Elt F) f = w⌝ ∗ (v.view.loc (thr d L) ↦{fullShare} f))
      ⊢ (iprop(∃ f, v.view.loc (thr d L) ↦{fullShare} f) : sProp 𝕄) := by
    iintro ⟨%w, %f, %hf, H⟩
    iexists f; iexact H
  have h2 : iprop(∃ f, v.view.loc (thr d L) ↦{fullShare} f)
      ⊢ (iprop(∃ (w : s.Idx → Elt F e) (f : Buf (Elt F) (v.view.loc (thr d L))), ⌜v.view.read (Elt F) f = w⌝ ∗ (v.view.loc (thr d L) ↦{fullShare} f)) : sProp 𝕄) := by
    iintro ⟨%f, H⟩
    iexists _, f
    isplitr; · ipureintro; rfl
    iexact H
  exact BI.Entails.antisymm h1 h2

/-- The first output's block of tile `L`. -/
abbrev blk0 (h1 : k0_cond1 L = 1#1) (h3 : k0_cond3 L = 1#1) : Memref sig .scVector .hbm S102400 .f32 :=
  aO0.slice (Rect.unit (s := S1331200) (k0_off15 L) S102400.size (k0_off15_inb L h1 h3)) (fun _ => rfl)
/-- The second output's. -/
abbrev blk1 (h1 : k0_cond1 L = 1#1) (h4 : k0_cond4 L = 1#1) : Memref sig .scVector .hbm S102400 .f32 :=
  aO1.slice (Rect.unit (s := S1331200) (k0_off16 L) S102400.size (k0_off16_inb L h1 h4)) (fun _ => rfl)

theorem rect_blk {off : Fin 1 → Nat} {inb : ∀ a, off a + S102400.size a ≤ S1331200.size a} (i : ℕ) (h : off 0 = 102400 * i) :
    (Rect.unit (s := S1331200) off S102400.size inb).set = blkSet i := by
  ext j
  rw [Rect.mem_set_unit, blkSet, Finset.mem_filter]
  have hsz : S102400.size 0 = 102400 := rfl
  constructor
  · intro hj
    have := hj 0
    rw [h, hsz] at this
    exact ⟨Finset.mem_univ _, by omega⟩
  · rintro ⟨-, hj⟩ a
    obtain rfl : a = 0 := Subsingleton.elim _ _
    rw [h, hsz]
    omega

theorem set_blk0 (h1 : k0_cond1 L = 1#1) (h3 : k0_cond3 L = 1#1) : (blk0 L h1 h3).view.set = blkSet (L 1).val := by
  show ((View.whole main_v4_0_scv).slice (Rect.unit (s := S1331200) (k0_off15 L) S102400.size (k0_off15_inb L h1 h3))).set = _
  rw [View.set_slice_whole]; exact rect_blk _ (off15_eq L)
theorem set_blk1 (h1 : k0_cond1 L = 1#1) (h4 : k0_cond4 L = 1#1) : (blk1 L h1 h4).view.set = blkSet (L 1).val := by
  show ((View.whole main_v4_1_scv).slice (Rect.unit (s := S1331200) (k0_off16 L) S102400.size (k0_off16_inb L h1 h4))).set = _
  rw [View.set_slice_whole]; exact rect_blk _ (off16_eq L)

/-- A contents that reads a tile's accumulator on its block is the output's there. -/
theorem val_blk {off : Fin 1 → Nat} {inb : ∀ a, off a + S102400.size a ≤ S1331200.size a} (i c : ℕ) (h : off 0 = 102400 * i)
    (src dst : S320000.Idx → BitVec 32) (f : Vec F S1331200 .f32)
    (hf : ∀ x, f ((Rect.unit (s := S1331200) off S102400.size inb).emb x) = accAt (F := F) (BitVec.ofNat 32 (8 * i)) src dst (160000 * c) 10000 x) :
    ∀ j ∈ blkSet i, f j = outVal src dst c j := by
  intro j hj
  rw [← rect_blk (inb := inb) i h, ← Rect.map_emb_univ] at hj
  obtain ⟨x, -, rfl⟩ := Finset.mem_map.mp hj
  rw [hf]
  have hx : (x 0).val < 102400 := (x 0).isLt
  have e : (((Rect.unit (s := S1331200) off S102400.size inb).emb x) 0).val = 102400 * i + (x 0).val := by
    show off 0 + 1 * (x 0).val = _
    omega
  unfold outVal
  rw [show (((Rect.unit (s := S1331200) off S102400.size inb).emb x) 0).val / 102400 = i by rw [e]; omega]
  congr 1
  funext a
  obtain rfl : a = 0 := Subsingleton.elim _ _
  apply Fin.ext
  show (x 0).val = (((Rect.unit (s := S1331200) off S102400.size inb).emb x) 0).val % 102400
  rw [e]; omega

/-! ## The tile's own semaphores and buffers -/

abbrev cA : GSem nD τ sig := (thr d L, .dma cc0_scratch5.sem)
abbrev cB : GSem nD τ sig := (thr d L, .dma cc0_scratch6.sem)
abbrev cC : GSem nD τ sig := (thr d L, .dma cc0_scoped0.sem)
abbrev cD : GSem nD τ sig := (thr d L, .dma cc0_scoped1.sem)

theorem mem_cells (x : DmaSem sig) (h : (SemLoc.dma x : SemLoc sig).isScoped .scVector = true) : ((thr d L, .dma x) : GSem nD τ sig) ∈ ownCells (thr d L) :=
  mem_ownCells.mpr ⟨rfl, h⟩

theorem ne_cells {x y : DmaSem sig} (h : x ≠ y) : ((thr d L, .dma x) : GSem nD τ sig) ≠ (thr d L, .dma y) := fun e => h (by
  have := congrArg Prod.snd e
  exact SemLoc.dma.inj this)

omit [FloatOps F] in
theorem ownSems0_V :
    (ownSems0 (thr d L) : sProp 𝕄)
      = iprop(semVal (cA d L) 0 ∗ semVal (cB d L) 0 ∗ semVal (cC d L) 0 ∗ semVal (cD d L) 0
          ∗ bigSep (((((ownCells (thr d L)).erase (cA d L)).erase (cB d L)).erase (cC d L)).erase (cD d L)) fun g => semVal g 0) := by
  unfold SparseCore.Cfg.ownSems0
  rw [SparseCore.bigSep_erase' (mem_cells d L cc0_scratch5.sem (by decide)),
    SparseCore.bigSep_erase' (Finset.mem_erase.mpr ⟨ne_cells d L (by decide), mem_cells d L cc0_scratch6.sem (by decide)⟩),
    SparseCore.bigSep_erase' (Finset.mem_erase.mpr ⟨ne_cells d L (by decide), Finset.mem_erase.mpr ⟨ne_cells d L (by decide), mem_cells d L cc0_scoped0.sem (by decide)⟩⟩),
    SparseCore.bigSep_erase' (Finset.mem_erase.mpr ⟨ne_cells d L (by decide), Finset.mem_erase.mpr ⟨ne_cells d L (by decide),
      Finset.mem_erase.mpr ⟨ne_cells d L (by decide), mem_cells d L cc0_scoped1.sem (by decide)⟩⟩⟩)]

abbrev rf (b : Ref sig .scVector) : DevRef τ sig := (Proc.scVector (cV L) (jV L)).devRef b

theorem ne_rf {x y : Ref sig .scVector} (h : x ≠ y) : rf L x ≠ rf L y := fun e => h (Proc.devRef_injective _ e)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ bigSep ((((((ownRefs (τ := τ) (.scVector (cV L) (jV L))).erase (rf L cc0_scratch0)).erase (rf L cc0_scratch1)).erase (rf L cc0_scratch2)).erase
              (rf L cc0_scratch3)).erase (rf L cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := rf L cc0_scratch0) rfl)).trans ?_
  rw [SparseCore.bigSep_erase' (Finset.mem_erase.mpr ⟨ne_rf L (by decide), SparseCore.Cfg.mem_ownRefs_of_owner (p := Proc.scVector (cV L) (jV L)) (b := rf L cc0_scratch1) rfl⟩),
    SparseCore.bigSep_erase' (Finset.mem_erase.mpr ⟨ne_rf L (by decide), Finset.mem_erase.mpr ⟨ne_rf L (by decide),
      SparseCore.Cfg.mem_ownRefs_of_owner (p := Proc.scVector (cV L) (jV L)) (b := rf L cc0_scratch2) rfl⟩⟩),
    SparseCore.bigSep_erase' (Finset.mem_erase.mpr ⟨ne_rf L (by decide), Finset.mem_erase.mpr ⟨ne_rf L (by decide), Finset.mem_erase.mpr ⟨ne_rf L (by decide),
      SparseCore.Cfg.mem_ownRefs_of_owner (p := Proc.scVector (cV L) (jV L)) (b := rf L cc0_scratch3) rfl⟩⟩⟩),
    SparseCore.bigSep_erase' (Finset.mem_erase.mpr ⟨ne_rf L (by decide), Finset.mem_erase.mpr ⟨ne_rf L (by decide), Finset.mem_erase.mpr ⟨ne_rf L (by decide),
      Finset.mem_erase.mpr ⟨ne_rf L (by decide), SparseCore.Cfg.mem_ownRefs_of_owner (p := Proc.scVector (cV L) (jV L)) (b := rf L cc0_scratch4) rfl⟩⟩⟩⟩)]

/-! ## The task -/

variable (m : (ℓ : Loc nD τ sig) → Buf (Elt F) ℓ) (sE dE : Dev nD → S320000.Idx → BitVec 32)

/-- The tile's scratch at rest. -/
def Scratch : sProp 𝕄 :=
  iprop(Some' (F := F) d L aAcc ∗ Some' d L aB1 ∗ Some' d L aB2 ∗ Some' d L aB3 ∗ Some' d L aB4
    ∗ semVal (cA d L) 0 ∗ semVal (cB d L) 0 ∗ semVal (cC d L) 0 ∗ semVal (cD d L) 0)

theorem blk_empty (i : ℕ) (hi : 13 ≤ i) : blkSet i = ∅ := by
  rw [blkSet, Finset.filter_eq_empty_iff]
  intro j _ hj
  have : (j 0).val < 1331200 := (j 0).isLt
  omega

theorem out_empty (c i : ℕ) (hi : 13 ≤ i) (f : Vec F S1331200 .f32) : outPts (F := F) d c (blkSet i) f = iprop(emp) := by
  unfold outPts; rw [blk_empty i hi]; split <;> exact pointsTo_empty

theorem out_pos (c : ℕ) (h : c = 0) (I : Finset S1331200.Idx) (f : Vec F S1331200 .f32) :
    outPts (F := F) d c I f = (o0Loc d ↦[I]{fullShare} f) := if_pos h
theorem out_neg (c : ℕ) (h : c ≠ 0) (I : Finset S1331200.Idx) (f : Vec F S1331200 .f32) :
    outPts (F := F) d c I f = (o1Loc d ↦[I]{fullShare} f) := if_neg h

/-- What a tile of either core that takes part does after its walk: its accumulator to its block. -/
theorem run (hE : ∀ d, EdgesOK (sE d) (dE d)) (O : CellTallies nD τ sig (HIx 1)) (hO : ∀ g, O g none = 0) :
    iprop(levAts (K (F := F)).L (K (F := F)).lev ∗ goP m sE dE d (L 0).val (L 1).val ∗ Scratch d L ∗ Owes d L O)
      ⊢ WP d L (cc0__adj_sc_body L aS (Memref.isWhole_whole _) aT (Memref.isWhole_whole _) aO0 (Memref.isWhole_whole _) aO1 (Memref.isWhole_whole _) aAcc (Memref.isWhole_whole _) aB1 (Memref.isWhole_whole _) aB2 (Memref.isWhole_whole _) aB3 (Memref.isWhole_whole _) aB4 (Memref.isWhole_whole _) cc0_scratch5 cc0_scratch6 cc0_scoped0 cc0_scoped1)
          (fun _ => iprop(tdP sE dE d (L 0).val (L 1).val ∗ Scratch d L ∗ Owes d L O)) := by
  simp only [cc0__adj_sc_body_eq_skeleton]; unfold cc0__adj_sc_body_skel
  simp only [Prog.lift, Prog.bind_op, Prog.bind_ret, Prog.pure_eq_ret]
  unfold goP tdP Scratch
  iintro ⟨#Hlv, ⟨Hs, Hd, Ho⟩, ⟨Hacc, H1, H2, H3, H4, HvA, HvB, HvC, HvD⟩, HO⟩
  iapply (head (F := F) d L aS (Memref.isWhole_whole _) aT (Memref.isWhole_whole _) aO0 (Memref.isWhole_whole _) aO1 (Memref.isWhole_whole _) aAcc (Memref.isWhole_whole _) aB1 (Memref.isWhole_whole _) aB2 (Memref.isWhole_whole _) aB3 (Memref.isWhole_whole _) aB4 (Memref.isWhole_whole _) cc0_scratch5 cc0_scratch6 cc0_scoped0 cc0_scoped1) $$ Hacc
  iintro %_ %_ %_ %_ Hacc
  by_cases h1 : k0_cond1 L = 1#1
  · have hs : (L 1).val < 13 := (cond1_iff L).mp h1
    have hc : (L 0).val < 2 := (L 0).isLt
    simp only [dif_pos h1, Prog.bind_op, Prog.bind_ret, Prog.bind_assoc]
    ihave Hs' := (holds_src (F := F) d L _ _) $$ Hs
    ihave Hd' := (holds_dst (F := F) d L _ _) $$ Hd
    iapply (pairs (F := F) d L aS (Memref.isWhole_whole _) aT (Memref.isWhole_whole _) aO0 (Memref.isWhole_whole _) aO1 (Memref.isWhole_whole _) aAcc (Memref.isWhole_whole _) aB1 (Memref.isWhole_whole _) aB2 (Memref.isWhole_whole _) aB3 (Memref.isWhole_whole _) aB4 (Memref.isWhole_whole _) cc0_scratch5 cc0_scratch6 cc0_scoped0 cc0_scoped1 (qT (L 0).val (L 1).val) (qT (L 0).val (L 1).val) (hE d) hO h1) $$ [Hacc H1 H2 H3 H4 HvA HvB HO Hs' Hd']
    · isplitr; · iexact Hlv
      isplitl [Hacc]; · iexact Hacc
      isplitl [H3]; · iexact H3
      isplitl [H4]; · iexact H4
      isplitl [HO]; · iexact HO
      unfold Idle
      isplitl [H1]; · iexact H1
      isplitl [H2]; · iexact H2
      isplitl [Hs']; · iexact Hs'
      isplitl [Hd']; · iexact Hd'
      isplitl [HvA]; · iexact HvA
      iexact HvB
    unfold PairInv
    rw [if_neg (by decide)]
    unfold Idle
    iintro ⟨-, Hacc, H3, H4, HO, H1, H2, Hs, Hd, HvA, HvB⟩
    by_cases h3 : k0_cond3 L = 1#1
    · have e0 : (L 0).val = 0 := (cond3_iff L).mp h3
      have h4 : ¬ k0_cond4 L = 1#1 := fun h => by have := (cond4_iff L).mp h; omega
      simp only [dif_pos h3, dif_neg h4, Prog.bind_op, Prog.bind_ret]
      iapply (step_out (F := F) d L aAcc (blk0 L h1 h3) cc0_scoped0.sem _ hO) $$ [Hacc Ho HvC HO]
      · isplitr; · iexact Hlv
        isplitl [Hacc]; · iexact Hacc
        isplitl [Ho]
        · unfold Some' Holds
          rw [set_blk0]
          iexists _, (outInit m d (L 0).val : Buf (Elt F) (o0Loc d))
          isplitr; · ipureintro; rfl
          iapply (Entails.of_eq (out_pos (F := F) d _ e0 _ (outInit m d (L 0).val))) $$ Ho
        isplitl [HvC]; · iexact HvC
        iexact HO
      iintro ⟨Hacc, Ho, HvC, HO⟩
      iapply (le_wp_ret)
      isplitl [Ho]
      · unfold Holds
        icases Ho with ⟨%f, %hf, Ho⟩
        rw [set_blk0]
        unfold outPts
        rw [if_pos e0]
        iapply (Entails.of_eq (pointsTo_congr (val_blk (F := F) (L 1).val (L 0).val (off15_eq L) (sE d) (dE d) f (fun x => congrFun hf x)))) $$ Ho
      isplitr [HO]
      swap; · iexact HO
      unfold Some'
      isplitl [Hacc]; · iexists _; iexact Hacc
      isplitl [H1]; · iexact H1
      isplitl [H2]; · iexact H2
      isplitl [H3]; · iexact H3
      isplitl [H4]; · iexact H4
      isplitl [HvA]; · iexact HvA
      isplitl [HvB]; · iexact HvB
      isplitl [HvC]; · iexact HvC
      iexact HvD
    · have e0 : (L 0).val ≠ 0 := fun h => h3 ((cond3_iff L).mpr h)
      have h4 : k0_cond4 L = 1#1 := (cond4_iff L).mpr (by omega)
      simp only [dif_neg h3, dif_pos h4, Prog.bind_op, Prog.bind_ret]
      iapply (step_out (F := F) d L aAcc (blk1 L h1 h4) cc0_scoped1.sem _ hO) $$ [Hacc Ho HvD HO]
      · isplitr; · iexact Hlv
        isplitl [Hacc]; · iexact Hacc
        isplitl [Ho]
        · unfold Some' Holds
          rw [set_blk1]
          iexists _, (outInit m d (L 0).val : Buf (Elt F) (o1Loc d))
          isplitr; · ipureintro; rfl
          iapply (Entails.of_eq (out_neg (F := F) d _ e0 _ (outInit m d (L 0).val))) $$ Ho
        isplitl [HvD]; · iexact HvD
        iexact HO
      iintro ⟨Hacc, Ho, HvD, HO⟩
      iapply (le_wp_ret)
      isplitl [Ho]
      · unfold Holds
        icases Ho with ⟨%f, %hf, Ho⟩
        rw [set_blk1]
        unfold outPts
        rw [if_neg e0]
        iapply (Entails.of_eq (pointsTo_congr (val_blk (F := F) (L 1).val (L 0).val (off16_eq L) (sE d) (dE d) f (fun x => congrFun hf x)))) $$ Ho
      isplitr [HO]
      swap; · iexact HO
      unfold Some'
      isplitl [Hacc]; · iexists _; iexact Hacc
      isplitl [H1]; · iexact H1
      isplitl [H2]; · iexact H2
      isplitl [H3]; · iexact H3
      isplitl [H4]; · iexact H4
      isplitl [HvA]; · iexact HvA
      isplitl [HvB]; · iexact HvB
      isplitl [HvC]; · iexact HvC
      iexact HvD
  · have hs : 13 ≤ (L 1).val := by
      by_contra h
      exact h1 ((cond1_iff L).mpr (by omega))
    simp only [dif_neg h1, Prog.bind_ret]
    iapply (le_wp_ret)
    isplitl [Ho]
    · iapply (Entails.of_eq ((out_empty (F := F) d _ _ hs (outInit m d (L 0).val)).trans (out_empty (F := F) d _ _ hs (outVal (sE d) (dE d) (L 0).val)).symm)) $$ Ho
    unfold ZeroTo
    icases Hacc with ⟨%w, -, Hacc⟩
    isplitr [HO]
    swap; · iexact HO
    unfold Some'
    isplitl [Hacc]; · iexists _; iexact Hacc
    isplitl [H1]; · iexact H1
    isplitl [H2]; · iexact H2
    isplitl [H3]; · iexact H3
    isplitl [H4]; · iexact H4
    isplitl [HvA]; · iexact HvA
    isplitl [HvB]; · iexact HvB
    isplitl [HvC]; · iexact HvC
    iexact HvD

theorem tile_body (hF : (K (F := F)).Facts) (hE : ∀ d, EdgesOK (sE d) (dE d)) (O : CellTallies nD τ sig (HIx 1)) (W : Waits sig (HIx 1)) (hO : ∀ g, O g none = 0) :
    iprop(levAts (K (F := F)).L (K (F := F)).lev ∗ emp ∗ goP m sE dE d (L 0).val (L 1).val
        ∗ scopedBufs (thr d L) ∗ scopedSems0 (thr d L) ∗ owes (thr d L) O W)
      ⊢ WP d L (cc0__adj_sc_body L aS (Memref.isWhole_whole _) aT (Memref.isWhole_whole _) aO0 (Memref.isWhole_whole _) aO1 (Memref.isWhole_whole _) aAcc (Memref.isWhole_whole _) aB1 (Memref.isWhole_whole _) aB2 (Memref.isWhole_whole _) aB3 (Memref.isWhole_whole _) aB4 (Memref.isWhole_whole _) cc0_scratch5 cc0_scratch6 cc0_scoped0 cc0_scoped1)
          fun _ => iprop(tdP sE dE d (L 0).val (L 1).val ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, Hg, ⟨Hacc, H1, H2, H3, H4, Hb⟩, ⟨HvA, HvB, HvC, HvD, Hv⟩, HO⟩
  iapply (wp_wand) $$ [Hg Hacc H1 H2 H3 H4 HvA HvB HvC HvD HO]
  · iapply (run (F := F) d L m sE dE hE O hO)
    isplitr; · iexact Hlv
    isplitl [Hg]; · iexact Hg
    isplitr [HO]
    · unfold Scratch
      rw [some_whole d L aAcc (View.set_whole _), some_whole d L aB1 (View.set_whole _), some_whole d L aB2 (View.set_whole _), some_whole d L aB3 (View.set_whole _), some_whole d L aB4 (View.set_whole _)]
      isplitl [Hacc]; · iexact Hacc
      isplitl [H1]; · iexact H1
      isplitl [H2]; · iexact H2
      isplitl [H3]; · iexact H3
      isplitl [H4]; · iexact H4
      isplitl [HvA]; · iexact HvA
      isplitl [HvB]; · iexact HvB
      isplitl [HvC]; · iexact HvC
      iexact HvD
    · unfold Owes
      iexists W; iexact HO
  unfold Scratch Owes
  rw [some_whole d L aAcc (View.set_whole _), some_whole d L aB1 (View.set_whole _), some_whole d L aB2 (View.set_whole _), some_whole d L aB3 (View.set_whole _), some_whole d L aB4 (View.set_whole _)]
  iintro %_ ⟨Hg, ⟨Hacc, H1, H2, H3, H4, HvA, HvB, HvC, HvD⟩, %W', HO⟩
  isplitl [Hg]; · iexact Hg
  isplitl [Hacc H1 H2 H3 H4 Hb]
  · isplitl [Hacc]; · iexact Hacc
    isplitl [H1]; · iexact H1
    isplitl [H2]; · iexact H2
    isplitl [H3]; · iexact H3
    isplitl [H4]; · iexact H4
    iexact Hb
  isplitl [HvA HvB HvC HvD Hv]
  · isplitl [HvA]; · iexact HvA
    isplitl [HvB]; · iexact HvB
    isplitl [HvC]; · iexact HvC
    isplitl [HvD]; · iexact HvD
    iexact Hv
  iexists W'; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__adj_sc_body (coordsV c s)
          aS (Memref.isWhole_whole _) aT (Memref.isWhole_whole _) aO0 (Memref.isWhole_whole _) aO1 (Memref.isWhole_whole _) aAcc (Memref.isWhole_whole _) aB1 (Memref.isWhole_whole _) aB2 (Memref.isWhole_whole _) aB3 (Memref.isWhole_whole _) aB4 (Memref.isWhole_whole _) cc0_scratch5 cc0_scratch6 cc0_scoped0 cc0_scoped1) ⟨⟩ c s := rfl

theorem tileObl (hF : (K (F := F)).Facts) (hE : ∀ d, EdgesOK (sE d) (dE d)) : (K (F := F)).TileObl (D (F := F)) 𝒱 (P m sE dE) v₀ 0 := by
  intro d c i O W hO _ _
  simp only [show (P m sE dE).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) m sE dE hF hE O W hO

end Cert.Proof.Adj
-- ==== Proof.MegaSlab.lean ====
/-
  A stack of a hundred slabs, one per graph, and a loop that writes four of them a trip: what one trip's stores leave readable. Nothing
  here is about a particular loop.
-/
module

public import proofs.«01_k».proof.Proof.Gen.KernelIdeal.Skeleton
public import Idealize.ShloMosaic.Lib.Writes
public import Idealize.ShloMosaic.Lib.Pointwise.Index

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev Sh (n r c : ℕ) : Shape := ⟨3, ![n, r, c]⟩

/-- Slab `g` of a stack, and the stack of given slabs. -/
def slab {α : Type} {r c : ℕ} (X : (Sh 100 r c).Idx → α) (g : Fin 100) : (Sh 1 r c).Idx → α := fun j => X (ix3 g (j 1) (j 2))
def stack {α : Type} {r c : ℕ} (G : Fin 100 → (Sh 1 r c).Idx → α) : (Sh 100 r c).Idx → α := fun i => G (i 0) (ix3 0 (i 1) (i 2))

theorem slab_stack {α : Type} {r c : ℕ} (G : Fin 100 → (Sh 1 r c).Idx → α) (g : Fin 100) : slab (stack G) g = G g := by
  funext j
  unfold slab stack
  refine congrArg (G g) ?_
  funext a
  match a with
  | ⟨0, _⟩ => exact Fin.ext (by have h : (j 0).val < 1 := (j 0).isLt; show 0 = (j 0).val; omega)
  | ⟨1, _⟩ => rfl
  | ⟨2, _⟩ => rfl

theorem congr3 {α β γ δ : Type} (f : α → β → γ → δ) {a a' : α} {b b' : β} {c c' : γ} (ha : a = a') (hb : b = b') (hc : c = c') : f a b c = f a' b' c' := by
  subst ha hb hc; rfl

/-- The slabs below `n` read as the stack's. -/
def Upto {r c : ℕ} {e : EltTy} (arg : Memref sig .tc .vmem (Sh 100 r c) e) (f : BufTy.Contents (Elt F) arg.view.ty) (n : ℕ)
    (G : Fin 100 → (Sh 1 r c).Idx → Elt F e) : Prop :=
  ∀ i : (Sh 100 r c).Idx, (i 0).val < n → arg.view.read (Elt F) f i = stack G i

@[simp] theorem upto_zero {r c : ℕ} {e : EltTy} (arg : Memref sig .tc .vmem (Sh 100 r c) e) (f : BufTy.Contents (Elt F) arg.view.ty)
    (G : Fin 100 → (Sh 1 r c).Idx → Elt F e) : Upto arg f 0 G := fun _ h => absurd h (Nat.not_lt_zero _)

/-- All hundred slabs written: the memref reads as the stack. -/
theorem upto_all {r c : ℕ} {e : EltTy} {arg : Memref sig .tc .vmem (Sh 100 r c) e} {f : BufTy.Contents (Elt F) arg.view.ty} {n : ℕ}
    {G : Fin 100 → (Sh 1 r c).Idx → Elt F e} (h : Upto arg f n G) (hn : n = 100) : arg.view.read (Elt F) f = stack G := by
  subst hn; exact funext fun i => h i (i 0).isLt

/-- A load of slab `g`. -/
theorem readAt_slab {r c : ℕ} {e : EltTy} (arg : Memref sig .tc .vmem (Sh 100 r c) e) (f : BufTy.Contents (Elt F) arg.view.ty)
    {off : Fin 3 → ℕ} {inb : ∀ a, off a + (Sh 1 r c).size a ≤ (Sh 100 r c).size a} {g : ℕ} (hg : g < 100) (ho : off = ![g, 0, 0]) :
    arg.view.readAt (Elt F) (Rect.unit (s := Sh 100 r c) off (Sh 1 r c).size inb).toLoadRect f = slab (arg.view.read (Elt F) f) ⟨g, hg⟩ := by
  subst ho
  funext x
  rw [View.readAt_apply]
  unfold slab
  refine congrArg _ ?_
  funext a
  match a with
  | ⟨0, _⟩ => exact Fin.ext (by have h : (x 0).val < 1 := (x 0).isLt; show g + 1 * (x 0).val = g; omega)
  | ⟨1, _⟩ => exact Fin.ext (show 0 + 1 * (x 1).val = (x 1).val by omega)
  | ⟨2, _⟩ => exact Fin.ext (show 0 + 1 * (x 2).val = (x 2).val by omega)

/-- A piece at slab `g` agrees with the stack when its payload is the stack's slab. -/
theorem piece_slab {r c : ℕ} {α : Type} {off : Fin 3 → ℕ} {inb : ∀ a, off a + (Sh 1 r c).size a ≤ (Sh 100 r c).size a} {g : ℕ} (hg : g < 100)
    (ho : off = ![g, 0, 0]) (G : Fin 100 → (Sh 1 r c).Idx → α) (x : (Sh 1 r c).Idx) :
    G ⟨g, hg⟩ x = stack G ((Rect.unit (s := Sh 100 r c) off (Sh 1 r c).size inb).emb x) := by
  subst ho
  have e : (Rect.unit (s := Sh 100 r c) ![g, 0, 0] (Sh 1 r c).size inb).emb x = ix3 (⟨g, hg⟩ : Fin 100) (x 1) (x 2) := by
    funext a
    match a with
    | ⟨0, _⟩ => exact Fin.ext (by have h : (x 0).val < 1 := (x 0).isLt; show g + 1 * (x 0).val = g; omega)
    | ⟨1, _⟩ => exact Fin.ext (show 0 + 1 * (x 1).val = (x 1).val by omega)
    | ⟨2, _⟩ => exact Fin.ext (show 0 + 1 * (x 2).val = (x 2).val by omega)
  rw [e]
  exact (congrFun (slab_stack G ⟨g, hg⟩) x).symm

theorem mem_slab {r c : ℕ} {off : Fin 3 → ℕ} {inb : ∀ a, off a + (Sh 1 r c).size a ≤ (Sh 100 r c).size a} {g : ℕ} (ho : off = ![g, 0, 0])
    (y : (Sh 100 r c).Idx) : y ∈ (Rect.unit (s := Sh 100 r c) off (Sh 1 r c).size inb).set ↔ (y 0).val = g := by
  subst ho
  rw [Rect.mem_set_unit]
  constructor
  · intro h
    have h0 := h 0
    have h1 : g ≤ (y 0).val ∧ (y 0).val < g + 1 := h0
    omega
  · intro h a
    match a with
    | ⟨0, _⟩ => exact show g ≤ (y 0).val ∧ (y 0).val < g + 1 by omega
    | ⟨1, _⟩ => exact show 0 ≤ (y 1).val ∧ (y 1).val < 0 + r from ⟨Nat.zero_le _, by have := (y 1).isLt; simpa using this⟩
    | ⟨2, _⟩ => exact show 0 ≤ (y 2).val ∧ (y 2).val < 0 + c from ⟨Nat.zero_le _, by have := (y 2).isLt; simpa using this⟩

/-- One trip: slabs `4k … 4k+3` written in that order, last first in the list. -/
theorem upto_trip {r c : ℕ} {e : EltTy} {arg : Memref sig .tc .vmem (Sh 100 r c) e} {f : BufTy.Contents (Elt F) arg.view.ty} {k : ℕ} (hk : k < 25)
    {G : Fin 100 → (Sh 1 r c).Idx → Elt F e} {o0 o1 o2 o3 : Fin 3 → ℕ}
    {i0 : ∀ a, o0 a + (Sh 1 r c).size a ≤ (Sh 100 r c).size a} {i1 : ∀ a, o1 a + (Sh 1 r c).size a ≤ (Sh 100 r c).size a}
    {i2 : ∀ a, o2 a + (Sh 1 r c).size a ≤ (Sh 100 r c).size a} {i3 : ∀ a, o3 a + (Sh 1 r c).size a ≤ (Sh 100 r c).size a}
    (h0 : o0 = ![4 * k + 0, 0, 0]) (h1 : o1 = ![4 * k + 1, 0, 0]) (h2 : o2 = ![4 * k + 2, 0, 0]) (h3 : o3 = ![4 * k + 3, 0, 0])
    {w0 w1 w2 w3 : (Sh 1 r c).Idx → Elt F e} (hw0 : w0 = G ⟨4 * k + 0, by omega⟩) (hw1 : w1 = G ⟨4 * k + 1, by omega⟩)
    (hw2 : w2 = G ⟨4 * k + 2, by omega⟩) (hw3 : w3 = G ⟨4 * k + 3, by omega⟩) (h : Upto arg f (4 * k) G) :
    Upto arg (arg.view.writes (Elt F) f [⟨Rect.unit (s := Sh 100 r c) o3 (Sh 1 r c).size i3, w3⟩, ⟨Rect.unit (s := Sh 100 r c) o2 (Sh 1 r c).size i2, w2⟩,
      ⟨Rect.unit (s := Sh 100 r c) o1 (Sh 1 r c).size i1, w1⟩, ⟨Rect.unit (s := Sh 100 r c) o0 (Sh 1 r c).size i0, w0⟩]) (4 * (k + 1)) G := by
  subst hw0 hw1 hw2 hw3
  intro y hy
  by_cases hc : 4 * k ≤ (y 0).val
  · refine View.read_writes_apply_of_pieces (v := arg.view) (f := f) (stack G) _ ?_ y ?_
    · intro p hp x
      simp only [List.mem_cons, List.not_mem_nil, or_false] at hp
      rcases hp with rfl | rfl | rfl | rfl
      · exact piece_slab (inb := i3) (by omega) h3 G x
      · exact piece_slab (inb := i2) (by omega) h2 G x
      · exact piece_slab (inb := i1) (by omega) h1 G x
      · exact piece_slab (inb := i0) (by omega) h0 G x
    · have : (y 0).val = 4 * k + 3 ∨ (y 0).val = 4 * k + 2 ∨ (y 0).val = 4 * k + 1 ∨ (y 0).val = 4 * k + 0 := by omega
      rcases this with e | e | e | e
      · exact ⟨_, .head _, (mem_slab (inb := i3) h3 y).mpr e⟩
      · exact ⟨_, .tail _ (.head _), (mem_slab (inb := i2) h2 y).mpr e⟩
      · exact ⟨_, .tail _ (.tail _ (.head _)), (mem_slab (inb := i1) h1 y).mpr e⟩
      · exact ⟨_, .tail _ (.tail _ (.tail _ (.head _))), (mem_slab (inb := i0) h0 y).mpr e⟩
  · refine (View.read_writes_apply_of_forall_not_mem (v := arg.view) (f := f) y _ ?_).trans (h y (by omega))
    intro p hp
    simp only [List.mem_cons, List.not_mem_nil, or_false] at hp
    rcases hp with rfl | rfl | rfl | rfl
    · exact fun hm => by have := (mem_slab (inb := i3) h3 y).mp hm; omega
    · exact fun hm => by have := (mem_slab (inb := i2) h2 y).mp hm; omega
    · exact fun hm => by have := (mem_slab (inb := i1) h1 y).mp hm; omega
    · exact fun hm => by have := (mem_slab (inb := i0) h0 y).mp hm; omega

end Cert.Proof.Mega
end
-- ==== Proof.MegaSpec.lean ====
/-
  What the dense kernel computes of one graph, stage by stage: each name is one of the printed body's own payloads at the slabs it reads.
-/
module

public import proofs.«01_k».proof.Proof.MegaSlab

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The adjacency, padded to 128 rows. -/
def rowA0 (a b : Vec F S1x100x128 .f32) : Vec F S1x128x128 .f32 := k1_pay3 (k1_pay110 (F := F)) a b
/-- The normalised adjacency times the features. -/
def rowM1 (A X : Vec F S1x128x128 .f32) : Vec F S1x128x128 .f32 := k1_pay6 A X
/-- The first pooling's scores. -/
def rowS1 (A X : Vec F S1x128x128 .f32) : Vec F S1x1x128 .f32 := k1_pay9 A X
/-- The first pooling's features, adjacency, and the normalised product. -/
def rowXp1 (rk : Vec F S1x1x128 .f32) (X : Vec F S1x128x128 .f32) : Vec F S1x64x128 .f32 := k1_pay17 rk X
def rowA1 (rk : Vec F S1x1x128 .f32) (A : Vec F S1x128x128 .f32) : Vec F S1x64x64 .f32 := k1_pay19 rk A
def rowM2 (rk : Vec F S1x1x128 .f32) (A X : Vec F S1x128x128 .f32) : Vec F S1x64x128 .f32 := k1_pay21 (k1_pay16 rk X) (k1_pay20 rk A)
/-- The second pooling's scores. -/
def rowS2 (A : Vec F S1x64x64 .f32) (X : Vec F S1x64x128 .f32) : Vec F S1x1x64 .f32 := k1_pay45 A X
/-- The second pooling's features, adjacency, and the normalised product. -/
def rowXp2 (rk : Vec F S1x1x64 .f32) (X : Vec F S1x64x128 .f32) : Vec F S1x32x128 .f32 := k1_pay53 rk X
def rowA2 (rk : Vec F S1x1x64 .f32) (A : Vec F S1x64x64 .f32) : Vec F S1x32x32 .f32 := k1_pay55 rk A
def rowM3 (rk : Vec F S1x1x64 .f32) (A : Vec F S1x64x64 .f32) (X : Vec F S1x64x128 .f32) : Vec F S1x32x128 .f32 := k1_pay57 (k1_pay52 rk X) (k1_pay56 rk A)
/-- The summary row. -/
def rowSum (X1 : Vec F S1x64x128 .f32) (X2 X3 : Vec F S1x32x128 .f32) : Vec F S1x1x256 .f32 :=
  k1_pay88 (k1_pay83 X1) (k1_pay84 X2) (k1_pay85 X3) (k1_pay86 X1 X2 X3) (k1_pay87 (F := F))

end Cert.Proof.Mega
end
-- ==== Proof.MegaT1.lean ====
/-
  The loop that joins the two halves of the adjacency.
-/
module

public import proofs.«01_k».proof.Proof.MegaSpec
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- The slabs of the trips before `k` are written. -/
@[sl_loop] def inv1 (𝒱 : Variants) (c : Dev nD) (bd : Option 𝒱.V) (E : Set ℕ)
    (x0 : BufTy.Contents (Elt F) arg0.view.ty) (x1 : BufTy.Contents (Elt F) arg1.view.ty) :
    LoopInv (M := 𝕄) Idealize.ShloMosaic.frame (wpE defs₀ 𝒱 (c : Thread nD τ) bd) E
      k1_t1_loop.lb k1_t1_loop.ub k1_t1_loop.st k1_t1_ok () (k1_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) where
  inv k _ := iprop((arg0.view.loc (c : Thread nD τ) ↦[arg0.view.set]{fullShare} x0) ∗ (arg1.view.loc (c : Thread nD τ) ↦[arg1.view.set]{fullShare} x1) ∗ (∃ f, (arg24.view.loc (c : Thread nD τ) ↦[arg24.view.set]{fullShare} f) ∗ ⌜Upto arg24 f (4 * k) (fun g => rowA0 (slab (arg0.view.read (Elt F) x0) g) (slab (arg1.view.read (Elt F) x1) g))⌝))
  step k acc := by
    have hk : k.val < 25 := Nat.lt_of_lt_of_le k.isLt k1_t1_abs.2.1
    unfold k1_t1_body
    iintro ⟨Harg0, Harg1, ⟨%f24, Harg24, %h24⟩⟩
    sl_exec
    sl_step
    isplitl [Harg0]; · iexact Harg0
    isplitl [Harg1]; · iexact Harg1
    iexists _; isplitl [Harg24]; · iexact Harg24
    ipureintro
    refine upto_trip hk (k1_off2_eq k 0) (k1_off2_eq k 1) (k1_off2_eq k 2) (k1_off2_eq k 3) ?_ ?_ ?_ ?_ h24
    · exact (congrArg₂ (rowA0 (F := F)) (readAt_slab arg0 x0 _ (k1_off1_eq k 0)) (readAt_slab arg1 x1 _ (k1_off1_eq k 0)))
    · exact (congrArg₂ (rowA0 (F := F)) (readAt_slab arg0 x0 _ (k1_off1_eq k 1)) (readAt_slab arg1 x1 _ (k1_off1_eq k 1)))
    · exact (congrArg₂ (rowA0 (F := F)) (readAt_slab arg0 x0 _ (k1_off1_eq k 2)) (readAt_slab arg1 x1 _ (k1_off1_eq k 2)))
    · exact (congrArg₂ (rowA0 (F := F)) (readAt_slab arg0 x0 _ (k1_off1_eq k 3)) (readAt_slab arg1 x1 _ (k1_off1_eq k 3)))

end Cert.Proof.Mega
end
-- ==== Proof.MegaT2.lean ====
/-
  The loop of the first propagation.
-/
module

public import proofs.«01_k».proof.Proof.MegaSpec
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- The slabs of the trips before `k` are written. -/
@[sl_loop] def inv2 (𝒱 : Variants) (c : Dev nD) (bd : Option 𝒱.V) (E : Set ℕ)
    (x24 : BufTy.Contents (Elt F) arg24.view.ty) (x2 : BufTy.Contents (Elt F) arg2.view.ty) :
    LoopInv (M := 𝕄) Idealize.ShloMosaic.frame (wpE defs₀ 𝒱 (c : Thread nD τ) bd) E
      k1_t2_loop.lb k1_t2_loop.ub k1_t2_loop.st k1_t2_ok () (k1_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) where
  inv k _ := iprop((arg24.view.loc (c : Thread nD τ) ↦[arg24.view.set]{fullShare} x24) ∗ (arg2.view.loc (c : Thread nD τ) ↦[arg2.view.set]{fullShare} x2) ∗ (∃ f, (arg21.view.loc (c : Thread nD τ) ↦[arg21.view.set]{fullShare} f) ∗ ⌜Upto arg21 f (4 * k) (fun g => rowM1 (slab (arg24.view.read (Elt F) x24) g) (slab (arg2.view.read (Elt F) x2) g))⌝))
  step k acc := by
    have hk : k.val < 25 := Nat.lt_of_lt_of_le k.isLt k1_t2_abs.2.1
    unfold k1_t2_body
    iintro ⟨Harg24, Harg2, ⟨%f21, Harg21, %h21⟩⟩
    sl_exec
    sl_step
    isplitl [Harg24]; · iexact Harg24
    isplitl [Harg2]; · iexact Harg2
    iexists _; isplitl [Harg21]; · iexact Harg21
    ipureintro
    refine upto_trip hk (k1_off3_eq k 0) (k1_off3_eq k 1) (k1_off3_eq k 2) (k1_off3_eq k 3) ?_ ?_ ?_ ?_ h21
    · exact (congrArg₂ (rowM1 (F := F)) (readAt_slab arg24 x24 _ (k1_off3_eq k 0)) (readAt_slab arg2 x2 _ (k1_off3_eq k 0)))
    · exact (congrArg₂ (rowM1 (F := F)) (readAt_slab arg24 x24 _ (k1_off3_eq k 1)) (readAt_slab arg2 x2 _ (k1_off3_eq k 1)))
    · exact (congrArg₂ (rowM1 (F := F)) (readAt_slab arg24 x24 _ (k1_off3_eq k 2)) (readAt_slab arg2 x2 _ (k1_off3_eq k 2)))
    · exact (congrArg₂ (rowM1 (F := F)) (readAt_slab arg24 x24 _ (k1_off3_eq k 3)) (readAt_slab arg2 x2 _ (k1_off3_eq k 3)))

end Cert.Proof.Mega
end
-- ==== Proof.MegaT3.lean ====
/-
  The loop of the first scores.
-/
module

public import proofs.«01_k».proof.Proof.MegaSpec
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- What it reads stays; the slabs of the trips before `k` are written. -/
@[sl_loop] def inv3 (𝒱 : Variants) (c : Dev nD) (bd : Option 𝒱.V) (E : Set ℕ) (v19 : FVec F S12800x128 .f32) (v22 : BitVec 32) (v24 : IVec S12800x128 32) (v26 : IVec S12800x128 1) (c0_i32_24 : BitVec 32)
    (x24 : BufTy.Contents (Elt F) arg24.view.ty) (x9 : BufTy.Contents (Elt F) arg9.view.ty) :
    LoopInv (M := 𝕄) Idealize.ShloMosaic.frame (wpE defs₀ 𝒱 (c : Thread nD τ) bd) E
      k1_t3_loop.lb k1_t3_loop.ub k1_t3_loop.st k1_t3_ok () (k1_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v19 v22 v24 v26 c0_i32_24) where
  inv k _ := iprop((arg24.view.loc (c : Thread nD τ) ↦[arg24.view.set]{fullShare} x24) ∗ (arg9.view.loc (c : Thread nD τ) ↦[arg9.view.set]{fullShare} x9) ∗ (∃ f, (arg13.view.loc (c : Thread nD τ) ↦[arg13.view.set]{fullShare} f) ∗ ⌜Upto arg13 f (4 * k) (fun g => rowS1 (slab (arg24.view.read (Elt F) x24) g) (slab (arg9.view.read (Elt F) x9) g))⌝))
  step k acc := by
    have hk : k.val < 25 := Nat.lt_of_lt_of_le k.isLt k1_t3_abs.2.1
    unfold k1_t3_body
    iintro ⟨Harg24, Harg9, ⟨%f13, Harg13, %h13⟩⟩
    sl_exec
    sl_step
    isplitl [Harg24]; · iexact Harg24
    isplitl [Harg9]; · iexact Harg9
    iexists _; isplitl [Harg13]; · iexact Harg13
    ipureintro
    refine upto_trip hk (k1_off5_eq k 0) (k1_off5_eq k 1) (k1_off5_eq k 2) (k1_off5_eq k 3) ?_ ?_ ?_ ?_ h13
    · exact (congrArg₂ (rowS1 (F := F)) (readAt_slab arg24 x24 _ (k1_off4_eq k 0)) (readAt_slab arg9 x9 _ (k1_off4_eq k 0)))
    · exact (congrArg₂ (rowS1 (F := F)) (readAt_slab arg24 x24 _ (k1_off4_eq k 1)) (readAt_slab arg9 x9 _ (k1_off4_eq k 1)))
    · exact (congrArg₂ (rowS1 (F := F)) (readAt_slab arg24 x24 _ (k1_off4_eq k 2)) (readAt_slab arg9 x9 _ (k1_off4_eq k 2)))
    · exact (congrArg₂ (rowS1 (F := F)) (readAt_slab arg24 x24 _ (k1_off4_eq k 3)) (readAt_slab arg9 x9 _ (k1_off4_eq k 3)))

end Cert.Proof.Mega
end
-- ==== Proof.MegaLane.lean ====
/-
  The product of the first pooling's trip is printed for its four graphs cut into payloads in four ways; each is the first graph's.
-/
module

public import proofs.«01_k».proof.Proof.MegaSpec

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 1000000 in
theorem rowM2_lane1 (rk : Vec F S1x1x128 .f32) (A X : Vec F S1x128x128 .f32) :
    k1_pay29 (k1_pay28 (k1_pay22 rk) (k1_pay23 A) X) = rowM2 rk A X := by
  simp only [rowM2, k1_pay15, k1_pay16, k1_pay18, k1_pay20, k1_pay21, k1_pay22, k1_pay23, k1_pay24, k1_pay26, k1_pay28, k1_pay29]

set_option maxHeartbeats 1000000 in
theorem rowM2_lane2 (rk : Vec F S1x1x128 .f32) (A X : Vec F S1x128x128 .f32) :
    k1_pay36 (k1_pay31 rk X) (k1_pay33 rk A) k1_pay35 (Scalar.ofBits .f32 0x3F800000#32) = rowM2 rk A X := by
  simp only [rowM2, k1_pay15, k1_pay16, k1_pay18, k1_pay20, k1_pay21, k1_pay30, k1_pay31, k1_pay33, k1_pay35, k1_pay36]

set_option maxHeartbeats 1000000 in
theorem rowM2_lane3 (rk : Vec F S1x1x128 .f32) (A X : Vec F S1x128x128 .f32) :
    k1_pay126 (k1_pay38 (k1_pay37 rk) X) (k1_pay42 (k1_pay37 rk) A) (k1_pay43 (k1_pay37 rk) A) (k1_pay44 (k1_pay37 rk) A) = rowM2 rk A X := by
  simp only [rowM2, k1_pay15, k1_pay16, k1_pay18, k1_pay20, k1_pay21, k1_pay37, k1_pay38, k1_pay40, k1_pay42, k1_pay43, k1_pay44, k1_pay126]

end Cert.Proof.Mega
end
-- ==== Proof.MegaT5.lean ====
/-
  The loop of the first pooling and the second propagation.
-/
module

public import proofs.«01_k».proof.Proof.MegaLane
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- What it reads stays; the slabs of the trips before `k` are written. -/
@[sl_loop] def inv5 (𝒱 : Variants) (c : Dev nD) (bd : Option 𝒱.V) (E : Set ℕ) (v3 : Vec F S128x128 .f32) (v5 : FVec F S1x128 .f32) (c0_i32_46 : BitVec 32)
    (x14 : BufTy.Contents (Elt F) arg14.view.ty) (x24 : BufTy.Contents (Elt F) arg24.view.ty) (x9 : BufTy.Contents (Elt F) arg9.view.ty) :
    LoopInv (M := 𝕄) Idealize.ShloMosaic.frame (wpE defs₀ 𝒱 (c : Thread nD τ) bd) E
      k1_t5_loop.lb k1_t5_loop.ub k1_t5_loop.st k1_t5_ok () (k1_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v3 v5 c0_i32_46) where
  inv k _ := iprop((arg14.view.loc (c : Thread nD τ) ↦[arg14.view.set]{fullShare} x14) ∗ (arg24.view.loc (c : Thread nD τ) ↦[arg24.view.set]{fullShare} x24) ∗ (arg9.view.loc (c : Thread nD τ) ↦[arg9.view.set]{fullShare} x9) ∗ (∃ f, (arg15.view.loc (c : Thread nD τ) ↦[arg15.view.set]{fullShare} f) ∗ ⌜Upto arg15 f (4 * k) (fun g => rowXp1 (slab (arg14.view.read (Elt F) x14) g) (slab (arg9.view.read (Elt F) x9) g))⌝) ∗ (∃ f, (arg16.view.loc (c : Thread nD τ) ↦[arg16.view.set]{fullShare} f) ∗ ⌜Upto arg16 f (4 * k) (fun g => rowA1 (slab (arg14.view.read (Elt F) x14) g) (slab (arg24.view.read (Elt F) x24) g))⌝) ∗ (∃ f, (arg22.view.loc (c : Thread nD τ) ↦[arg22.view.set]{fullShare} f) ∗ ⌜Upto arg22 f (4 * k) (fun g => rowM2 (slab (arg14.view.read (Elt F) x14) g) (slab (arg24.view.read (Elt F) x24) g) (slab (arg9.view.read (Elt F) x9) g))⌝))
  step k acc := by
    have hk : k.val < 25 := Nat.lt_of_lt_of_le k.isLt k1_t5_abs.2.1
    unfold k1_t5_body
    iintro ⟨Harg14, Harg24, Harg9, ⟨%f15, Harg15, %h15⟩, ⟨%f16, Harg16, %h16⟩, ⟨%f22, Harg22, %h22⟩⟩
    sl_exec
    sl_step
    isplitl [Harg14]; · iexact Harg14
    isplitl [Harg24]; · iexact Harg24
    isplitl [Harg9]; · iexact Harg9
    isplitl [Harg15]
    · iexists _; isplitl [Harg15]; · iexact Harg15
      ipureintro
      refine upto_trip hk (k1_off8_eq k 0) (k1_off8_eq k 1) (k1_off8_eq k 2) (k1_off8_eq k 3) ?_ ?_ ?_ ?_ h15
      · exact (congrArg₂ (rowXp1 (F := F)) (readAt_slab arg14 x14 _ (k1_off6_eq k 0)) (readAt_slab arg9 x9 _ (k1_off7_eq k 0)))
      · exact (congrArg₂ (rowXp1 (F := F)) (readAt_slab arg14 x14 _ (k1_off6_eq k 1)) (readAt_slab arg9 x9 _ (k1_off7_eq k 1)))
      · exact (congrArg₂ (rowXp1 (F := F)) (readAt_slab arg14 x14 _ (k1_off6_eq k 2)) (readAt_slab arg9 x9 _ (k1_off7_eq k 2)))
      · exact (congrArg₂ (rowXp1 (F := F)) (readAt_slab arg14 x14 _ (k1_off6_eq k 3)) (readAt_slab arg9 x9 _ (k1_off7_eq k 3)))
    isplitl [Harg16]
    · iexists _; isplitl [Harg16]; · iexact Harg16
      ipureintro
      refine upto_trip hk (k1_off9_eq k 0) (k1_off9_eq k 1) (k1_off9_eq k 2) (k1_off9_eq k 3) ?_ ?_ ?_ ?_ h16
      · exact (congrArg₂ (rowA1 (F := F)) (readAt_slab arg14 x14 _ (k1_off6_eq k 0)) (readAt_slab arg24 x24 _ (k1_off7_eq k 0)))
      · exact (congrArg₂ (rowA1 (F := F)) (readAt_slab arg14 x14 _ (k1_off6_eq k 1)) (readAt_slab arg24 x24 _ (k1_off7_eq k 1)))
      · exact (congrArg₂ (rowA1 (F := F)) (readAt_slab arg14 x14 _ (k1_off6_eq k 2)) (readAt_slab arg24 x24 _ (k1_off7_eq k 2)))
      · exact (congrArg₂ (rowA1 (F := F)) (readAt_slab arg14 x14 _ (k1_off6_eq k 3)) (readAt_slab arg24 x24 _ (k1_off7_eq k 3)))
    iexists _; isplitl [Harg22]; · iexact Harg22
    ipureintro
    refine upto_trip hk (k1_off8_eq k 0) (k1_off8_eq k 1) (k1_off8_eq k 2) (k1_off8_eq k 3) ?_ ?_ ?_ ?_ h22
    · exact (congr3 (rowM2 (F := F)) (readAt_slab arg14 x14 _ (k1_off6_eq k 0)) (readAt_slab arg24 x24 _ (k1_off7_eq k 0)) (readAt_slab arg9 x9 _ (k1_off7_eq k 0)))
    · exact (rowM2_lane1 _ _ _).trans (congr3 (rowM2 (F := F)) (readAt_slab arg14 x14 _ (k1_off6_eq k 1)) (readAt_slab arg24 x24 _ (k1_off7_eq k 1)) (readAt_slab arg9 x9 _ (k1_off7_eq k 1)))
    · exact (rowM2_lane2 _ _ _).trans (congr3 (rowM2 (F := F)) (readAt_slab arg14 x14 _ (k1_off6_eq k 2)) (readAt_slab arg24 x24 _ (k1_off7_eq k 2)) (readAt_slab arg9 x9 _ (k1_off7_eq k 2)))
    · exact (rowM2_lane3 _ _ _).trans (congr3 (rowM2 (F := F)) (readAt_slab arg14 x14 _ (k1_off6_eq k 3)) (readAt_slab arg24 x24 _ (k1_off7_eq k 3)) (readAt_slab arg9 x9 _ (k1_off7_eq k 3)))

end Cert.Proof.Mega
end
-- ==== Proof.MegaT6.lean ====
/-
  The loop of the second scores.
-/
module

public import proofs.«01_k».proof.Proof.MegaSpec
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- What it reads stays; the slabs of the trips before `k` are written. -/
@[sl_loop] def inv6 (𝒱 : Variants) (c : Dev nD) (bd : Option 𝒱.V) (E : Set ℕ) (v3 : Vec F S128x128 .f32) (v5 : FVec F S1x128 .f32) (c0_i32_46 : BitVec 32)
    (x16 : BufTy.Contents (Elt F) arg16.view.ty) (x10 : BufTy.Contents (Elt F) arg10.view.ty) :
    LoopInv (M := 𝕄) Idealize.ShloMosaic.frame (wpE defs₀ 𝒱 (c : Thread nD τ) bd) E
      k1_t6_loop.lb k1_t6_loop.ub k1_t6_loop.st k1_t6_ok () (k1_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v3 v5 c0_i32_46) where
  inv k _ := iprop((arg16.view.loc (c : Thread nD τ) ↦[arg16.view.set]{fullShare} x16) ∗ (arg10.view.loc (c : Thread nD τ) ↦[arg10.view.set]{fullShare} x10) ∗ (∃ f, (arg17.view.loc (c : Thread nD τ) ↦[arg17.view.set]{fullShare} f) ∗ ⌜Upto arg17 f (4 * k) (fun g => rowS2 (slab (arg16.view.read (Elt F) x16) g) (slab (arg10.view.read (Elt F) x10) g))⌝))
  step k acc := by
    have hk : k.val < 25 := Nat.lt_of_lt_of_le k.isLt k1_t6_abs.2.1
    unfold k1_t6_body
    iintro ⟨Harg16, Harg10, ⟨%f17, Harg17, %h17⟩⟩
    sl_exec
    sl_step
    isplitl [Harg16]; · iexact Harg16
    isplitl [Harg10]; · iexact Harg10
    iexists _; isplitl [Harg17]; · iexact Harg17
    ipureintro
    refine upto_trip hk (k1_off12_eq k 0) (k1_off12_eq k 1) (k1_off12_eq k 2) (k1_off12_eq k 3) ?_ ?_ ?_ ?_ h17
    · exact (congrArg₂ (rowS2 (F := F)) (readAt_slab arg16 x16 _ (k1_off10_eq k 0)) (readAt_slab arg10 x10 _ (k1_off11_eq k 0)))
    · exact (congrArg₂ (rowS2 (F := F)) (readAt_slab arg16 x16 _ (k1_off10_eq k 1)) (readAt_slab arg10 x10 _ (k1_off11_eq k 1)))
    · exact (congrArg₂ (rowS2 (F := F)) (readAt_slab arg16 x16 _ (k1_off10_eq k 2)) (readAt_slab arg10 x10 _ (k1_off11_eq k 2)))
    · exact (congrArg₂ (rowS2 (F := F)) (readAt_slab arg16 x16 _ (k1_off10_eq k 3)) (readAt_slab arg10 x10 _ (k1_off11_eq k 3)))

end Cert.Proof.Mega
end
-- ==== Proof.MegaT8.lean ====
/-
  The loop of the second pooling and the third propagation.
-/
module

public import proofs.«01_k».proof.Proof.MegaSpec
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- What it reads stays; the slabs of the trips before `k` are written. -/
@[sl_loop] def inv8 (𝒱 : Variants) (c : Dev nD) (bd : Option 𝒱.V) (E : Set ℕ) (v6 : Vec F S128x128 .f32) (v8 : FVec F S1x128 .f32)
    (x18 : BufTy.Contents (Elt F) arg18.view.ty) (x16 : BufTy.Contents (Elt F) arg16.view.ty) (x10 : BufTy.Contents (Elt F) arg10.view.ty) :
    LoopInv (M := 𝕄) Idealize.ShloMosaic.frame (wpE defs₀ 𝒱 (c : Thread nD τ) bd) E
      k1_t8_loop.lb k1_t8_loop.ub k1_t8_loop.st k1_t8_ok () (k1_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v6 v8) where
  inv k _ := iprop((arg18.view.loc (c : Thread nD τ) ↦[arg18.view.set]{fullShare} x18) ∗ (arg16.view.loc (c : Thread nD τ) ↦[arg16.view.set]{fullShare} x16) ∗ (arg10.view.loc (c : Thread nD τ) ↦[arg10.view.set]{fullShare} x10) ∗ (∃ f, (arg19.view.loc (c : Thread nD τ) ↦[arg19.view.set]{fullShare} f) ∗ ⌜Upto arg19 f (4 * k) (fun g => rowXp2 (slab (arg18.view.read (Elt F) x18) g) (slab (arg10.view.read (Elt F) x10) g))⌝) ∗ (∃ f, (arg20.view.loc (c : Thread nD τ) ↦[arg20.view.set]{fullShare} f) ∗ ⌜Upto arg20 f (4 * k) (fun g => rowA2 (slab (arg18.view.read (Elt F) x18) g) (slab (arg16.view.read (Elt F) x16) g))⌝) ∗ (∃ f, (arg23.view.loc (c : Thread nD τ) ↦[arg23.view.set]{fullShare} f) ∗ ⌜Upto arg23 f (4 * k) (fun g => rowM3 (slab (arg18.view.read (Elt F) x18) g) (slab (arg16.view.read (Elt F) x16) g) (slab (arg10.view.read (Elt F) x10) g))⌝))
  step k acc := by
    have hk : k.val < 25 := Nat.lt_of_lt_of_le k.isLt k1_t8_abs.2.1
    unfold k1_t8_body
    iintro ⟨Harg18, Harg16, Harg10, ⟨%f19, Harg19, %h19⟩, ⟨%f20, Harg20, %h20⟩, ⟨%f23, Harg23, %h23⟩⟩
    sl_exec
    sl_step
    isplitl [Harg18]; · iexact Harg18
    isplitl [Harg16]; · iexact Harg16
    isplitl [Harg10]; · iexact Harg10
    isplitl [Harg19]
    · iexists _; isplitl [Harg19]; · iexact Harg19
      ipureintro
      refine upto_trip hk (k1_off15_eq k 0) (k1_off15_eq k 1) (k1_off15_eq k 2) (k1_off15_eq k 3) ?_ ?_ ?_ ?_ h19
      · exact (congrArg₂ (rowXp2 (F := F)) (readAt_slab arg18 x18 _ (k1_off13_eq k 0)) (readAt_slab arg10 x10 _ (k1_off14_eq k 0)))
      · exact (congrArg₂ (rowXp2 (F := F)) (readAt_slab arg18 x18 _ (k1_off13_eq k 1)) (readAt_slab arg10 x10 _ (k1_off14_eq k 1)))
      · exact (congrArg₂ (rowXp2 (F := F)) (readAt_slab arg18 x18 _ (k1_off13_eq k 2)) (readAt_slab arg10 x10 _ (k1_off14_eq k 2)))
      · exact (congrArg₂ (rowXp2 (F := F)) (readAt_slab arg18 x18 _ (k1_off13_eq k 3)) (readAt_slab arg10 x10 _ (k1_off14_eq k 3)))
    isplitl [Harg20]
    · iexists _; isplitl [Harg20]; · iexact Harg20
      ipureintro
      refine upto_trip hk (k1_off17_eq k 0) (k1_off17_eq k 1) (k1_off17_eq k 2) (k1_off17_eq k 3) ?_ ?_ ?_ ?_ h20
      · exact (congrArg₂ (rowA2 (F := F)) (readAt_slab arg18 x18 _ (k1_off13_eq k 0)) (readAt_slab arg16 x16 _ (k1_off16_eq k 0)))
      · exact (congrArg₂ (rowA2 (F := F)) (readAt_slab arg18 x18 _ (k1_off13_eq k 1)) (readAt_slab arg16 x16 _ (k1_off16_eq k 1)))
      · exact (congrArg₂ (rowA2 (F := F)) (readAt_slab arg18 x18 _ (k1_off13_eq k 2)) (readAt_slab arg16 x16 _ (k1_off16_eq k 2)))
      · exact (congrArg₂ (rowA2 (F := F)) (readAt_slab arg18 x18 _ (k1_off13_eq k 3)) (readAt_slab arg16 x16 _ (k1_off16_eq k 3)))
    iexists _; isplitl [Harg23]; · iexact Harg23
    ipureintro
    refine upto_trip hk (k1_off15_eq k 0) (k1_off15_eq k 1) (k1_off15_eq k 2) (k1_off15_eq k 3) ?_ ?_ ?_ ?_ h23
    · exact (congr3 (rowM3 (F := F)) (readAt_slab arg18 x18 _ (k1_off13_eq k 0)) (readAt_slab arg16 x16 _ (k1_off16_eq k 0)) (readAt_slab arg10 x10 _ (k1_off14_eq k 0)))
    · exact (congr3 (rowM3 (F := F)) (readAt_slab arg18 x18 _ (k1_off13_eq k 1)) (readAt_slab arg16 x16 _ (k1_off16_eq k 1)) (readAt_slab arg10 x10 _ (k1_off14_eq k 1)))
    · exact (congr3 (rowM3 (F := F)) (readAt_slab arg18 x18 _ (k1_off13_eq k 2)) (readAt_slab arg16 x16 _ (k1_off16_eq k 2)) (readAt_slab arg10 x10 _ (k1_off14_eq k 2)))
    · exact (congr3 (rowM3 (F := F)) (readAt_slab arg18 x18 _ (k1_off13_eq k 3)) (readAt_slab arg16 x16 _ (k1_off16_eq k 3)) (readAt_slab arg10 x10 _ (k1_off14_eq k 3)))

end Cert.Proof.Mega
end
-- ==== Proof.MegaT9.lean ====
/-
  The loop of the summary.
-/
module

public import proofs.«01_k».proof.Proof.MegaSpec
public import Idealize.ShloMosaic.Lib.Exec
public import Idealize.ShloMosaic.Lib.Tactic
public import Idealize.ShloMosaic.Lib.Pipeline.Kit

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

set_option maxHeartbeats 1000000 in
set_option warn.classDefReducibility false in
/-- What it reads stays; the slabs of the trips before `k` are written. -/
@[sl_loop] def inv9 (𝒱 : Variants) (c : Dev nD) (bd : Option 𝒱.V) (E : Set ℕ)
    (x15 : BufTy.Contents (Elt F) arg15.view.ty) (x19 : BufTy.Contents (Elt F) arg19.view.ty) (x11 : BufTy.Contents (Elt F) arg11.view.ty) :
    LoopInv (M := 𝕄) Idealize.ShloMosaic.frame (wpE defs₀ 𝒱 (c : Thread nD τ) bd) E
      k1_t9_loop.lb k1_t9_loop.ub k1_t9_loop.st k1_t9_ok () (k1_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) where
  inv k _ := iprop((arg15.view.loc (c : Thread nD τ) ↦[arg15.view.set]{fullShare} x15) ∗ (arg19.view.loc (c : Thread nD τ) ↦[arg19.view.set]{fullShare} x19) ∗ (arg11.view.loc (c : Thread nD τ) ↦[arg11.view.set]{fullShare} x11) ∗ (∃ f, (arg12.view.loc (c : Thread nD τ) ↦[arg12.view.set]{fullShare} f) ∗ ⌜Upto arg12 f (4 * k) (fun g => rowSum (slab (arg15.view.read (Elt F) x15) g) (slab (arg19.view.read (Elt F) x19) g) (slab (arg11.view.read (Elt F) x11) g))⌝))
  step k acc := by
    have hk : k.val < 25 := Nat.lt_of_lt_of_le k.isLt k1_t9_abs.2.1
    unfold k1_t9_body
    iintro ⟨Harg15, Harg19, Harg11, ⟨%f12, Harg12, %h12⟩⟩
    sl_exec
    sl_step
    isplitl [Harg15]; · iexact Harg15
    isplitl [Harg19]; · iexact Harg19
    isplitl [Harg11]; · iexact Harg11
    iexists _; isplitl [Harg12]; · iexact Harg12
    ipureintro
    refine upto_trip hk (k1_off20_eq k 0) (k1_off20_eq k 1) (k1_off20_eq k 2) (k1_off20_eq k 3) ?_ ?_ ?_ ?_ h12
    · exact (congr3 (rowSum (F := F)) (readAt_slab arg15 x15 _ (k1_off18_eq k 0)) (readAt_slab arg19 x19 _ (k1_off19_eq k 0)) (readAt_slab arg11 x11 _ (k1_off19_eq k 0)))
    · exact (congr3 (rowSum (F := F)) (readAt_slab arg15 x15 _ (k1_off18_eq k 1)) (readAt_slab arg19 x19 _ (k1_off19_eq k 1)) (readAt_slab arg11 x11 _ (k1_off19_eq k 1)))
    · exact (congr3 (rowSum (F := F)) (readAt_slab arg15 x15 _ (k1_off18_eq k 2)) (readAt_slab arg19 x19 _ (k1_off19_eq k 2)) (readAt_slab arg11 x11 _ (k1_off19_eq k 2)))
    · exact (congr3 (rowSum (F := F)) (readAt_slab arg15 x15 _ (k1_off18_eq k 3)) (readAt_slab arg19 x19 _ (k1_off19_eq k 3)) (readAt_slab arg11 x11 _ (k1_off19_eq k 3)))

end Cert.Proof.Mega
end
-- ==== Proof.MegaRun.lean ====
/-
  The dense kernel's body, run once: its inputs stay, its four results are the stages composed, and every scratch buffer is held at some
  contents.
-/
module

public import proofs.«01_k».proof.Proof.MegaT1
public import proofs.«01_k».proof.Proof.MegaT2
public import proofs.«01_k».proof.Proof.MegaT3
public import proofs.«01_k».proof.Proof.MegaT5
public import proofs.«01_k».proof.Proof.MegaT6
public import proofs.«01_k».proof.Proof.MegaT8
public import proofs.«01_k».proof.Proof.MegaT9
public import Idealize.ShloMosaic.Lib.Pipeline.Frame
public import Idealize.ShloMosaic.Lib.Pipeline.FrameBody
public import Idealize.ShloMosaic.Lib.Ring
public import Idealize.ShloMosaic.Lib.VecWindow
public import Idealize.ShloMosaic.Lib.WordCmp

@[expose] public section

set_option maxRecDepth 16384

noncomputable section

namespace Cert.Proof.Mega

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix U : Type} [DecidableEq Ix] [RA.URA U]
local notation "𝕄" => MT nD τ sig Ix (Elt F) ℕ U ℕ

/-- The adjacency of every graph, the propagated features, the first layer's result. -/
def valA0 (x0 x1 : Vec F S100x100x128 .f32) : Vec F S100x128x128 .f32 := stack fun g => rowA0 (slab x0 g) (slab x1 g)
def valM1 (x0 x1 : Vec F S100x100x128 .f32) (x2 : Vec F S100x128x128 .f32) : Vec F S100x128x128 .f32 := stack fun g => rowM1 (slab (valA0 x0 x1) g) (slab x2 g)
def valX1 (x0 x1 : Vec F S100x100x128 .f32) (x2 : Vec F S100x128x128 .f32) (x3 : Vec F S128x128 .f32) (x4 : Vec F S1x128 .f32) : Vec F S100x128x128 .f32 :=
  k1_pay117 (k1_pay114 x3 x4 (valM1 x0 x1 x2)) (Scalar.select (Scalar.cmpi .eq 128#32 0#32) 1#32 128#32) k1_pay115 k1_pay116 0#32

/-- The rounds of the two poolings: the scores with what was picked put below all others, and the rounds at which places were picked. -/
def ranks1 (S : Vec F S100x1x128 .f32) : FVec F S100x128 .f32 × FVec F S100x128 .f32 :=
  Scf.fold (n := k1_t4_loop.trips) (fun k s => (k1_pay124 s.1, k1_pay123 k s.1 s.2)) (k1_pay120 S, k1_pay121 (F := F))
def ranks2 (S : Vec F S100x1x64 .f32) : FVec F S100x64 .f32 × FVec F S100x64 .f32 :=
  Scf.fold (n := k1_t7_loop.trips) (fun k s => (k1_pay134 s.1, k1_pay133 k s.1 s.2)) (k1_pay130 S, k1_pay131 (F := F))

/-- The first pooling: the ranks of the scores, the features and the adjacency of the chosen places; then the second layer's result. -/
def valRk1 (A X : Vec F S100x128x128 .f32) : Vec F S100x1x128 .f32 :=
  k1_pay125 (ranks1 (stack fun g => rowS1 (slab A g) (slab X g))).2
def valXp1 (A X : Vec F S100x128x128 .f32) : Vec F S100x64x128 .f32 := stack fun g => rowXp1 (slab (valRk1 A X) g) (slab X g)
def valA1 (A X : Vec F S100x128x128 .f32) : Vec F S100x64x64 .f32 := stack fun g => rowA1 (slab (valRk1 A X) g) (slab A g)
def valM2 (A X : Vec F S100x128x128 .f32) : Vec F S100x64x128 .f32 := stack fun g => rowM2 (slab (valRk1 A X) g) (slab A g) (slab X g)
def valX2 (A X : Vec F S100x128x128 .f32) (w : Vec F S128x128 .f32) (b : Vec F S1x128 .f32) : Vec F S100x64x128 .f32 :=
  k1_pay127 w (k1_pay108 b) (valM2 A X)
/-- The second pooling and the third layer, from the pooled adjacency and the second layer's result. -/
def valRk2 (A : Vec F S100x64x64 .f32) (X : Vec F S100x64x128 .f32) : Vec F S100x1x64 .f32 :=
  k1_pay135 (ranks2 (stack fun g => rowS2 (slab A g) (slab X g))).2
def valXp2 (A : Vec F S100x64x64 .f32) (X : Vec F S100x64x128 .f32) : Vec F S100x32x128 .f32 := stack fun g => rowXp2 (slab (valRk2 A X) g) (slab X g)
def valM3 (A : Vec F S100x64x64 .f32) (X : Vec F S100x64x128 .f32) : Vec F S100x32x128 .f32 := stack fun g => rowM3 (slab (valRk2 A X) g) (slab A g) (slab X g)
def valX3 (A : Vec F S100x64x64 .f32) (X : Vec F S100x64x128 .f32) (w : Vec F S128x128 .f32) (b : Vec F S1x128 .f32) : Vec F S100x32x128 .f32 :=
  k1_pay1 (k1_pay137 w (k1_pay109 b) (valM3 A X)) (Scalar.select (Scalar.cmpi .eq 32#32 0#32) 1#32 32#32) k1_pay138 k1_pay139 k1_pay140
    (Scalar.cmpi .slt (Scalar.select (Scalar.cmpi .eq 32#32 0#32) 1#32 32#32) 0#32)
/-- The summary, of the two pooled features and the third layer's result. -/
def valSum (P1 : Vec F S100x64x128 .f32) (P2 X3 : Vec F S100x32x128 .f32) : Vec F S100x1x256 .f32 := stack fun g => rowSum (slab P1 g) (slab P2 g) (slab X3 g)

/-- The dense kernel's results from its nine inputs. -/
def resX2 (x0 x1 : Vec F S100x100x128 .f32) (x2 : Vec F S100x128x128 .f32) (x3 : Vec F S128x128 .f32) (x4 : Vec F S1x128 .f32) (x5 : Vec F S128x128 .f32) (x6 : Vec F S1x128 .f32) : Vec F S100x64x128 .f32 :=
  valX2 (valA0 x0 x1) (valX1 x0 x1 x2 x3 x4) x5 x6
def resX3 (x0 x1 : Vec F S100x100x128 .f32) (x2 : Vec F S100x128x128 .f32) (x3 : Vec F S128x128 .f32) (x4 : Vec F S1x128 .f32) (x5 : Vec F S128x128 .f32) (x6 : Vec F S1x128 .f32) (x7 : Vec F S128x128 .f32) (x8 : Vec F S1x128 .f32) : Vec F S100x32x128 .f32 :=
  valX3 (valA1 (valA0 x0 x1) (valX1 x0 x1 x2 x3 x4)) (resX2 x0 x1 x2 x3 x4 x5 x6) x7 x8
def resSum (x0 x1 : Vec F S100x100x128 .f32) (x2 : Vec F S100x128x128 .f32) (x3 : Vec F S128x128 .f32) (x4 : Vec F S1x128 .f32) (x5 : Vec F S128x128 .f32) (x6 : Vec F S1x128 .f32) (x7 : Vec F S128x128 .f32) (x8 : Vec F S1x128 .f32) : Vec F S100x1x256 .f32 :=
  valSum (valXp1 (valA0 x0 x1) (valX1 x0 x1 x2 x3 x4)) (valXp2 (valA1 (valA0 x0 x1) (valX1 x0 x1 x2 x3 x4)) (resX2 x0 x1 x2 x3 x4 x5 x6)) (resX3 x0 x1 x2 x3 x4 x5 x6 x7 x8)

variable (arg0 : Memref sig .tc .vmem S100x100x128 .f32) (harg0 : arg0.IsWhole) (arg1 : Memref sig .tc .vmem S100x100x128 .f32) (harg1 : arg1.IsWhole) (arg2 : Memref sig .tc .vmem S100x128x128 .f32) (harg2 : arg2.IsWhole)
variable (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole)
variable (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole)
variable (arg9 : Memref sig .tc .vmem S100x128x128 .f32) (harg9 : arg9.IsWhole) (arg10 : Memref sig .tc .vmem S100x64x128 .f32) (harg10 : arg10.IsWhole) (arg11 : Memref sig .tc .vmem S100x32x128 .f32) (harg11 : arg11.IsWhole)
variable (arg12 : Memref sig .tc .vmem S100x1x256 .f32) (harg12 : arg12.IsWhole) (arg13 : Memref sig .tc .vmem S100x1x128 .f32) (harg13 : arg13.IsWhole) (arg14 : Memref sig .tc .vmem S100x1x128 .f32) (harg14 : arg14.IsWhole)
variable (arg15 : Memref sig .tc .vmem S100x64x128 .f32) (harg15 : arg15.IsWhole) (arg16 : Memref sig .tc .vmem S100x64x64 .f32) (harg16 : arg16.IsWhole) (arg17 : Memref sig .tc .vmem S100x1x64 .f32) (harg17 : arg17.IsWhole)
variable (arg18 : Memref sig .tc .vmem S100x1x64 .f32) (harg18 : arg18.IsWhole) (arg19 : Memref sig .tc .vmem S100x32x128 .f32) (harg19 : arg19.IsWhole) (arg20 : Memref sig .tc .vmem S100x32x32 .f32) (harg20 : arg20.IsWhole)
variable (arg21 : Memref sig .tc .vmem S100x128x128 .f32) (harg21 : arg21.IsWhole) (arg22 : Memref sig .tc .vmem S100x64x128 .f32) (harg22 : arg22.IsWhole) (arg23 : Memref sig .tc .vmem S100x32x128 .f32) (harg23 : arg23.IsWhole)
variable (arg24 : Memref sig .tc .vmem S100x128x128 .f32) (harg24 : arg24.IsWhole)

/-- A buffer held at contents that read as `V` is held at some contents that read as `V`. -/
theorem hold_as {r c : ℕ} {e : EltTy} (d : Dev nD) (arg : Memref sig .tc .vmem (Sh 100 r c) e) (f : BufTy.Contents (Elt F) arg.view.ty)
    (V : (Sh 100 r c).Idx → Elt F e) (h : arg.view.read (Elt F) f = V) :
    (iprop(arg.view.loc (d : Thread nD τ) ↦[arg.view.set]{fullShare} f) : sProp 𝕄)
      ⊢ iprop(∃ y, ⌜arg.view.read (Elt F) y = V⌝ ∗ (arg.view.loc (d : Thread nD τ) ↦[arg.view.set]{fullShare} y)) := by
  iintro H
  iexists f
  isplitr
  · ipureintro; exact h
  iexact H

/-- Before the first trip nothing is claimed. -/
@[simp ↓] theorem upto_start {r c : ℕ} {e : EltTy} (arg : Memref sig .tc .vmem (Sh 100 r c) e) (f : BufTy.Contents (Elt F) arg.view.ty)
    (G : Fin 100 → (Sh 1 r c).Idx → Elt F e) : Upto arg f (4 * 0) G := fun _ h => absurd h (Nat.not_lt_zero _)

/-- A memref written whole reads as what was written. -/
theorem read_whole_written {r c : ℕ} {e : EltTy} (arg : Memref sig .tc .vmem (Sh 100 r c) e) (f : BufTy.Contents (Elt F) arg.view.ty)
    {inb : ∀ a, (![0, 0, 0] : Fin 3 → ℕ) a + (Sh 100 r c).size a ≤ (Sh 100 r c).size a} (x : (Sh 100 r c).Idx → Elt F e) :
    arg.view.read (Elt F) (arg.view.writes (Elt F) f [⟨Rect.unit (s := Sh 100 r c) ![0, 0, 0] (Sh 100 r c).size inb, x⟩]) = x :=
  View.read_writes_full arg.view f inb x []

set_option maxHeartbeats 4000000 in
theorem bodyRun (𝒱 : Variants) (c : Dev nD) (bd : Option 𝒱.V) (x0 : Vec F S100x100x128 .f32) (x1 : Vec F S100x100x128 .f32) (x2 : Vec F S100x128x128 .f32) (x3 : Vec F S128x128 .f32) (x4 : Vec F S1x128 .f32) (x5 : Vec F S128x128 .f32) (x6 : Vec F S1x128 .f32) (x7 : Vec F S128x128 .f32) (x8 : Vec F S1x128 .f32) :
    ∀ (E : Set ℕ) (Q : PUnit → sProp 𝕄),
      iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
          ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (valX1 x0 x1 x2 x3 x4) ∗ owns (c : Thread nD τ) arg10 fullShare (resX2 x0 x1 x2 x3 x4 x5 x6) ∗ owns (c : Thread nD τ) arg11 fullShare (resX3 x0 x1 x2 x3 x4 x5 x6 x7 x8) ∗ owns (c : Thread nD τ) arg12 fullShare (resSum x0 x1 x2 x3 x4 x5 x6 x7 x8) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ Q ⟨⟩))
        ⊢ wp Idealize.ShloMosaic.frame (wpE (defs₀ (F := F)) 𝒱 (c : Thread nD τ) bd) E (cc1__mega_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) Q := by
  intro E Q
  simp only [cc1__mega_body_eq_skeleton]; unfold cc1__mega_body_skel
  simp only [k1_part26_eq_skeleton, k1_part27_eq_skeleton, k1_part28_eq_skeleton, k1_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  set_option sl_exec.stopBefore "k1_part28" in sl_exec
  have hA : arg24.view.read (Elt F) fL0 = valA0 x0 x1 := by
    refine (upto_all hL3 (by decide)).trans ?_
    rw [hf0, hf1]; rfl
  have hM : arg21.view.read (Elt F) fL1 = valM1 x0 x1 x2 := by
    refine (upto_all hL7 (by decide)).trans ?_
    rw [hA, hf2]; rfl
  have h9 : arg9.view.read (Elt F) (arg9.view.writes (Elt F) arg9.view.junk (bodyRun.sl.H9_1 arg3 harg3 arg4 harg4 arg21 c x3 x4 fL1)) = valX1 x0 x1 x2 x3 x4 := by
    refine (read_whole_written arg9 _ _).trans ?_
    refine congrArg (fun y => k1_pay117 y (128#32) k1_pay115 k1_pay116 0#32) ?_
    exact congr3 k1_pay114 ((View.readAt_full _ _ _).trans hf3) ((View.readAt_full _ _ _).trans hf4) ((View.readAt_full _ _ _).trans hM)
  ihave H9 := (hold_as c arg9 _ _ h9) $$ H9
  icases H9 with ⟨%y9, %hy9, H9⟩
  have hS : arg13.view.read (Elt F) fL2 = stack fun g => rowS1 (slab (valA0 x0 x1) g) (slab (valX1 x0 x1 x2 x3 x4) g) := by
    refine (upto_all hL11 (by decide)).trans ?_
    rw [hA, h9]
  have h14 : arg14.view.read (Elt F) (arg14.view.writes (Elt F) f14 [⟨Rect.unit ![0, 0, 0] S100x1x128.size inb_S100x1x128_S100x1x128_0_0_0, k1_pay125 (bodyRun.sl.r_5 arg13 c fL2).2⟩]) = valRk1 (valA0 x0 x1) (valX1 x0 x1 x2 x3 x4) := by
    refine (read_whole_written arg14 _ _).trans ?_
    refine congrArg (fun y => k1_pay125 (F := F) (ranks1 y).2) ?_
    exact (View.readAt_full _ _ _).trans hS
  ihave H14 := (hold_as c arg14 _ _ h14) $$ H14
  icases H14 with ⟨%y14, %hy14, H14⟩
  clear hL3 hL7 hL11
  have z15 : Upto arg15 f15 (4 * 0) (fun g => rowXp1 (slab (arg14.view.read (Elt F) y14) g) (slab (arg9.view.read (Elt F) y9) g)) := upto_start _ _ _
  have z16 : Upto arg16 f16 (4 * 0) (fun g => rowA1 (slab (arg14.view.read (Elt F) y14) g) (slab (arg24.view.read (Elt F) fL0) g)) := upto_start _ _ _
  have z22 : Upto arg22 f22 (4 * 0) (fun g => rowM2 (slab (arg14.view.read (Elt F) y14) g) (slab (arg24.view.read (Elt F) fL0) g) (slab (arg9.view.read (Elt F) y9) g)) := upto_start _ _ _
  set_option sl_exec.stopBefore "k1_part29" in sl_exec
  have hXp1 : arg15.view.read (Elt F) fL0 = valXp1 (valA0 x0 x1) (valX1 x0 x1 x2 x3 x4) := by
    refine (upto_all hL4 (by decide)).trans ?_
    rw [hy14, hy9]; rfl
  have hA1 : arg16.view.read (Elt F) fL1 = valA1 (valA0 x0 x1) (valX1 x0 x1 x2 x3 x4) := by
    refine (upto_all hL6 (by decide)).trans ?_
    rw [hy14, hA]; rfl
  have hM2 : arg22.view.read (Elt F) fL2 = valM2 (valA0 x0 x1) (valX1 x0 x1 x2 x3 x4) := by
    refine (upto_all hL8 (by decide)).trans ?_
    rw [hy14, hA, hy9]; rfl
  have h10 : arg10.view.read (Elt F) (arg10.view.writes (Elt F) arg10.view.junk (bodyRun.sl.H10_1 arg5 harg5 arg6 harg6 arg22 c x5 x6 fL2)) = resX2 x0 x1 x2 x3 x4 x5 x6 := by
    refine (read_whole_written arg10 _ _).trans ?_
    exact congr3 (fun w b m => k1_pay127 (F := F) w (k1_pay108 b) m) ((View.readAt_full _ _ _).trans hf5) ((View.readAt_full _ _ _).trans hf6) ((View.readAt_full _ _ _).trans hM2)
  have hS2 : arg17.view.read (Elt F) fL3 = stack fun g => rowS2 (slab (valA1 (valA0 x0 x1) (valX1 x0 x1 x2 x3 x4)) g) (slab (resX2 x0 x1 x2 x3 x4 x5 x6) g) := by
    refine (upto_all hL12 (by decide)).trans ?_
    rw [hA1, h10]
  ihave H10 := (hold_as c arg10 _ _ h10) $$ H10
  icases H10 with ⟨%y10, %hy10, H10⟩
  have h18 : arg18.view.read (Elt F) (arg18.view.writes (Elt F) arg18.view.junk [⟨Rect.unit ![0, 0, 0] S100x1x64.size inb_S100x1x64_S100x1x64_0_0_0, k1_pay135 (ranks2 (arg17.view.readAt (Elt F) (Rect.unit ![0, 0, 0] S100x1x64.size inb_S100x1x64_S100x1x64_0_0_0).toLoadRect fL3)).2⟩]) = valRk2 (valA1 (valA0 x0 x1) (valX1 x0 x1 x2 x3 x4)) (resX2 x0 x1 x2 x3 x4 x5 x6) := by
    refine (read_whole_written arg18 _ _).trans ?_
    refine congrArg (fun y => k1_pay135 (F := F) (ranks2 y).2) ?_
    exact (View.readAt_full _ _ _).trans hS2
  clear hL4 hL6 hL8 hL12
  have z19 : Upto arg19 f19 (4 * 0) (fun g => rowXp2 (slab (arg18.view.read (Elt F) (arg18.view.writes (Elt F) arg18.view.junk [⟨Rect.unit ![0, 0, 0] S100x1x64.size inb_S100x1x64_S100x1x64_0_0_0, k1_pay135 (ranks2 (arg17.view.readAt (Elt F) (Rect.unit ![0, 0, 0] S100x1x64.size inb_S100x1x64_S100x1x64_0_0_0).toLoadRect fL3)).2⟩])) g) (slab (arg10.view.read (Elt F) y10) g)) := upto_start _ _ _
  have z20 : Upto arg20 f20 (4 * 0) (fun g => rowA2 (slab (arg18.view.read (Elt F) (arg18.view.writes (Elt F) arg18.view.junk [⟨Rect.unit ![0, 0, 0] S100x1x64.size inb_S100x1x64_S100x1x64_0_0_0, k1_pay135 (ranks2 (arg17.view.readAt (Elt F) (Rect.unit ![0, 0, 0] S100x1x64.size inb_S100x1x64_S100x1x64_0_0_0).toLoadRect fL3)).2⟩])) g) (slab (arg16.view.read (Elt F) fL1) g)) := upto_start _ _ _
  have z23 : Upto arg23 f23 (4 * 0) (fun g => rowM3 (slab (arg18.view.read (Elt F) (arg18.view.writes (Elt F) arg18.view.junk [⟨Rect.unit ![0, 0, 0] S100x1x64.size inb_S100x1x64_S100x1x64_0_0_0, k1_pay135 (ranks2 (arg17.view.readAt (Elt F) (Rect.unit ![0, 0, 0] S100x1x64.size inb_S100x1x64_S100x1x64_0_0_0).toLoadRect fL3)).2⟩])) g) (slab (arg16.view.read (Elt F) fL1) g) (slab (arg10.view.read (Elt F) y10) g)) := upto_start _ _ _
  sl_exec
  have hXp2 : arg19.view.read (Elt F) fL0 = valXp2 (valA1 (valA0 x0 x1) (valX1 x0 x1 x2 x3 x4)) (resX2 x0 x1 x2 x3 x4 x5 x6) := by
    refine (upto_all hL4 (by decide)).trans ?_
    refine congrArg (stack (r := 32) (c := 128)) (funext fun g => ?_)
    exact congrArg₂ (fun a b => rowXp2 (F := F) (slab a g) (slab b g)) h18 hy10
  have hM3 : arg23.view.read (Elt F) fL2 = valM3 (valA1 (valA0 x0 x1) (valX1 x0 x1 x2 x3 x4)) (resX2 x0 x1 x2 x3 x4 x5 x6) := by
    refine (upto_all hL8 (by decide)).trans ?_
    refine congrArg (stack (r := 32) (c := 128)) (funext fun g => ?_)
    exact congr3 (fun a b x => rowM3 (F := F) (slab a g) (slab b g) (slab x g)) h18 hA1 hy10
  have h11 : arg11.view.read (Elt F) (arg11.view.writes (Elt F) arg11.view.junk (bodyRun.sl.H11_1 arg7 harg7 arg8 harg8 arg23 c x7 x8 fL2)) = resX3 x0 x1 x2 x3 x4 x5 x6 x7 x8 := by
    refine (read_whole_written arg11 _ _).trans ?_
    exact congr3 (fun w b m => k1_pay1 (F := F) (k1_pay137 w (k1_pay109 b) m) (Scalar.select (Scalar.cmpi .eq 32#32 0#32) 1#32 32#32) k1_pay138 k1_pay139 k1_pay140
      (Scalar.cmpi .slt (Scalar.select (Scalar.cmpi .eq 32#32 0#32) 1#32 32#32) 0#32)) ((View.readAt_full _ _ _).trans hf7) ((View.readAt_full _ _ _).trans hf8) ((View.readAt_full _ _ _).trans hM3)
  have hSum : arg12.view.read (Elt F) fL3 = resSum x0 x1 x2 x3 x4 x5 x6 x7 x8 := by
    refine (upto_all hL13 (by decide)).trans ?_
    show _ = stack fun g => rowSum (slab (valXp1 (valA0 x0 x1) (valX1 x0 x1 x2 x3 x4)) g)
      (slab (valXp2 (valA1 (valA0 x0 x1) (valX1 x0 x1 x2 x3 x4)) (resX2 x0 x1 x2 x3 x4 x5 x6)) g) (slab (resX3 x0 x1 x2 x3 x4 x5 x6 x7 x8) g)
    refine congrArg (stack (r := 1) (c := 256)) (funext fun g => ?_)
    exact congr3 (fun a b x => rowSum (F := F) (slab a g) (slab b g) (slab x g)) hXp1 hXp2 h11
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro; exact hy9
  isplitl [H10]
  · iexists _; isplitr; swap; · iexact H10
    ipureintro; exact hy10
  isplitl [H11]
  · iexists _; isplitr; swap; · iexact H11
    ipureintro; exact h11
  isplitl [H12]
  · iexists _; isplitr; swap; · iexact H12
    ipureintro; exact hSum
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.Proof.Mega
end
-- ==== Proof.RegionBody.lean ====
/-
  The TensorCore call of the program, over the thread state of the launch: its thirteen windows, each one block that is the whole
  array; the body's triple at that one point; and what the call leaves, its four outputs at `valX1`, `resX2`, `resX3` and `resSum` of
  the inputs.
-/
module

public import proofs.«01_k».proof.Proof.Setup
public import proofs.«01_k».proof.Proof.MegaRun
public import proofs.«01_k».proof.Proof.Gen.KernelIdeal.Launch
public import proofs.«01_k».proof.Proof.Gen.KernelIdeal.Points
public import Idealize.ShloMosaic.Lib.Pipeline.RegionArraysF
public import Idealize.ShloMosaic.Lib.Pipeline.Value
public import Idealize.ShloMosaic.Lib.Pipeline.FrameSuffix
public import Idealize.ShloMosaic.Lib.Pipeline.FrameBody

@[expose] public section

set_option maxRecDepth 16384

noncomputable section

namespace Cert.Proof.Adj

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg Window BodyObligation cellOf)
open Cert.Proof.Mega (valX1 resX2 resX3 resSum bodyRun)

variable {F : FTy → Type} [FloatOps F] [∀ e, Nonempty (Elt F e)]

local notation "𝕄" => MT nD τ sig (HIx 1) (Elt F) ℕ UU ℕ

-- what every buffer holds when the call begins
variable (W : Dev nD → Valuation τ sig (Elt F))

/-! ## The windows' contents -/

/-- Window `w`'s block at the one point. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first output's block. -/
def xblk (c : Dev nD) (t : Fin cfg1.N) : Vec F S100x128x128 .f32 :=
  valX1 (iblk W c 0 t) (iblk W c 1 t) (iblk W c 2 t) (iblk W c 3 t) (iblk W c 4 t)

/-- The second, the third and the fourth output's block. -/
def x2blk (c : Dev nD) (t : Fin cfg1.N) : Vec F S100x64x128 .f32 :=
  resX2 (iblk W c 0 t) (iblk W c 1 t) (iblk W c 2 t) (iblk W c 3 t) (iblk W c 4 t) (iblk W c 5 t) (iblk W c 6 t)
def x3blk (c : Dev nD) (t : Fin cfg1.N) : Vec F S100x32x128 .f32 :=
  resX3 (iblk W c 0 t) (iblk W c 1 t) (iblk W c 2 t) (iblk W c 3 t) (iblk W c 4 t) (iblk W c 5 t) (iblk W c 6 t) (iblk W c 7 t) (iblk W c 8 t)
def sumblk (c : Dev nD) (t : Fin cfg1.N) : Vec F S100x1x256 .f32 :=
  resSum (iblk W c 0 t) (iblk W c 1 t) (iblk W c 2 t) (iblk W c 3 t) (iblk W c 4 t) (iblk W c 5 t) (iblk W c 6 t) (iblk W c 7 t) (iblk W c 8 t)

/-- Every output's contents are named. -/
def forgets1 : Fin 13 → Bool := fun _ => false

/-- The recorded waits the launch allows at this point of the program. -/
def okWaits (c : Dev nD) : Set (SemLoc sig × HIx 1) := {p | (K (F := F)).lev (T c, p.1) p.2 ≤ 8}

/-- The proof data of the call: the arrays as found; after the body each input's buffer at its block, each output's at its value. -/
def dats (_ : Fin 1) (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => xblk W c t
    | ⟨10, _⟩ => x2blk W c t
    | ⟨11, _⟩ => x3blk W c t
    | ⟨12, _⟩ => sumblk W c t
  Φ _ := iprop(Pipeline.scopedRest spec1 c ∗ ∃ r, prngReg c r)
  q _ := fullShare
  owed _ := 0
  recorded _ := okWaits (F := F) c

theorem A_eq (c : Dev nD) (w : Fin cfg1.W) : (dats W 0 c).A w = W c (Proc.devRef .tc (Pipeline.arrRef spec1 w)) := by
  dsimp only [dats]

theorem after1_0 (c : Dev nD) (t : Fin cfg1.N) : (dats W 0 c).after 0 t = iblk W c 0 t := by dsimp only [dats]
theorem after1_1 (c : Dev nD) (t : Fin cfg1.N) : (dats W 0 c).after 1 t = iblk W c 1 t := by dsimp only [dats]
theorem after1_2 (c : Dev nD) (t : Fin cfg1.N) : (dats W 0 c).after 2 t = iblk W c 2 t := by dsimp only [dats]
theorem after1_3 (c : Dev nD) (t : Fin cfg1.N) : (dats W 0 c).after 3 t = iblk W c 3 t := by dsimp only [dats]
theorem after1_4 (c : Dev nD) (t : Fin cfg1.N) : (dats W 0 c).after 4 t = iblk W c 4 t := by dsimp only [dats]
theorem after1_5 (c : Dev nD) (t : Fin cfg1.N) : (dats W 0 c).after 5 t = iblk W c 5 t := by dsimp only [dats]
theorem after1_6 (c : Dev nD) (t : Fin cfg1.N) : (dats W 0 c).after 6 t = iblk W c 6 t := by dsimp only [dats]
theorem after1_7 (c : Dev nD) (t : Fin cfg1.N) : (dats W 0 c).after 7 t = iblk W c 7 t := by dsimp only [dats]
theorem after1_8 (c : Dev nD) (t : Fin cfg1.N) : (dats W 0 c).after 8 t = iblk W c 8 t := by dsimp only [dats]
theorem after1_9 (c : Dev nD) (t : Fin cfg1.N) : (dats W 0 c).after 9 t = xblk W c t := by dsimp only [dats]
theorem after1_10 (c : Dev nD) (t : Fin cfg1.N) : (dats W 0 c).after 10 t = x2blk W c t := by dsimp only [dats]
theorem after1_11 (c : Dev nD) (t : Fin cfg1.N) : (dats W 0 c).after 11 t = x3blk W c t := by dsimp only [dats]
theorem after1_12 (c : Dev nD) (t : Fin cfg1.N) : (dats W 0 c).after 12 t = sumblk W c t := by dsimp only [dats]

/-- An input's staging buffer holds its block when the body runs: for a window that is an input, uncut and never idle. -/
theorem before1_0 (c : Dev nD) (t : Fin cfg1.N) (d) : (dats W 0 c).before 0 t d = iblk W c 0 t :=
  ((dats W 0 c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats W 0 c).before 1 t d = iblk W c 1 t :=
  ((dats W 0 c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats W 0 c).before 2 t d = iblk W c 2 t :=
  ((dats W 0 c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats W 0 c).before 3 t d = iblk W c 3 t :=
  ((dats W 0 c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats W 0 c).before 4 t d = iblk W c 4 t :=
  ((dats W 0 c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dats W 0 c).before 5 t d = iblk W c 5 t :=
  ((dats W 0 c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dats W 0 c).before 6 t d = iblk W c 6 t :=
  ((dats W 0 c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dats W 0 c).before 7 t d = iblk W c 7 t :=
  ((dats W 0 c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
theorem before1_8 (c : Dev nD) (t : Fin cfg1.N) (d) : (dats W 0 c).before 8 t d = iblk W c 8 t :=
  ((dats W 0 c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)

/-! ## The body at the point -/

/-- What the body is called with, window by window, -/
def bodyPre (c : Dev nD) (t : Fin cfg1.N) : sProp 𝕄 :=
  iprop((dats W 0 c).Φ t.castSucc ∗ (dats W 0 c).owesAt none t.castSucc
    ∗ (∃ d, owns (c : Thread nD τ) (st1_0 t) fullShare ((dats W 0 c).before 0 t d)) ∗ (∃ d, owns (c : Thread nD τ) (st1_1 t) fullShare ((dats W 0 c).before 1 t d)) ∗ (∃ d, owns (c : Thread nD τ) (st1_2 t) fullShare ((dats W 0 c).before 2 t d)) ∗ (∃ d, owns (c : Thread nD τ) (st1_3 t) fullShare ((dats W 0 c).before 3 t d)) ∗ (∃ d, owns (c : Thread nD τ) (st1_4 t) fullShare ((dats W 0 c).before 4 t d)) ∗ (∃ d, owns (c : Thread nD τ) (st1_5 t) fullShare ((dats W 0 c).before 5 t d)) ∗ (∃ d, owns (c : Thread nD τ) (st1_6 t) fullShare ((dats W 0 c).before 6 t d)) ∗ (∃ d, owns (c : Thread nD τ) (st1_7 t) fullShare ((dats W 0 c).before 7 t d)) ∗ (∃ d, owns (c : Thread nD τ) (st1_8 t) fullShare ((dats W 0 c).before 8 t d)) ∗ (∃ d, owns (c : Thread nD τ) (st1_9 t) fullShare ((dats W 0 c).before 9 t d)) ∗ (∃ d, owns (c : Thread nD τ) (st1_10 t) fullShare ((dats W 0 c).before 10 t d)) ∗ (∃ d, owns (c : Thread nD τ) (st1_11 t) fullShare ((dats W 0 c).before 11 t d)) ∗ (∃ d, owns (c : Thread nD τ) (st1_12 t) fullShare ((dats W 0 c).before 12 t d)))
/-- and what it returns. -/
def bodyPost (c : Dev nD) (t : Fin cfg1.N) : sProp 𝕄 :=
  iprop((dats W 0 c).Φ t.succ ∗ (dats W 0 c).owesAt none t.succ
    ∗ owns (c : Thread nD τ) (st1_0 t) fullShare ((dats W 0 c).after 0 t) ∗ owns (c : Thread nD τ) (st1_1 t) fullShare ((dats W 0 c).after 1 t) ∗ owns (c : Thread nD τ) (st1_2 t) fullShare ((dats W 0 c).after 2 t) ∗ owns (c : Thread nD τ) (st1_3 t) fullShare ((dats W 0 c).after 3 t) ∗ owns (c : Thread nD τ) (st1_4 t) fullShare ((dats W 0 c).after 4 t) ∗ owns (c : Thread nD τ) (st1_5 t) fullShare ((dats W 0 c).after 5 t) ∗ owns (c : Thread nD τ) (st1_6 t) fullShare ((dats W 0 c).after 6 t) ∗ owns (c : Thread nD τ) (st1_7 t) fullShare ((dats W 0 c).after 7 t) ∗ owns (c : Thread nD τ) (st1_8 t) fullShare ((dats W 0 c).after 8 t) ∗ owns (c : Thread nD τ) (st1_9 t) fullShare ((dats W 0 c).after 9 t) ∗ owns (c : Thread nD τ) (st1_10 t) fullShare ((dats W 0 c).after 10 t) ∗ owns (c : Thread nD τ) (st1_11 t) fullShare ((dats W 0 c).after 11 t) ∗ owns (c : Thread nD τ) (st1_12 t) fullShare ((dats W 0 c).after 12 t))

abbrev scM0 : Memref sig .tc .vmem S100x1x128 .f32 := Memref.whole cc1_scratch0
abbrev scM1 : Memref sig .tc .vmem S100x1x128 .f32 := Memref.whole cc1_scratch1
abbrev scM2 : Memref sig .tc .vmem S100x64x128 .f32 := Memref.whole cc1_scratch2
abbrev scM3 : Memref sig .tc .vmem S100x64x64 .f32 := Memref.whole cc1_scratch3
abbrev scM4 : Memref sig .tc .vmem S100x1x64 .f32 := Memref.whole cc1_scratch4
abbrev scM5 : Memref sig .tc .vmem S100x1x64 .f32 := Memref.whole cc1_scratch5
abbrev scM6 : Memref sig .tc .vmem S100x32x128 .f32 := Memref.whole cc1_scratch6
abbrev scM7 : Memref sig .tc .vmem S100x32x32 .f32 := Memref.whole cc1_scratch7
abbrev scM8 : Memref sig .tc .vmem S100x128x128 .f32 := Memref.whole cc1_scratch8
abbrev scM9 : Memref sig .tc .vmem S100x64x128 .f32 := Memref.whole cc1_scratch9
abbrev scM10 : Memref sig .tc .vmem S100x32x128 .f32 := Memref.whole cc1_scratch10
abbrev scM11 : Memref sig .tc .vmem S100x128x128 .f32 := Memref.whole cc1_scratch11

/-- The invariant with the scratch buffers as memrefs owned at some contents. -/
theorem Phi_eq (c : Dev nD) :
    (iprop(Pipeline.scopedRest spec1 c ∗ ∃ r, prngReg c r) : sProp 𝕄)
      = iprop(((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d) ∗ (∃ d, owns (c : Thread nD τ) scM11 fullShare d)) ∗ ∃ r, prngReg c r) := by
  rw [scopedRest1_eq]; simp only [scM0, scM1, scM2, scM3, scM4, scM5, scM6, scM7, scM8, scM9, scM10, scM11, owns_whole]; try rfl

set_option maxHeartbeats 2400000 in
theorem sound_body (c : Dev nD) (t : Fin cfg1.N) :
    bodyPre W c t ⊢ wp Idealize.ShloMosaic.frame (wpE (defs₀ (F := F)) 𝒱₀ c none) Set.univ (bodyAt1 t) (fun _ => bodyPost W c t) := by
  unfold bodyPre bodyPost bodyAt1
  simp only [before1_0, before1_1, before1_2, before1_3, before1_4, before1_5, before1_6, before1_7, before1_8]
  rw [show (dats W 0 c).Φ t.succ = (dats W 0 c).Φ t.castSucc from rfl,
    show (dats W 0 c).owesAt none t.succ = (dats W 0 c).owesAt none t.castSucc from rfl,
    after1_0, after1_1, after1_2, after1_3, after1_4, after1_5, after1_6, after1_7, after1_8, after1_9, after1_10, after1_11, after1_12]
  rw [show (dats W 0 c).Φ t.castSucc = iprop(Pipeline.scopedRest spec1 c ∗ ∃ r, prngReg c r) from rfl, Phi_eq]
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun _ _ _ _ _ _ _ _ _ _ _ _ _ _ _ _ _ _ _ _ _ _ _ _ _ _ _ _ _ _ _ _ _ _ _ _ _ _ _ _ _ _ _ _ _ _ _ _ _ _ 𝒱₀ c none (iblk W c 0 t) (iblk W c 1 t) (iblk W c 2 t) (iblk W c 3 t) (iblk W c 4 t) (iblk W c 5 t) (iblk W c 6 t) (iblk W c 7 t) (iblk W c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, HS0, HS1, HS2, HS3, HS4, HS5, HS6, HS7, HS8, HS9, HS10, HS11⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iexact HS11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg1.N) : defs₀ (F := F) .tc cfg1.body (cfg1.bodyArgs t (cfg1.slots t)) = bodyAt1 t := by
  rfl

theorem body_obligation (c : Dev nD) : BodyObligation (dats (F := F) W 0 c) (defs₀ (F := F)) 𝒱₀ none Set.univ forgets1 := fun t => by
  rw [bigSep_W1, bigSep_W1, defs₀_row]
  exact triple_restated (sound_body W c t) rfl .rfl fun _ => .rfl

end Cert.Proof.Adj
-- ==== Proof.Region.lean ====
/-
  The TensorCore call as a step of the program: from every buffer at `W` to every buffer but the call's four outputs at `W` still, the
  outputs at `xarr`, `x2arr`, `x3arr` and `sumarr`, with the waits it recorded at the pipeline's own cells. The step itself, `wp_mega`, is in Launch.lean.
-/
module

public import proofs.«01_k».proof.Proof.RegionBody

@[expose] public section

set_option maxRecDepth 16384

noncomputable section

namespace Cert.Proof.Adj

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat Cfg Window BodyObligation cellOf arrRefs arrRef ucRefs pin withArrays)
open Idealize.ShloMosaic.StableHlo (held held_sub_split held_congr)

variable {F : FTy → Type} [FloatOps F] [∀ e, Nonempty (Elt F e)]

local notation "𝕄" => MT nD τ sig (HIx 1) (Elt F) ℕ UU ℕ

variable (W : Dev nD → Valuation τ sig (Elt F))

/-- The pipelines have no prefetched tables. -/
abbrev adm : (p : Fin 1) → (pcfgs (F := F) p).Adm := fun q => (cfgs q).toPCfg_adm
abbrev fg : (q : Fin 1) → Fin (pin (pcfgs (F := F)) adm q).W → Bool := fun _ => forgets1
abbrev pdats : (p : Fin 1) → (c : Dev nD) → Dat τ (Elt F) (HIx 1) ℕ UU ℕ (pin (pcfgs (F := F)) adm p) c := fun p c => dats W p c

/-- The first output's array when the call ends. -/
def xarr (c : Dev nD) : Vec F S100x128x128 .f32 := (dats W 0 c).arrAt 9 cfg1.N
/-- The second, the third and the fourth output's. -/
def x2arr (c : Dev nD) : Vec F S100x64x128 .f32 := (dats W 0 c).arrAt 10 cfg1.N
def x3arr (c : Dev nD) : Vec F S100x32x128 .f32 := (dats W 0 c).arrAt 11 cfg1.N
def sumarr (c : Dev nD) : Vec F S100x1x256 .f32 := (dats W 0 c).arrAt 12 cfg1.N

/-- What the call may leave in the buffers. -/
def Leaves (c : Dev nD) (V' : Valuation τ sig (Elt F)) : Prop :=
  V' (Proc.devRef .tc main_v14_0) = xarr W c ∧ V' (Proc.devRef .tc main_v14_1) = x2arr W c ∧ V' (Proc.devRef .tc main_v14_2) = x3arr W c ∧ V' (Proc.devRef .tc main_v14_3) = sumarr W c
  ∧ ∀ b : Ref sig .tc, b ≠ main_v14_0 → b ≠ main_v14_1 → b ≠ main_v14_2 → b ≠ main_v14_3 → V' (Proc.devRef .tc b) = W c (Proc.devRef .tc b)

theorem arr_ne (b : Ref sig .tc) (h : ¬ ∃ w, arrRef spec1 w = b) : ∀ w, arrRef spec1 w ≠ b := fun w e => h ⟨w, e⟩

theorem isIn_of : ∀ w : Fin 13, arrRef spec1 w ≠ main_v14_0 → arrRef spec1 w ≠ main_v14_1 → arrRef spec1 w ≠ main_v14_2 → arrRef spec1 w ≠ main_v14_3 →
    w.val < 9 := by decide

theorem kept : ∀ w : Fin 13, w.val < 9 → forgets1 w = false := by decide

theorem isIn9 : ∀ w : Fin cfg1.W, w.val < 9 → (cfg1.win w).isOut = false := by decide

/-- The arrays at what they hold after the call, the rest as found, is what the call may leave. -/
theorem leaves_of (c : Dev nD) (A : (w : Fin 13) → Buf (Elt F) ((spec1 w).arr.view.loc (c.tc : Thread nD τ)))
    (hA : ∀ w, forgets1 w = false → A w = (dats W 0 c).arrAt w cfg1.N) : Leaves W c (withArrays spec1 c (W c) A) := by
  refine ⟨?_, ?_, ?_, ?_, fun b h0 h1 h2 h3 => ?_⟩
  · exact (Pipeline.withArrays_arr spec1 winFacts1.arr_inj c (W c) A (9 : Fin 13)).trans (hA 9 rfl)
  · exact (Pipeline.withArrays_arr spec1 winFacts1.arr_inj c (W c) A (10 : Fin 13)).trans (hA 10 rfl)
  · exact (Pipeline.withArrays_arr spec1 winFacts1.arr_inj c (W c) A (11 : Fin 13)).trans (hA 11 rfl)
  · exact (Pipeline.withArrays_arr spec1 winFacts1.arr_inj c (W c) A (12 : Fin 13)).trans (hA 12 rfl)
  · by_cases h : ∃ w, arrRef spec1 w = b
    · obtain ⟨w, rfl⟩ := h
      have hw := isIn_of w h0 h1 h2 h3
      exact (Pipeline.withArrays_arr spec1 winFacts1.arr_inj c (W c) A w).trans ((hA w (kept w hw)).trans (((dats W 0 c).arrAt_in w (isIn9 w hw) _).trans (A_eq W c w)))
    · exact Pipeline.withArrays_of_ne spec1 c (W c) A b (arr_ne b h)

variable (Sr : Finset (DevRef τ sig))

set_option backward.isDefEq.respectTransparency.types false in
/-- The call as a region of the program: entered with the arrays and the buffers `Sr` at `W`. -/
def region (hSr : Disjoint (arrRefs (τ := τ) spec1) Sr) (hTc : ∀ b ∈ Sr, ∃ r, b = Proc.devRef .tc r) :
    RDat.RegionSeg (pcfgs (F := F)) adm (Pipeline.toRsF (pcfgs (F := F)) adm (pdats W) fg) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := ((body_obligation W c).loose).toRForget
  hwaits c := Pipeline.RDat.cellsWaits_of_cut (pin (pcfgs (F := F)) adm) (Pipeline.toRsF (pcfgs (F := F)) adm (pdats W) fg) none 0 c 0 0 (fun _ => rfl)
    (fun _ _ => Finset.mem_univ _) (fun _ _ => le_rfl) (fun g i h => absurd h (Nat.lt_irrefl 0))
  pre c := iprop(held (c.tc : Thread nD τ) (arrRefs spec1) (W c) ∗ held (c.tc : Thread nD τ) Sr (W c) ∗ (∃ r, prngReg c r)
    ∗ ∃ Wd, ⌜(K (F := F)).WBelow (T c) Wd 8⌝ ∗ owes (c : Thread nD τ) 0 Wd)
  post c := iprop(∃ V', ⌜Leaves W c V'⌝ ∗ held (c.tc : Thread nD τ) (arrRefs spec1) V' ∗ held (c.tc : Thread nD τ) Sr V' ∗ (∃ r, prngReg c r)
    ∗ ∃ Wd, ⌜(K (F := F)).WBelow (T c) Wd 8⌝ ∗ owes (c : Thread nD τ) 0 Wd)
  X c := iprop(∃ r, prngReg c r)
  Y c := iprop(∃ r, prngReg c r)
  Z c := held (c.tc : Thread nD τ) Sr (W c)
  hentry c := by
    show _ ⊢ |={Set.univ}=> iprop((dats W 0 c).arrays ((dats W 0 c).arrAt · 0) ∗ Pipeline.prefHeld (pcfgs (F := F) 0).pre c (fun _ => fullShare) (adm (F := F) 0).1
        ∗ (dats W 0 c).owesAt none 0 ∗ _ ∗ _)
    rw [Pipeline.prefHeld_of_none _ rfl, Pipeline.arrays_held (pcfgs (F := F)) adm (pdats W) 0 launch1.toP c (fun w => (dats W 0 c).share_full (fun _ => rfl) w) ((dats W 0 c).arrAt · 0) (W c) (fun w => A_eq W c w)]
    iintro ⟨⟨Ha, Hr, Hp, ⟨%Wd, %hWd, HO⟩⟩, -, -⟩
    imodintro
    isplitl [Ha]; · iexact Ha
    isplitr; · iempintro
    isplitl [HO]
    · iexists Wd; isplitr; · ipureintro; exact fun p hp => Or.inl (hWd p hp)
      iexact HO
    isplitl [Hp]; · iexact Hp
    iexact Hr
  hin c := by
    show _ ⊢ iprop(Pipeline.scopedRest spec1 c ∗ ∃ r, prngReg c r)
    iintro ⟨Hp, -, Hr⟩
    isplitl [Hr]; · iexact Hr
    iexact Hp
  hout c := by
    show iprop(Pipeline.scopedRest spec1 c ∗ ∃ r, prngReg c r) ⊢ iprop((∃ r, prngReg c r) ∗ Pipeline.ownSems0 (fun k : PEmpty => k.elim) c ∗ Pipeline.scopedRest spec1 c)
    rw [Pipeline.ownSems0_none]
    iintro ⟨Hr, Hp⟩
    isplitl [Hp]; · iexact Hp
    isplitr; · iempintro
    iexact Hr
  hexit c := by
    show iprop(((dats W 0 c).toRForget forgets1).arraysAt cfg1.N ∗ (dats W 0 c).owesAt none (Fin.last cfg1.N) ∗ _ ∗ _) ⊢ _
    iintro ⟨Ha, HO, Hp, Hr⟩
    ihave Ha := ((dats W 0 c).arraysAt_forget forgets1 cfg1.N) $$ Ha
    icases Ha with ⟨%A, %hA, Ha⟩
    icases HO with ⟨%Wd, %hWd, HO⟩
    imodintro
    iexists (withArrays spec1 c (W c) A)
    isplitr; · ipureintro; exact leaves_of W c A hA
    isplitl [Ha]
    · iapply (Entails.of_eq (Pipeline.arrays_held (pcfgs (F := F)) adm (pdats W) 0 launch1.toP c (fun w => (dats W 0 c).share_full (fun _ => rfl) w) A _
        (fun w => (Pipeline.withArrays_arr spec1 winFacts1.arr_inj c (W c) A w).symm)))
      iexact Ha
    isplitl [Hr]
    · iapply (Entails.of_eq (held_congr (c.tc : Thread nD τ) (S := Sr) (V := W c) (V' := withArrays spec1 c (W c) A) fun b hb => by
        obtain ⟨r, rfl⟩ := hTc b hb
        refine (Pipeline.withArrays_of_ne spec1 c (W c) A r (arr_ne r ?_)).symm
        rintro ⟨w, rfl⟩
        exact Finset.disjoint_left.mp hSr (Finset.mem_map.mpr ⟨_, Finset.mem_image_of_mem _ (Finset.mem_univ w), rfl⟩) hb))
      iexact Hr
    isplitl [Hp]; · iexact Hp
    iexists Wd
    isplitr
    · ipureintro
      intro p hp
      rcases hWd hp with h | ⟨w, s, rfl⟩
      · exact h
      · exact Nat.zero_le _
    iexact HO

end Cert.Proof.Adj
-- ==== Proof.RegionVal.lean ====
/-
  What the TensorCore call leaves in its results: every window is the whole of its array, so each result is the body's value of the
  operand arrays.
-/
module

public import proofs.«01_k».proof.Proof.Region

@[expose] public section

set_option maxRecDepth 16384

noncomputable section

namespace Cert.Proof.Adj

open Cert.KernelIdeal Cert.KernelIdeal.Gen

open Idealize.ShloMosaic Idealize.ShloMosaic.TcCoe
open Idealize.ShloMosaic.Pipeline (Dat Window arrRef)
open Cert.Proof.Mega (valX1 resX2 resX3 resSum)

variable {F : FTy → Type} [FloatOps F] [∀ e, Nonempty (Elt F e)]

variable (W : Dev nD → Valuation τ sig (Elt F))

theorem iblk_0 (c : Dev nD) (t : Fin cfg1.N) : iblk W c 0 t = (W c (Proc.devRef .tc main_v6) : Vec F S100x100x128 .f32) :=
  funext fun y => congrArg (W c (Proc.devRef .tc main_v6) : Vec F S100x100x128 .f32)
    (funext fun a => Fin.ext (Window.rect_emb_val_of_index_zero (cfg1.win 0) t a rfl y))
theorem iblk_1 (c : Dev nD) (t : Fin cfg1.N) : iblk W c 1 t = (W c (Proc.devRef .tc main_v8) : Vec F S100x100x128 .f32) :=
  funext fun y => congrArg (W c (Proc.devRef .tc main_v8) : Vec F S100x100x128 .f32)
    (funext fun a => Fin.ext (Window.rect_emb_val_of_index_zero (cfg1.win 1) t a rfl y))
theorem iblk_2 (c : Dev nD) (t : Fin cfg1.N) : iblk W c 2 t = (W c (Proc.devRef .tc main_v10) : Vec F S100x128x128 .f32) :=
  funext fun y => congrArg (W c (Proc.devRef .tc main_v10) : Vec F S100x128x128 .f32)
    (funext fun a => Fin.ext (Window.rect_emb_val_of_index_zero (cfg1.win 2) t a rfl y))
theorem iblk_3 (c : Dev nD) (t : Fin cfg1.N) : iblk W c 3 t = (W c (Proc.devRef .tc main_arg3) : Vec F S128x128 .f32) :=
  funext fun y => congrArg (W c (Proc.devRef .tc main_arg3) : Vec F S128x128 .f32)
    (funext fun a => Fin.ext (Window.rect_emb_val_of_index_zero (cfg1.win 3) t a rfl y))
theorem iblk_4 (c : Dev nD) (t : Fin cfg1.N) : iblk W c 4 t = (W c (Proc.devRef .tc main_v11) : Vec F S1x128 .f32) :=
  funext fun y => congrArg (W c (Proc.devRef .tc main_v11) : Vec F S1x128 .f32)
    (funext fun a => Fin.ext (Window.rect_emb_val_of_index_zero (cfg1.win 4) t a rfl y))

theorem iblk_5 (c : Dev nD) (t : Fin cfg1.N) : iblk W c 5 t = (W c (Proc.devRef .tc main_arg5) : Vec F S128x128 .f32) :=
  funext fun y => congrArg (W c (Proc.devRef .tc main_arg5) : Vec F S128x128 .f32)
    (funext fun a => Fin.ext (Window.rect_emb_val_of_index_zero (cfg1.win 5) t a rfl y))
theorem iblk_6 (c : Dev nD) (t : Fin cfg1.N) : iblk W c 6 t = (W c (Proc.devRef .tc main_v12) : Vec F S1x128 .f32) :=
  funext fun y => congrArg (W c (Proc.devRef .tc main_v12) : Vec F S1x128 .f32)
    (funext fun a => Fin.ext (Window.rect_emb_val_of_index_zero (cfg1.win 6) t a rfl y))
theorem iblk_7 (c : Dev nD) (t : Fin cfg1.N) : iblk W c 7 t = (W c (Proc.devRef .tc main_arg7) : Vec F S128x128 .f32) :=
  funext fun y => congrArg (W c (Proc.devRef .tc main_arg7) : Vec F S128x128 .f32)
    (funext fun a => Fin.ext (Window.rect_emb_val_of_index_zero (cfg1.win 7) t a rfl y))
theorem iblk_8 (c : Dev nD) (t : Fin cfg1.N) : iblk W c 8 t = (W c (Proc.devRef .tc main_v13) : Vec F S1x128 .f32) :=
  funext fun y => congrArg (W c (Proc.devRef .tc main_v13) : Vec F S1x128 .f32)
    (funext fun a => Fin.ext (Window.rect_emb_val_of_index_zero (cfg1.win 8) t a rfl y))

/-! The body's four values of the operand arrays. -/

def xval (c : Dev nD) : Vec F S100x128x128 .f32 :=
  valX1 (W c (Proc.devRef .tc main_v6) : Vec F S100x100x128 .f32)
    (W c (Proc.devRef .tc main_v8) : Vec F S100x100x128 .f32)
    (W c (Proc.devRef .tc main_v10) : Vec F S100x128x128 .f32)
    (W c (Proc.devRef .tc main_arg3) : Vec F S128x128 .f32)
    (W c (Proc.devRef .tc main_v11) : Vec F S1x128 .f32)
def x2val (c : Dev nD) : Vec F S100x64x128 .f32 :=
  resX2 (W c (Proc.devRef .tc main_v6) : Vec F S100x100x128 .f32)
    (W c (Proc.devRef .tc main_v8) : Vec F S100x100x128 .f32)
    (W c (Proc.devRef .tc main_v10) : Vec F S100x128x128 .f32)
    (W c (Proc.devRef .tc main_arg3) : Vec F S128x128 .f32)
    (W c (Proc.devRef .tc main_v11) : Vec F S1x128 .f32)
    (W c (Proc.devRef .tc main_arg5) : Vec F S128x128 .f32)
    (W c (Proc.devRef .tc main_v12) : Vec F S1x128 .f32)
def x3val (c : Dev nD) : Vec F S100x32x128 .f32 :=
  resX3 (W c (Proc.devRef .tc main_v6) : Vec F S100x100x128 .f32)
    (W c (Proc.devRef .tc main_v8) : Vec F S100x100x128 .f32)
    (W c (Proc.devRef .tc main_v10) : Vec F S100x128x128 .f32)
    (W c (Proc.devRef .tc main_arg3) : Vec F S128x128 .f32)
    (W c (Proc.devRef .tc main_v11) : Vec F S1x128 .f32)
    (W c (Proc.devRef .tc main_arg5) : Vec F S128x128 .f32)
    (W c (Proc.devRef .tc main_v12) : Vec F S1x128 .f32)
    (W c (Proc.devRef .tc main_arg7) : Vec F S128x128 .f32)
    (W c (Proc.devRef .tc main_v13) : Vec F S1x128 .f32)
def sumval (c : Dev nD) : Vec F S100x1x256 .f32 :=
  resSum (W c (Proc.devRef .tc main_v6) : Vec F S100x100x128 .f32)
    (W c (Proc.devRef .tc main_v8) : Vec F S100x100x128 .f32)
    (W c (Proc.devRef .tc main_v10) : Vec F S100x128x128 .f32)
    (W c (Proc.devRef .tc main_arg3) : Vec F S128x128 .f32)
    (W c (Proc.devRef .tc main_v11) : Vec F S1x128 .f32)
    (W c (Proc.devRef .tc main_arg5) : Vec F S128x128 .f32)
    (W c (Proc.devRef .tc main_v12) : Vec F S1x128 .f32)
    (W c (Proc.devRef .tc main_arg7) : Vec F S128x128 .f32)
    (W c (Proc.devRef .tc main_v13) : Vec F S1x128 .f32)

theorem xblk_eq (c : Dev nD) (t : Fin cfg1.N) : xblk W c t = xval W c := by
  unfold xblk xval; rw [iblk_0, iblk_1, iblk_2, iblk_3, iblk_4]
theorem x2blk_eq (c : Dev nD) (t : Fin cfg1.N) : x2blk W c t = x2val W c := by
  unfold x2blk x2val; rw [iblk_0, iblk_1, iblk_2, iblk_3, iblk_4, iblk_5, iblk_6]
theorem x3blk_eq (c : Dev nD) (t : Fin cfg1.N) : x3blk W c t = x3val W c := by
  unfold x3blk x3val; rw [iblk_0, iblk_1, iblk_2, iblk_3, iblk_4, iblk_5, iblk_6, iblk_7, iblk_8]
theorem sumblk_eq (c : Dev nD) (t : Fin cfg1.N) : sumblk W c t = sumval W c := by
  unfold sumblk sumval; rw [iblk_0, iblk_1, iblk_2, iblk_3, iblk_4, iblk_5, iblk_6, iblk_7, iblk_8]

theorem out_emb9 (t : Fin cfg1.N) (y : S100x128x128.Idx) : ((cfg1.win 9).blk t).view.emb y = y :=
  funext fun a => Fin.ext (Window.rect_emb_val_of_index_zero (cfg1.win 9) t a rfl y)
theorem out_emb10 (t : Fin cfg1.N) (y : S100x64x128.Idx) : ((cfg1.win 10).blk t).view.emb y = y :=
  funext fun a => Fin.ext (Window.rect_emb_val_of_index_zero (cfg1.win 10) t a rfl y)
theorem out_emb11 (t : Fin cfg1.N) (y : S100x32x128.Idx) : ((cfg1.win 11).blk t).view.emb y = y :=
  funext fun a => Fin.ext (Window.rect_emb_val_of_index_zero (cfg1.win 11) t a rfl y)
theorem out_emb12 (t : Fin cfg1.N) (y : S100x1x256.Idx) : ((cfg1.win 12).blk t).view.emb y = y :=
  funext fun a => Fin.ext (Window.rect_emb_val_of_index_zero (cfg1.win 12) t a rfl y)

/-! Each result's array, when the call ends, is the body's value. -/

theorem xarr_eq (c : Dev nD) : xarr W c = xval W c := by
  unfold xarr
  refine (dats W 0 c).arrAt_eq_of_cover (9 : Fin 13) _ (fun t _ => ?_) (fun i => ⟨t1_0, rfl, ?_⟩)
  · refine ((after1_9 W c t).trans (xblk_eq W c t)).trans ?_
    funext y
    exact congrArg (xval W c) (out_emb9 t y).symm
  · exact Finset.mem_map.mpr ⟨i, Finset.mem_univ _, out_emb9 t1_0 i⟩
theorem x2arr_eq (c : Dev nD) : x2arr W c = x2val W c := by
  unfold x2arr
  refine (dats W 0 c).arrAt_eq_of_cover (10 : Fin 13) _ (fun t _ => ?_) (fun i => ⟨t1_0, rfl, ?_⟩)
  · refine ((after1_10 W c t).trans (x2blk_eq W c t)).trans ?_
    funext y
    exact congrArg (x2val W c) (out_emb10 t y).symm
  · exact Finset.mem_map.mpr ⟨i, Finset.mem_univ _, out_emb10 t1_0 i⟩
theorem x3arr_eq (c : Dev nD) : x3arr W c = x3val W c := by
  unfold x3arr
  refine (dats W 0 c).arrAt_eq_of_cover (11 : Fin 13) _ (fun t _ => ?_) (fun i => ⟨t1_0, rfl, ?_⟩)
  · refine ((after1_11 W c t).trans (x3blk_eq W c t)).trans ?_
    funext y
    exact congrArg (x3val W c) (out_emb11 t y).symm
  · exact Finset.mem_map.mpr ⟨i, Finset.mem_univ _, out_emb11 t1_0 i⟩
theorem sumarr_eq (c : Dev nD) : sumarr W c = sumval W c := by
  unfold sumarr
  refine (dats W 0 c).arrAt_eq_of_cover (12 : Fin 13) _ (fun t _ => ?_) (fun i => ⟨t1_0, rfl, ?_⟩)
  · refine ((after1_12 W c t).trans (sumblk_eq W c t)).trans ?_
    funext y
    exact congrArg (sumval W c) (out_emb12 t y).symm
  · exact Finset.mem_map.mpr ⟨i, Finset.mem_univ _, out_emb12 t1_0 i⟩

end Cert.Proof.Adj
-- ==== Proof.Launch.lean ====
/-
  The whole program: the host cuts the edge list into its two rows, the SparseCore call counts each half of the edges, the host cuts the
  two results and pads the node features, the TensorCore call does the rest, and the host cuts its results. `run_main` says every
  execution ends with the arguments unchanged, the results at `xsVal`, `xs2Val`, `xs4Val` and `sumVal` of the arguments and at the host's own
  two id lists.
-/
module

public import proofs.«01_k».proof.Proof.Tile
public import proofs.«01_k».proof.Proof.RegionVal
public import Idealize.ShloMosaic.Lib.Pipeline.Frame

@[expose] public section

set_option maxRecDepth 16384

noncomputable section

namespace Cert.Proof.Adj

open Cert.KernelIdeal Cert.KernelIdeal.Gen

open Idealize.ShloMosaic Idealize.ShloMosaic.Transfers Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held held_sub_split held_congr after wp_seq)
open Idealize.ShloMosaic.Pipeline (ucRefs sub_ucRefs arrRefs pin cellsGhost toksInit cells launchToks RDat)
open Cert.Proof.Mega (valX1 resX2 resX3 resSum)

variable (m : (ℓ : Loc nD τ sig) → Buf (Elt F) ℓ) (ρ : Dev nD → PrngReg)

/-! ## The host's three lines of operations -/

/-- The operations before the SparseCore call: the two rows of the edge list. -/
def preOps : List (HloOp τ sig (Elt F)) :=
  [StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
   StableHlo.reshape main_v0 main_v1 (rfl : (.i32 : EltTy) = .i32) shapeCasts_S1x320000_S320000,
   StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
   StableHlo.reshape main_v2 main_v3 (rfl : (.i32 : EltTy) = .i32) shapeCasts_S1x320000_S320000]

/-- The operations between the two calls: the two results reshaped and cut to the hundred graphs, the features by graph and padded to 128 nodes, the biases as rows. -/
def midOps : List (HloOp τ sig (Elt F)) :=
  [StableHlo.reshape main_v4_0 main_v5 (rfl : (.f32 : EltTy) = .f32) shapeCasts_S1331200_S104x100x128,
   StableHlo.unary main_v5 main_v6 ((extractStridedSlice S100x100x128 ![0, 0, 0] · slices_S104x100x128_S100x100x128_0_0_0) : (⟨S104x100x128, .f32⟩ : BufTy).Contents (Elt F) → (⟨S100x100x128, .f32⟩ : BufTy).Contents (Elt F)),
   StableHlo.reshape main_v4_1 main_v7 (rfl : (.f32 : EltTy) = .f32) shapeCasts_S1331200_S104x100x128,
   StableHlo.unary main_v7 main_v8 ((extractStridedSlice S100x100x128 ![0, 0, 0] · slices_S104x100x128_S100x100x128_0_0_0) : (⟨S104x100x128, .f32⟩ : BufTy).Contents (Elt F) → (⟨S100x100x128, .f32⟩ : BufTy).Contents (Elt F)),
   StableHlo.reshape main_arg0 main_v9 (rfl : (.f32 : EltTy) = .f32) shapeCasts_S10000x128_S100x100x128,
   StableHlo.nullary main_c (constantI S_ 32 0#32),
   StableHlo.TRef.unary (.of main_c : StableHlo.TRef sig ⟨S_, .i32⟩) (.of main_call0_v0 : StableHlo.TRef sig ⟨S_, .f32⟩) (sitofp .f32),
   StableHlo.TRef.binary (.of main_v9 : StableHlo.TRef sig ⟨S100x100x128, .f32⟩) (.of main_call0_v0 : StableHlo.TRef sig ⟨S_, .f32⟩) (.of main_v10 : StableHlo.TRef sig ⟨S100x128x128, .f32⟩) (fun x v => pad S100x128x128 ![0, 0, 0] ![0, 28, 0] ![0, 0, 0] x v pads_S100x100x128_S100x128x128_000_0280_000 h_S_),
   StableHlo.reshape main_arg4 main_v11 (rfl : (.f32 : EltTy) = .f32) shapeCasts_S128_S1x128,
   StableHlo.reshape main_arg6 main_v12 (rfl : (.f32 : EltTy) = .f32) shapeCasts_S128_S1x128,
   StableHlo.reshape main_arg8 main_v13 (rfl : (.f32 : EltTy) = .f32) shapeCasts_S128_S1x128]

/-- The operations after the TensorCore call: its results cut to the nodes of each graph, the two id lists, and the summary by graph. -/
def postOps : List (HloOp τ sig (Elt F)) :=
  [StableHlo.unary main_v14_0 main_v15 ((extractStridedSlice S100x100x128 ![0, 0, 0] · slices_S100x128x128_S100x100x128_0_0_0) : (⟨S100x128x128, .f32⟩ : BufTy).Contents (Elt F) → (⟨S100x100x128, .f32⟩ : BufTy).Contents (Elt F)),
   StableHlo.reshape main_v15 main_v16 (rfl : (.f32 : EltTy) = .f32) shapeCasts_S100x100x128_S10000x128,
   StableHlo.unary main_v14_1 main_v17 ((extractStridedSlice S100x50x128 ![0, 0, 0] · slices_S100x64x128_S100x50x128_0_0_0) : (⟨S100x64x128, .f32⟩ : BufTy).Contents (Elt F) → (⟨S100x50x128, .f32⟩ : BufTy).Contents (Elt F)),
   StableHlo.reshape main_v17 main_v18 (rfl : (.f32 : EltTy) = .f32) shapeCasts_S100x50x128_S5000x128,
   StableHlo.unary main_v14_2 main_v19 ((extractStridedSlice S100x25x128 ![0, 0, 0] · slices_S100x32x128_S100x25x128_0_0_0) : (⟨S100x32x128, .f32⟩ : BufTy).Contents (Elt F) → (⟨S100x25x128, .f32⟩ : BufTy).Contents (Elt F)),
   StableHlo.reshape main_v19 main_v20 (rfl : (.f32 : EltTy) = .f32) shapeCasts_S100x25x128_S2500x128,
   StableHlo.nullary main_v21 (iotaInDim S100 32 0),
   StableHlo.unary main_v21 main_v22 (broadcastInDim S100x50 ![0] bcast_S100_S100x50_0 : (⟨S100, .i32⟩ : BufTy).Contents (Elt F) → (⟨S100x50, .i32⟩ : BufTy).Contents (Elt F)),
   StableHlo.reshape main_v22 main_v23 (rfl : (.i32 : EltTy) = .i32) shapeCasts_S100x50_S5000,
   StableHlo.nullary main_v24 (iotaInDim S100 32 0),
   StableHlo.unary main_v24 main_v25 (broadcastInDim S100x25 ![0] bcast_S100_S100x25_0 : (⟨S100, .i32⟩ : BufTy).Contents (Elt F) → (⟨S100x25, .i32⟩ : BufTy).Contents (Elt F)),
   StableHlo.reshape main_v25 main_v26 (rfl : (.i32 : EltTy) = .i32) shapeCasts_S100x25_S2500,
   StableHlo.reshape main_v14_3 main_v27 (rfl : (.f32 : EltTy) = .f32) shapeCasts_S100x1x256_S100x256]

theorem main_eq (d : Dev nD) : main (F := F) d = StableHlo.seq preOps >>= fun _ => (K (F := F)).run d 0 >>= fun _ => StableHlo.seq midOps >>= fun _ =>
    SparseCore.liftProg (.op (.customCall (Pipeline.entry 0) ()) .ret) >>= fun _ => StableHlo.seq postOps := rfl

/-! ## The contents along the way -/

abbrev dv (b : Ref sig .tc) : DevRef τ sig := Proc.devRef .tc b
/-- What an argument's buffer, or a result's, holds on device `d`. -/
abbrev at_ (d : Dev nD) (b : Ref sig .tc) : Loc nD τ sig := (d, dv b)

/-- The sources and the destinations: the two rows of the edge list. -/
def srcOf (x : S2x320000.Idx → BitVec 32) : S320000.Idx → BitVec 32 :=
  shapeCast S320000 (extractStridedSlice S1x320000 ![0, 0] x slices_S2x320000_S1x320000_0_0) shapeCasts_S1x320000_S320000
def dstOf (x : S2x320000.Idx → BitVec 32) : S320000.Idx → BitVec 32 :=
  shapeCast S320000 (extractStridedSlice S1x320000 ![1, 0] x slices_S2x320000_S1x320000_1_0) shapeCasts_S1x320000_S320000

/-- The edge list, and its rows, as the launch holds them. -/
def argAt (d : Dev nD) : S2x320000.Idx → BitVec 32 := m (at_ d main_arg1)
def sAt (d : Dev nD) : S320000.Idx → BitVec 32 := srcOf (argAt m d)
def dAt (d : Dev nD) : S320000.Idx → BitVec 32 := dstOf (argAt m d)

/-- A result of the SparseCore call as the TensorCore call takes it. -/
def cutVal (a : Vec F S1331200 .f32) : Vec F S100x100x128 .f32 :=
  extractStridedSlice S100x100x128 ![0, 0, 0] (shapeCast S104x100x128 a shapeCasts_S1331200_S104x100x128) slices_S104x100x128_S100x100x128_0_0_0
/-- The node features as the TensorCore call takes them. -/
def padVal (x : Vec F S10000x128 .f32) : Vec F S100x128x128 .f32 :=
  pad S100x128x128 ![0, 0, 0] ![0, 28, 0] ![0, 0, 0] (shapeCast S100x100x128 x shapeCasts_S10000x128_S100x100x128) (sitofp .f32 (constantI S_ 32 0#32) : Vec F S_ .f32)
    pads_S100x100x128_S100x128x128_000_0280_000 h_S_
/-- The node features after the first layer, from the two results of the SparseCore call, the features, the weights and the bias. -/
def joinVal (a b : Vec F S1331200 .f32) (x : Vec F S10000x128 .f32) (w : Vec F S128x128 .f32) (bs : Vec F S128 .f32) : Vec F S10000x128 .f32 :=
  shapeCast S10000x128 (extractStridedSlice S100x100x128 ![0, 0, 0]
    (valX1 (cutVal a) (cutVal b) (padVal x) w (shapeCast S1x128 bs shapeCasts_S128_S1x128)) slices_S100x128x128_S100x100x128_0_0_0) shapeCasts_S100x100x128_S10000x128
def xsVal (src dst : S320000.Idx → BitVec 32) (x : Vec F S10000x128 .f32) (w : Vec F S128x128 .f32) (bs : Vec F S128 .f32) : Vec F S10000x128 .f32 :=
  joinVal (outVal src dst 0) (outVal src dst 1) x w bs
/-- The node features after the second layer, and after the third, and the summary of each graph. -/
def xs2Val (src dst : S320000.Idx → BitVec 32) (x : Vec F S10000x128 .f32) (w : Vec F S128x128 .f32) (bs : Vec F S128 .f32) (w2 : Vec F S128x128 .f32) (b2 : Vec F S128 .f32) :
    Vec F S5000x128 .f32 :=
  shapeCast S5000x128 (extractStridedSlice S100x50x128 ![0, 0, 0]
    (resX2 (cutVal (outVal src dst 0)) (cutVal (outVal src dst 1)) (padVal x) w (shapeCast S1x128 bs shapeCasts_S128_S1x128) w2 (shapeCast S1x128 b2 shapeCasts_S128_S1x128))
    slices_S100x64x128_S100x50x128_0_0_0) shapeCasts_S100x50x128_S5000x128
def xs4Val (src dst : S320000.Idx → BitVec 32) (x : Vec F S10000x128 .f32) (w : Vec F S128x128 .f32) (bs : Vec F S128 .f32) (w2 : Vec F S128x128 .f32) (b2 : Vec F S128 .f32)
    (w3 : Vec F S128x128 .f32) (b3 : Vec F S128 .f32) : Vec F S2500x128 .f32 :=
  shapeCast S2500x128 (extractStridedSlice S100x25x128 ![0, 0, 0]
    (resX3 (cutVal (outVal src dst 0)) (cutVal (outVal src dst 1)) (padVal x) w (shapeCast S1x128 bs shapeCasts_S128_S1x128) w2 (shapeCast S1x128 b2 shapeCasts_S128_S1x128)
      w3 (shapeCast S1x128 b3 shapeCasts_S128_S1x128))
    slices_S100x32x128_S100x25x128_0_0_0) shapeCasts_S100x25x128_S2500x128
def sumVal (src dst : S320000.Idx → BitVec 32) (x : Vec F S10000x128 .f32) (w : Vec F S128x128 .f32) (bs : Vec F S128 .f32) (w2 : Vec F S128x128 .f32) (b2 : Vec F S128 .f32)
    (w3 : Vec F S128x128 .f32) (b3 : Vec F S128 .f32) : Vec F S100x256 .f32 :=
  shapeCast S100x256
    (resSum (cutVal (outVal src dst 0)) (cutVal (outVal src dst 1)) (padVal x) w (shapeCast S1x128 bs shapeCasts_S128_S1x128) w2 (shapeCast S1x128 b2 shapeCasts_S128_S1x128)
      w3 (shapeCast S1x128 b3 shapeCasts_S128_S1x128)) shapeCasts_S100x1x256_S100x256
/-- The graph of each node after the first pooling, and after the second. -/
def ids2 : S5000.Idx → BitVec 32 := shapeCast S5000 (broadcastInDim S100x50 ![0] bcast_S100_S100x50_0 (iotaInDim S100 32 0)) shapeCasts_S100x50_S5000
def ids4 : S2500.Idx → BitVec 32 := shapeCast S2500 (broadcastInDim S100x25 ![0] bcast_S100_S100x25_0 (iotaInDim S100 32 0)) shapeCasts_S100x25_S2500

def V0 (d : Dev nD) : Valuation τ sig (Elt F) := fun b => m (d, b)
def V1 (d : Dev nD) : Valuation τ sig (Elt F) := after preOps (V0 m d)
def V2 (d : Dev nD) : Valuation τ sig (Elt F) :=
  Function.update (Function.update (V1 m d) (dv main_v4_0) (outVal (sAt m d) (dAt m d) 0 : Vec F S1331200 .f32)) (dv main_v4_1) (outVal (sAt m d) (dAt m d) 1 : Vec F S1331200 .f32)
def V3 (d : Dev nD) : Valuation τ sig (Elt F) := after midOps (V2 m d)

/-- No operation of a line writes an argument. -/
def isArg : Fin 9 → Ref sig .tc := ![main_arg0, main_arg1, main_arg2, main_arg3, main_arg4, main_arg5, main_arg6, main_arg7, main_arg8]

theorem V1_s (d : Dev nD) : V1 m d (dv main_v1) = (sAt m d : Buf (Elt F) (sLoc d)) := by
  unfold V1 preOps; after_results_simp; rfl
theorem V1_t (d : Dev nD) : V1 m d (dv main_v3) = (dAt m d : Buf (Elt F) (tLoc d)) := by
  unfold V1 preOps; after_results_simp; rfl
theorem V1_o0 (d : Dev nD) : V1 m d (dv main_v4_0) = m (o0Loc d) := by
  unfold V1 preOps; after_results_simp; rfl
theorem V1_o1 (d : Dev nD) : V1 m d (dv main_v4_1) = m (o1Loc d) := by
  unfold V1 preOps; after_results_simp; rfl
theorem V1_a (d : Dev nD) (a : Fin 9) : V1 m d (dv (isArg a)) = m (at_ d (isArg a)) := by
  unfold V1 preOps; fin_cases a <;> (after_results_simp; rfl)
theorem V2_o0 (d : Dev nD) : V2 m d (dv main_v4_0) = (outVal (sAt m d) (dAt m d) 0 : Vec F S1331200 .f32) :=
  (Function.update_of_ne (show dv main_v4_0 ≠ dv main_v4_1 by decide) _ _).trans (Function.update_self _ _ _)
theorem V2_o1 (d : Dev nD) : V2 m d (dv main_v4_1) = (outVal (sAt m d) (dAt m d) 1 : Vec F S1331200 .f32) := Function.update_self _ _ _
theorem V2_of (d : Dev nD) (b : DevRef τ sig) (h0 : b ≠ dv main_v4_0) (h1 : b ≠ dv main_v4_1) : V2 m d b = V1 m d b :=
  (Function.update_of_ne h1 _ _).trans (Function.update_of_ne h0 _ _)
theorem arg_ne (a : Fin 9) : dv (isArg a) ≠ dv main_v4_0 ∧ dv (isArg a) ≠ dv main_v4_1 := by revert a; decide
theorem V2_a (d : Dev nD) (a : Fin 9) : V2 m d (dv (isArg a)) = m (at_ d (isArg a)) :=
  (V2_of m d _ (arg_ne a).1 (arg_ne a).2).trans (V1_a m d a)
theorem V3_a (d : Dev nD) (a : Fin 9) : V3 m d (dv (isArg a)) = m (at_ d (isArg a)) := by
  rw [← V2_a m d a]; unfold V3 midOps; fin_cases a <;> after_results_simp
theorem V3_v6 (d : Dev nD) : V3 m d (dv main_v6) = (cutVal (outVal (sAt m d) (dAt m d) 0) : Vec F S100x100x128 .f32) := by
  unfold V3 midOps; after_results_simp; rw [V2_o0]; rfl
theorem V3_v8 (d : Dev nD) : V3 m d (dv main_v8) = (cutVal (outVal (sAt m d) (dAt m d) 1) : Vec F S100x100x128 .f32) := by
  unfold V3 midOps; after_results_simp; rw [V2_o1]; rfl
theorem V3_v10 (d : Dev nD) : V3 m d (dv main_v10) = (padVal (m (at_ d main_arg0)) : Vec F S100x128x128 .f32) := by
  refine Eq.trans ?_ (congrArg (fun x : Vec F S10000x128 .f32 => padVal x) (V2_a m d 0)); unfold V3 midOps; after_results_simp; rfl
theorem V3_v11 (d : Dev nD) : V3 m d (dv main_v11) = (shapeCast S1x128 (m (at_ d main_arg4) : Vec F S128 .f32) shapeCasts_S128_S1x128 : Vec F S1x128 .f32) := by
  refine Eq.trans ?_ (congrArg (fun x : Vec F S128 .f32 => (shapeCast S1x128 x shapeCasts_S128_S1x128 : Vec F S1x128 .f32)) (V2_a m d 4)); unfold V3 midOps; after_results_simp; rfl

theorem V3_v12 (d : Dev nD) : V3 m d (dv main_v12) = (shapeCast S1x128 (m (at_ d main_arg6) : Vec F S128 .f32) shapeCasts_S128_S1x128 : Vec F S1x128 .f32) := by
  refine Eq.trans ?_ (congrArg (fun x : Vec F S128 .f32 => (shapeCast S1x128 x shapeCasts_S128_S1x128 : Vec F S1x128 .f32)) (V2_a m d 6)); unfold V3 midOps; after_results_simp; rfl
theorem V3_v13 (d : Dev nD) : V3 m d (dv main_v13) = (shapeCast S1x128 (m (at_ d main_arg8) : Vec F S128 .f32) shapeCasts_S128_S1x128 : Vec F S1x128 .f32) := by
  refine Eq.trans ?_ (congrArg (fun x : Vec F S128 .f32 => (shapeCast S1x128 x shapeCasts_S128_S1x128 : Vec F S1x128 .f32)) (V2_a m d 8)); unfold V3 midOps; after_results_simp; rfl

section Tail

variable [∀ e, Nonempty (Elt F e)]

/-! What the TensorCore call leaves in its four results. -/

theorem xarr_V3 (d : Dev nD) : xarr (V3 m) d
    = valX1 (cutVal (outVal (sAt m d) (dAt m d) 0)) (cutVal (outVal (sAt m d) (dAt m d) 1)) (padVal (m (at_ d main_arg0))) (m (at_ d main_arg3))
        (shapeCast S1x128 (m (at_ d main_arg4) : Vec F S128 .f32) shapeCasts_S128_S1x128) := by
  rw [xarr_eq]
  exact congr (congr (congr (congr (congrArg valX1 (V3_v6 m d)) (V3_v8 m d)) (V3_v10 m d)) (V3_a m d 3)) (V3_v11 m d)
theorem x2arr_V3 (d : Dev nD) : x2arr (V3 m) d
    = resX2 (cutVal (outVal (sAt m d) (dAt m d) 0)) (cutVal (outVal (sAt m d) (dAt m d) 1)) (padVal (m (at_ d main_arg0))) (m (at_ d main_arg3))
        (shapeCast S1x128 (m (at_ d main_arg4) : Vec F S128 .f32) shapeCasts_S128_S1x128) (m (at_ d main_arg5)) (shapeCast S1x128 (m (at_ d main_arg6) : Vec F S128 .f32) shapeCasts_S128_S1x128) := by
  rw [x2arr_eq]
  exact congr (congr (congr (congr (congr (congr (congrArg resX2 (V3_v6 m d)) (V3_v8 m d)) (V3_v10 m d)) (V3_a m d 3)) (V3_v11 m d)) (V3_a m d 5)) (V3_v12 m d)
theorem x3arr_V3 (d : Dev nD) : x3arr (V3 m) d
    = resX3 (cutVal (outVal (sAt m d) (dAt m d) 0)) (cutVal (outVal (sAt m d) (dAt m d) 1)) (padVal (m (at_ d main_arg0))) (m (at_ d main_arg3))
        (shapeCast S1x128 (m (at_ d main_arg4) : Vec F S128 .f32) shapeCasts_S128_S1x128) (m (at_ d main_arg5)) (shapeCast S1x128 (m (at_ d main_arg6) : Vec F S128 .f32) shapeCasts_S128_S1x128) (m (at_ d main_arg7)) (shapeCast S1x128 (m (at_ d main_arg8) : Vec F S128 .f32) shapeCasts_S128_S1x128) := by
  rw [x3arr_eq]
  exact congr (congr (congr (congr (congr (congr (congr (congr (congrArg resX3 (V3_v6 m d)) (V3_v8 m d)) (V3_v10 m d)) (V3_a m d 3)) (V3_v11 m d)) (V3_a m d 5)) (V3_v12 m d)) (V3_a m d 7)) (V3_v13 m d)
theorem sumarr_V3 (d : Dev nD) : sumarr (V3 m) d
    = resSum (cutVal (outVal (sAt m d) (dAt m d) 0)) (cutVal (outVal (sAt m d) (dAt m d) 1)) (padVal (m (at_ d main_arg0))) (m (at_ d main_arg3))
        (shapeCast S1x128 (m (at_ d main_arg4) : Vec F S128 .f32) shapeCasts_S128_S1x128) (m (at_ d main_arg5)) (shapeCast S1x128 (m (at_ d main_arg6) : Vec F S128 .f32) shapeCasts_S128_S1x128) (m (at_ d main_arg7)) (shapeCast S1x128 (m (at_ d main_arg8) : Vec F S128 .f32) shapeCasts_S128_S1x128) := by
  rw [sumarr_eq]
  exact congr (congr (congr (congr (congr (congr (congr (congr (congrArg resSum (V3_v6 m d)) (V3_v8 m d)) (V3_v10 m d)) (V3_a m d 3)) (V3_v11 m d)) (V3_a m d 5)) (V3_v12 m d)) (V3_a m d 7)) (V3_v13 m d)

/-- The buffers at the end that the claims speak of. -/
def Final (d : Dev nD) (V : Valuation τ sig (Elt F)) : Prop :=
  (∀ a : Fin 9, V (dv (isArg a)) = m (at_ d (isArg a)))
  ∧ V (dv main_v16) = (xsVal (sAt m d) (dAt m d) (m (at_ d main_arg0)) (m (at_ d main_arg3)) (m (at_ d main_arg4)) : Vec F S10000x128 .f32)
  ∧ V (dv main_v18) = (xs2Val (sAt m d) (dAt m d) (m (at_ d main_arg0)) (m (at_ d main_arg3)) (m (at_ d main_arg4)) (m (at_ d main_arg5)) (m (at_ d main_arg6)) : Vec F S5000x128 .f32)
  ∧ V (dv main_v20) = (xs4Val (sAt m d) (dAt m d) (m (at_ d main_arg0)) (m (at_ d main_arg3)) (m (at_ d main_arg4)) (m (at_ d main_arg5)) (m (at_ d main_arg6)) (m (at_ d main_arg7)) (m (at_ d main_arg8)) : Vec F S2500x128 .f32)
  ∧ V (dv main_v23) = (ids2 : S5000.Idx → BitVec 32) ∧ V (dv main_v26) = (ids4 : S2500.Idx → BitVec 32)
  ∧ V (dv main_v27) = (sumVal (sAt m d) (dAt m d) (m (at_ d main_arg0)) (m (at_ d main_arg3)) (m (at_ d main_arg4)) (m (at_ d main_arg5)) (m (at_ d main_arg6)) (m (at_ d main_arg7)) (m (at_ d main_arg8)) : Vec F S100x256 .f32)

theorem arg_kept (a : Fin 9) : isArg a ≠ main_v14_0 ∧ isArg a ≠ main_v14_1 ∧ isArg a ≠ main_v14_2 ∧ isArg a ≠ main_v14_3 := by revert a; decide

theorem final_of (d : Dev nD) (V' : Valuation τ sig (Elt F)) (h : Leaves (V3 m) d V') : Final m d (after postOps V') := by
  obtain ⟨h0, h1, h2, h3, h⟩ := h
  refine ⟨fun a => ?_, ?_, ?_, ?_, ?_, ?_, ?_⟩
  · have hk := arg_kept a
    rw [← V3_a m d a, ← h _ hk.1 hk.2.1 hk.2.2.1 hk.2.2.2]
    unfold postOps; fin_cases a <;> after_results_simp
  · unfold postOps; after_results_simp
    rw [h0, xarr_V3]; rfl
  · unfold postOps; after_results_simp
    rw [h1, x2arr_V3]; rfl
  · unfold postOps; after_results_simp
    rw [h2, x3arr_V3]; rfl
  · unfold postOps; after_results_simp; rfl
  · unfold postOps; after_results_simp; rfl
  · unfold postOps; after_results_simp
    rw [h3, sumarr_V3]; rfl

end Tail

/-! ## The buffers the calls take -/

def TIn : Finset (DevRef τ sig) := {dv main_v1, dv main_v3}
def TOut : Finset (DevRef τ sig) := {dv main_v4_0, dv main_v4_1}
/-- The buffers the TensorCore call does not take. -/
def TRest : Finset (DevRef τ sig) := (ucRefs τ sig \ TIn) \ arrRefs spec1

theorem uc_mem (b : Ref sig .tc) (h : (dv b).isScoped = false) : dv b ∈ ucRefs τ sig :=
  Finset.mem_filter.mpr ⟨StableHlo.devRef_mem_tcRefs b, by rw [h]; exact Bool.false_ne_true⟩
theorem TIn_sub : TIn ⊆ ucRefs τ sig := fun b hb => by
  unfold TIn at hb; simp only [Finset.mem_insert, Finset.mem_singleton] at hb
  rcases hb with rfl | rfl <;> exact uc_mem _ rfl
theorem TOut_sub : TOut ⊆ ucRefs τ sig \ TIn := fun b hb => by
  unfold TOut at hb; simp only [Finset.mem_insert, Finset.mem_singleton] at hb
  rcases hb with rfl | rfl <;> exact Finset.mem_sdiff.mpr ⟨uc_mem _ rfl, by decide⟩
theorem off_TIn (b : Ref sig .tc) (h1 : b ≠ main_v1) (h3 : b ≠ main_v3) : dv b ∉ TIn := by
  unfold TIn; simp only [Finset.mem_insert, Finset.mem_singleton, not_or]
  exact ⟨fun e => h1 (Proc.devRef_injective _ e), fun e => h3 (Proc.devRef_injective _ e)⟩
theorem win_off : ∀ w : Fin 13, Pipeline.arrRef spec1 w ≠ main_v1 ∧ Pipeline.arrRef spec1 w ≠ main_v3 := by decide
theorem arr_sub : arrRefs (τ := τ) spec1 ⊆ ucRefs τ sig \ TIn := fun b hb => by
  refine Finset.mem_sdiff.mpr ⟨Pipeline.arrRefs_sub_ucRefs spec1 winFacts1.arr_unscoped hb, ?_⟩
  obtain ⟨r, hr, rfl⟩ := Finset.mem_map.mp hb
  obtain ⟨w, -, rfl⟩ := Finset.mem_image.mp hr
  exact off_TIn _ (win_off w).1 (win_off w).2
theorem rest_disj : Disjoint (arrRefs (τ := τ) spec1) TRest := Finset.disjoint_sdiff
theorem rest_tc : ∀ b ∈ TRest, ∃ r, b = Proc.devRef .tc r := fun b hb => by
  have h := (Finset.mem_filter.mp (Finset.mem_sdiff.mp (Finset.mem_sdiff.mp hb).1).1).1
  obtain ⟨r, -, rfl⟩ := Finset.mem_map.mp h
  exact ⟨r, rfl⟩

theorem held_pair {x y : DevRef τ sig} (h : x ≠ y) (d : Dev nD) (W : Valuation τ sig (Elt F)) :
    (held (SparseCore.T d) {x, y} W : sProp 𝕄) = iprop(((d, x) ↦{fullShare} W x) ∗ (d, y) ↦{fullShare} W y) := by
  unfold held
  rw [SparseCore.bigSep_insert' (by simpa using h), bigSep_singleton]

theorem pre_bufs : ∀ op ∈ preOps (F := F), op.bufs ⊆ ucRefs τ sig := by
  intro op hop; unfold preOps at hop
  simp only [List.mem_cons, List.not_mem_nil, or_false] at hop
  rcases hop with rfl | rfl | rfl | rfl
  · exact sub_ucRefs _ (StableHlo.unary_bufs_sub ..)
  · exact sub_ucRefs _ (StableHlo.reshape_bufs_sub ..)
  · exact sub_ucRefs _ (StableHlo.unary_bufs_sub ..)
  · exact sub_ucRefs _ (StableHlo.reshape_bufs_sub ..)
theorem pre_fresh : ∀ op ∈ preOps (F := F), op.fresh = ∅ := by
  intro op hop; unfold preOps at hop
  simp only [List.mem_cons, List.not_mem_nil, or_false] at hop
  rcases hop with rfl | rfl | rfl | rfl <;> rfl
theorem mid_bufs : ∀ op ∈ midOps (F := F), op.bufs ⊆ ucRefs τ sig \ TIn := by
  intro op hop; unfold midOps at hop
  simp only [List.mem_cons, List.not_mem_nil, or_false] at hop
  rcases hop with rfl | rfl | rfl | rfl | rfl | rfl | rfl | rfl | rfl | rfl | rfl
  · exact Finset.subset_sdiff.mpr ⟨sub_ucRefs _ (StableHlo.reshape_bufs_sub ..), (by decide : Disjoint ({dv main_v4_0, dv main_v5} : Finset (DevRef τ sig)) {dv main_v1, dv main_v3})⟩
  · exact Finset.subset_sdiff.mpr ⟨sub_ucRefs _ (StableHlo.unary_bufs_sub ..), (by decide : Disjoint ({dv main_v5, dv main_v6} : Finset (DevRef τ sig)) {dv main_v1, dv main_v3})⟩
  · exact Finset.subset_sdiff.mpr ⟨sub_ucRefs _ (StableHlo.reshape_bufs_sub ..), (by decide : Disjoint ({dv main_v4_1, dv main_v7} : Finset (DevRef τ sig)) {dv main_v1, dv main_v3})⟩
  · exact Finset.subset_sdiff.mpr ⟨sub_ucRefs _ (StableHlo.unary_bufs_sub ..), (by decide : Disjoint ({dv main_v7, dv main_v8} : Finset (DevRef τ sig)) {dv main_v1, dv main_v3})⟩
  · exact Finset.subset_sdiff.mpr ⟨sub_ucRefs _ (StableHlo.reshape_bufs_sub ..), (by decide : Disjoint ({dv main_arg0, dv main_v9} : Finset (DevRef τ sig)) {dv main_v1, dv main_v3})⟩
  · exact Finset.subset_sdiff.mpr ⟨sub_ucRefs _ (StableHlo.nullary_bufs_sub ..), (by decide : Disjoint ({dv main_c} : Finset (DevRef τ sig)) {dv main_v1, dv main_v3})⟩
  · exact Finset.subset_sdiff.mpr ⟨sub_ucRefs _ (StableHlo.unary_bufs_sub ..), (by decide : Disjoint ({dv main_c, dv main_call0_v0} : Finset (DevRef τ sig)) {dv main_v1, dv main_v3})⟩
  · exact Finset.subset_sdiff.mpr ⟨sub_ucRefs _ (StableHlo.binary_bufs_sub ..), (by decide : Disjoint ({dv main_v9, dv main_call0_v0, dv main_v10} : Finset (DevRef τ sig)) {dv main_v1, dv main_v3})⟩
  · exact Finset.subset_sdiff.mpr ⟨sub_ucRefs _ (StableHlo.reshape_bufs_sub ..), (by decide : Disjoint ({dv main_arg4, dv main_v11} : Finset (DevRef τ sig)) {dv main_v1, dv main_v3})⟩
  · exact Finset.subset_sdiff.mpr ⟨sub_ucRefs _ (StableHlo.reshape_bufs_sub ..), (by decide : Disjoint ({dv main_arg6, dv main_v12} : Finset (DevRef τ sig)) {dv main_v1, dv main_v3})⟩
  · exact Finset.subset_sdiff.mpr ⟨sub_ucRefs _ (StableHlo.reshape_bufs_sub ..), (by decide : Disjoint ({dv main_arg8, dv main_v13} : Finset (DevRef τ sig)) {dv main_v1, dv main_v3})⟩
theorem mid_fresh : ∀ op ∈ midOps (F := F), op.fresh = ∅ := by
  intro op hop; unfold midOps at hop
  simp only [List.mem_cons, List.not_mem_nil, or_false] at hop
  rcases hop with rfl | rfl | rfl | rfl | rfl | rfl | rfl | rfl | rfl | rfl | rfl <;> rfl
theorem post_bufs : ∀ op ∈ postOps (F := F), op.bufs ⊆ ucRefs τ sig \ TIn := by
  intro op hop; unfold postOps at hop
  simp only [List.mem_cons, List.not_mem_nil, or_false] at hop
  rcases hop with rfl | rfl | rfl | rfl | rfl | rfl | rfl | rfl | rfl | rfl | rfl | rfl | rfl
  · exact Finset.subset_sdiff.mpr ⟨sub_ucRefs _ (StableHlo.unary_bufs_sub ..), (by decide : Disjoint ({dv main_v14_0, dv main_v15} : Finset (DevRef τ sig)) {dv main_v1, dv main_v3})⟩
  · exact Finset.subset_sdiff.mpr ⟨sub_ucRefs _ (StableHlo.reshape_bufs_sub ..), (by decide : Disjoint ({dv main_v15, dv main_v16} : Finset (DevRef τ sig)) {dv main_v1, dv main_v3})⟩
  · exact Finset.subset_sdiff.mpr ⟨sub_ucRefs _ (StableHlo.unary_bufs_sub ..), (by decide : Disjoint ({dv main_v14_1, dv main_v17} : Finset (DevRef τ sig)) {dv main_v1, dv main_v3})⟩
  · exact Finset.subset_sdiff.mpr ⟨sub_ucRefs _ (StableHlo.reshape_bufs_sub ..), (by decide : Disjoint ({dv main_v17, dv main_v18} : Finset (DevRef τ sig)) {dv main_v1, dv main_v3})⟩
  · exact Finset.subset_sdiff.mpr ⟨sub_ucRefs _ (StableHlo.unary_bufs_sub ..), (by decide : Disjoint ({dv main_v14_2, dv main_v19} : Finset (DevRef τ sig)) {dv main_v1, dv main_v3})⟩
  · exact Finset.subset_sdiff.mpr ⟨sub_ucRefs _ (StableHlo.reshape_bufs_sub ..), (by decide : Disjoint ({dv main_v19, dv main_v20} : Finset (DevRef τ sig)) {dv main_v1, dv main_v3})⟩
  · exact Finset.subset_sdiff.mpr ⟨sub_ucRefs _ (StableHlo.nullary_bufs_sub ..), (by decide : Disjoint ({dv main_v21} : Finset (DevRef τ sig)) {dv main_v1, dv main_v3})⟩
  · exact Finset.subset_sdiff.mpr ⟨sub_ucRefs _ (StableHlo.unary_bufs_sub ..), (by decide : Disjoint ({dv main_v21, dv main_v22} : Finset (DevRef τ sig)) {dv main_v1, dv main_v3})⟩
  · exact Finset.subset_sdiff.mpr ⟨sub_ucRefs _ (StableHlo.reshape_bufs_sub ..), (by decide : Disjoint ({dv main_v22, dv main_v23} : Finset (DevRef τ sig)) {dv main_v1, dv main_v3})⟩
  · exact Finset.subset_sdiff.mpr ⟨sub_ucRefs _ (StableHlo.nullary_bufs_sub ..), (by decide : Disjoint ({dv main_v24} : Finset (DevRef τ sig)) {dv main_v1, dv main_v3})⟩
  · exact Finset.subset_sdiff.mpr ⟨sub_ucRefs _ (StableHlo.unary_bufs_sub ..), (by decide : Disjoint ({dv main_v24, dv main_v25} : Finset (DevRef τ sig)) {dv main_v1, dv main_v3})⟩
  · exact Finset.subset_sdiff.mpr ⟨sub_ucRefs _ (StableHlo.reshape_bufs_sub ..), (by decide : Disjoint ({dv main_v25, dv main_v26} : Finset (DevRef τ sig)) {dv main_v1, dv main_v3})⟩
  · exact Finset.subset_sdiff.mpr ⟨sub_ucRefs _ (StableHlo.reshape_bufs_sub ..), (by decide : Disjoint ({dv main_v14_3, dv main_v27} : Finset (DevRef τ sig)) {dv main_v1, dv main_v3})⟩
theorem post_fresh : ∀ op ∈ postOps (F := F), op.fresh = ∅ := by
  intro op hop; unfold postOps at hop
  simp only [List.mem_cons, List.not_mem_nil, or_false] at hop
  rcases hop with rfl | rfl | rfl | rfl | rfl | rfl | rfl | rfl | rfl | rfl | rfl | rfl | rfl <;> rfl

/-! ## Shares and blocks -/

variable (sE dE : Dev nD → S320000.Idx → BitVec 32)

omit [FloatOps F] in
/-- A read share dealt to `n`, one token each; the remainder is dropped. -/
theorem deal {ℓ : Loc nD τ sig} (f : Buf (Elt F) ℓ) (q : PosShare TreeShare) (n : ℕ) :
    (ℓ ↦{q} f : sProp 𝕄) ⊢ bigSep Finset.univ fun i : Fin n => ℓ ↦{shareTokN q i.val} f := by
  iintro H
  ihave H := (pointsTo_toks_split (ℓ := ℓ) (S := Finset.univ) (f := f) q n) $$ H
  icases H with ⟨-, H⟩
  iexact H

omit [FloatOps F] in
theorem blk_disjoint : ∀ i ∈ (Finset.univ : Finset (Fin 16)), ∀ j ∈ (Finset.univ : Finset (Fin 16)), i ≠ j → Disjoint (blkSet i.val) (blkSet j.val) := by
  intro i _ j _ h
  rw [Finset.disjoint_left]; intro x hx hy
  unfold blkSet at hx hy
  exact h (Fin.ext ((Finset.mem_filter.mp hx).2.symm.trans (Finset.mem_filter.mp hy).2))
omit [FloatOps F] in
theorem blk_cover : (Finset.univ : Finset (Fin 16)).biUnion (fun i => blkSet i.val) = Finset.univ := by
  ext x
  simp only [Finset.mem_biUnion, Finset.mem_univ, true_and, iff_true]
  have hx : (x 0).val < 1331200 := (x 0).isLt
  exact ⟨⟨(x 0).val / 102400, by omega⟩, Finset.mem_filter.mpr ⟨Finset.mem_univ _, rfl⟩⟩

omit [FloatOps F] in
theorem out_blocks (d : Dev nD) (c : ℕ) (f : Vec F S1331200 .f32) :
    outPts (F := F) d c Finset.univ f = bigSep Finset.univ fun i : Fin 16 => outPts d c (blkSet i.val) f := by
  unfold outPts
  split
  · rw [← pointsTo_biUnion Finset.univ (ℓ := o0Loc d) (fun i : Fin 16 => blkSet i.val) blk_disjoint, blk_cover]
  · rw [← pointsTo_biUnion Finset.univ (ℓ := o1Loc d) (fun i : Fin 16 => blkSet i.val) blk_disjoint, blk_cover]

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m sE dE) 0 := by
  intro d c
  show stP m sE dE d c.val ⊢ |={Set.univ}=> iprop((bigSep Finset.univ fun i : Fin ((K (F := F)).nSub 0) => goP m sE dE d c.val (Fin.cast nSub_zero i).val)
      ∗ ((bigSep Finset.univ fun i : Fin ((K (F := F)).nSub 0) => tdP sE dE d c.val (Fin.cast nSub_zero i).val) -∗ dnP sE dE d c.val))
  rw [bigSep_tiles (F := F) (fun i => goP m sE dE d c.val i.val), bigSep_tiles (F := F) (fun i => tdP sE dE d c.val i.val)]
  unfold stP goP tdP dnP
  rw [bigSep_sep', bigSep_sep', out_blocks, out_blocks]
  iintro ⟨Hs, Ht, Ho⟩; imodintro
  isplitl [Hs Ht Ho]
  · isplitl [Hs]; · iapply (deal (ℓ := sLoc d) _ (qC c.val) 16); iexact Hs
    isplitl [Ht]; · iapply (deal (ℓ := tLoc d) _ (qC c.val) 16); iexact Ht
    iexact Ho
  iintro H; iexact H

theorem st0_eq (d : Dev nD) : (bigSep Finset.univ fun c : Fin ((K (F := F)).nCore 0) => (P m sE dE).st 0 d c) = iprop(stP m sE dE d 0 ∗ stP m sE dE d 1) := by
  show (bigSep (Finset.univ : Finset (Fin 2)) fun c => stP m sE dE d c.val) = _
  rw [show (Finset.univ : Finset (Fin 2)) = {0, 1} by decide, SparseCore.bigSep_insert' (by decide), bigSep_singleton]; rfl
theorem dn0_eq (d : Dev nD) : (bigSep Finset.univ fun c : Fin ((K (F := F)).nCore 0) => (P m sE dE).dn 0 d c) = iprop(dnP (F := F) sE dE d 0 ∗ dnP sE dE d 1) := by
  show (bigSep (Finset.univ : Finset (Fin 2)) fun c => dnP sE dE d c.val) = _
  rw [show (Finset.univ : Finset (Fin 2)) = {0, 1} by decide, SparseCore.bigSep_insert' (by decide), bigSep_singleton]; rfl

/-- What the call takes, from the four arrays. -/
theorem st0_of (d : Dev nD) :
    iprop(((sLoc d ↦{fullShare} (sE d : Buf (Elt F) (sLoc d))) ∗ (tLoc d ↦{fullShare} (dE d : Buf (Elt F) (tLoc d))))
        ∗ ((o0Loc d ↦{fullShare} m (o0Loc d)) ∗ o1Loc d ↦{fullShare} m (o1Loc d)))
      ⊢ (iprop(stP m sE dE d 0 ∗ stP m sE dE d 1) : sProp 𝕄) := by
  have h2 : ∀ {ℓ : Loc nD τ sig} (f : Buf (Elt F) ℓ), (ℓ ↦{fullShare} f : sProp 𝕄) ⊢ iprop((ℓ ↦{qC 0} f) ∗ ℓ ↦{qC 1} f) := by
    intro ℓ f
    refine (deal f fullShare 2).trans (Entails.of_eq ?_)
    rw [show (Finset.univ : Finset (Fin 2)) = {0, 1} by decide, SparseCore.bigSep_insert' (by decide), bigSep_singleton]; rfl
  unfold stP
  iintro ⟨⟨Hs, Ht⟩, ⟨Ha, Hb⟩⟩
  ihave Hs := (h2 _) $$ Hs
  ihave Ht := (h2 _) $$ Ht
  icases Hs with ⟨Hs0, Hs1⟩
  icases Ht with ⟨Ht0, Ht1⟩
  isplitl [Hs0 Ht0 Ha]
  · isplitl [Hs0]; · iexact Hs0
    isplitl [Ht0]; · iexact Ht0
    iapply (Entails.of_eq (out_pos d 0 rfl Finset.univ (outInit m d 0)).symm); iexact Ha
  isplitl [Hs1]; · iexact Hs1
  isplitl [Ht1]; · iexact Ht1
  iapply (Entails.of_eq (out_neg d 1 (by decide) Finset.univ (outInit m d 1)).symm); iexact Hb

/-! ## The launch element -/

/-- The rounds of the SparseCore handshakes, those of the TensorCore pipeline's staging cells, and no counter. -/
def u₀ : UU := (initOf (K (F := F)).hsCells (K (F := F)).hsToks, (initOf (cells (pin (pcfgs (F := F)) adm) cellOf_inj) (launchToks (pin (pcfgs (F := F)) adm) cellOf_inj), 1))

/-- The ghost state of the TensorCore call's cells on device `d`. -/
def ghostAt (d : Dev nD) : sProp 𝕄 := iprop(cellsGhost (pin (pcfgs (F := F)) adm) EP 0 d ∗ toksInit (pin (pcfgs (F := F)) adm) EP 0 d)

omit [FloatOps F] in
theorem bigSep_emps {I : Type} (s : Finset I) : (bigSep s fun _ => iprop(emp)) = (iprop(emp) : sProp 𝕄) := bigSep_emp_const s

theorem ghost_of : BI.own ((EP (F := F)) (initOf (cells (pin (pcfgs (F := F)) adm) cellOf_inj) (launchToks (pin (pcfgs (F := F)) adm) cellOf_inj)))
    ⊢ (iprop(|==> bigSep Finset.univ fun d : Dev nD => ghostAt d) : sProp 𝕄) := by
  refine (Pipeline.fund_ghost (pin (pcfgs (F := F)) adm) EP cellOf_inj).trans ?_
  unfold ghostAt
  rw [bigSep_sep',
    show (bigSep Finset.univ fun c : Dev nD => bigSep Finset.univ fun p : Fin 1 => (cellsGhost (pin (pcfgs (F := F)) adm) EP p c : sProp 𝕄))
      = bigSep Finset.univ fun c : Dev nD => cellsGhost (pin (pcfgs (F := F)) adm) EP 0 c from bigSep_congr fun _ _ => bigSep_univ_of_subsingleton (0 : Fin 1),
    show (bigSep Finset.univ fun c : Dev nD => bigSep Finset.univ fun p : Fin 1 => (toksInit (pin (pcfgs (F := F)) adm) EP p c : sProp 𝕄))
      = bigSep Finset.univ fun c : Dev nD => toksInit (pin (pcfgs (F := F)) adm) EP 0 c from bigSep_congr fun _ _ => bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => ghostAt d)
        ∗ bigSep Finset.univ fun thr : Thread nD τ => bigSep Finset.univ fun q : Fin 1 => (P m sE dE).x q thr) := by
  unfold u₀
  iintro Hu
  ihave H := (ownU_pair (initOf (K (F := F)).hsCells (K (F := F)).hsToks) (initOf (cells (pin (pcfgs (F := F)) adm) cellOf_inj) (launchToks (pin (pcfgs (F := F)) adm) cellOf_inj), (1 : Counters))) $$ Hu
  icases H with ⟨HH, HR⟩
  ihave HR := (own_pair_emb embR (initOf (cells (pin (pcfgs (F := F)) adm) cellOf_inj) (launchToks (pin (pcfgs (F := F)) adm) cellOf_inj)) (1 : Counters)) $$ HR
  icases HR with ⟨HR, -⟩
  imod ghost_of $$ HR with HR
  imodintro
  isplitl [HH]; · iexact HH
  isplitl [HR]; · iexact HR
  rw [show (bigSep Finset.univ fun thr : Thread nD τ => bigSep Finset.univ fun q : Fin 1 => (P (F := F) m sE dE).x q thr) = bigSep Finset.univ fun _ => iprop(emp) from
    bigSep_congr fun _ _ => bigSep_univ_of_subsingleton (0 : Fin 1), bigSep_emps]
  iempintro

/-! ## The program on the TensorCore -/

section Run

variable [∀ e, Nonempty (Elt F e)]

/-- What the program leaves: every buffer but the call's two operands, at contents the claims' reading holds of. -/
def FIN (d : Dev nD) : sProp 𝕄 := iprop(∃ V, ⌜Final m d V⌝ ∗ held (SparseCore.T d) (ucRefs τ sig \ TIn) V)

theorem V2_rest (d : Dev nD) : (held (SparseCore.T d) ((ucRefs τ sig \ TIn) \ TOut) (V1 m d) : sProp 𝕄) = held (SparseCore.T d) ((ucRefs τ sig \ TIn) \ TOut) (V2 m d) :=
  held_congr _ fun b hb => by
    have hb := (Finset.mem_sdiff.mp hb).2
    unfold TOut at hb
    simp only [Finset.mem_insert, Finset.mem_singleton, not_or] at hb
    exact (V2_of m d b hb.1 hb.2).symm

/-- The buffers after the first line: the two rows, the two results, the rest. -/
theorem held_V1 (d : Dev nD) :
    (held (SparseCore.T d) (ucRefs τ sig) (after preOps (V0 m d)) : sProp 𝕄)
      = iprop(((sLoc d ↦{fullShare} (sAt m d : Buf (Elt F) (sLoc d))) ∗ (tLoc d ↦{fullShare} (dAt m d : Buf (Elt F) (tLoc d))))
          ∗ ((o0Loc d ↦{fullShare} m (o0Loc d)) ∗ o1Loc d ↦{fullShare} m (o1Loc d))
          ∗ held (SparseCore.T d) ((ucRefs τ sig \ TIn) \ TOut) (V2 m d)) := by
  rw [show after preOps (V0 m d) = V1 m d from rfl, held_sub_split _ TIn_sub, held_sub_split _ TOut_sub, V2_rest]
  unfold TIn TOut
  rw [held_pair (show dv main_v1 ≠ dv main_v3 by decide), held_pair (show dv main_v4_0 ≠ dv main_v4_1 by decide), V1_s, V1_t, V1_o0, V1_o1]

/-- The buffers before the second line. -/
theorem held_V2 (d : Dev nD) :
    iprop(((o0Loc d ↦{fullShare} (outVal (sAt m d) (dAt m d) 0 : Vec F S1331200 .f32)) ∗ o1Loc d ↦{fullShare} (outVal (sAt m d) (dAt m d) 1 : Vec F S1331200 .f32))
          ∗ held (SparseCore.T d) ((ucRefs τ sig \ TIn) \ TOut) (V2 m d))
      = (held (SparseCore.T d) (ucRefs τ sig \ TIn) (V2 m d) : sProp 𝕄) := by
  rw [held_sub_split _ TOut_sub]
  conv_rhs => unfold TOut
  rw [held_pair (show dv main_v4_0 ≠ dv main_v4_1 by decide), V2_o0, V2_o1]
  rfl

/-- The buffers as the TensorCore call takes them, and as it gives them back. -/
theorem held_arr (d : Dev nD) (V : Valuation τ sig (Elt F)) :
    (held (SparseCore.T d) (ucRefs τ sig \ TIn) V : sProp 𝕄)
      = iprop(held (SparseCore.T d) (arrRefs spec1) V ∗ held (SparseCore.T d) TRest V) := held_sub_split _ arr_sub V

/-- The TensorCore call, between two lines of the host. -/
theorem wp_mega (κ : GSem nD τ sig → ℕ) (d : Dev nD) (Q : PUnit → sProp 𝕄) :
    iprop((∀ V', ⌜Leaves (V3 m) d V'⌝ -∗ boundary (SparseCore.T d) -∗ (K (F := F)).tcSt EH d 1 -∗ held (SparseCore.T d) (ucRefs τ sig \ TIn) V' -∗ Q ⟨⟩)
        ∗ boundary (SparseCore.T d) ∗ (K (F := F)).ctx EH (P m (sAt m) (dAt m)) κ ∗ (K (F := F)).tcSt EH d 1 ∗ held (SparseCore.T d) (ucRefs τ sig \ TIn) (V3 m d)
        ∗ (∃ r, prngReg d r) ∗ ghostAt d)
      ⊢ wp frame (wpE ((K (F := F)).defs (D (F := F))) 𝒱 (SparseCore.T d) none) Set.univ (SparseCore.liftProg (.op (.customCall (Pipeline.entry 0) ()) .ret)) Q := by
  refine BIBase.Entails.trans ?_ ((K (F := F)).wp_liftProg (D (F := F)) 𝒱 (SparseCore.T d) Set.univ none _ Q)
  refine BIBase.Entails.trans ?_ (RDat.RegionSeg.wp (pcfgs (F := F)) adm (Pipeline.toRsF (pcfgs (F := F)) adm (pdats (V3 m)) fg) none cellOf_inj EP (defs₀ (F := F)) 𝒱₀
    (K (F := F)).L (K (F := F)).lev (region (V3 m) TRest rest_disj rest_tc) d none (fun _ h => nomatch h) _ Q)
  rw [held_arr, show (region (V3 m) TRest rest_disj rest_tc).pre d = iprop(held (d.tc : Thread nD τ) (arrRefs spec1) (V3 m d) ∗ held (d.tc : Thread nD τ) TRest (V3 m d) ∗ (∃ r, prngReg d r)
    ∗ ∃ Wd, ⌜(K (F := F)).WBelow (T d) Wd 8⌝ ∗ owes (d : Thread nD τ) 0 Wd) from rfl,
    show (region (V3 m) TRest rest_disj rest_tc).post d = iprop(∃ V', ⌜Leaves (V3 m) d V'⌝ ∗ held (d.tc : Thread nD τ) (arrRefs spec1) V' ∗ held (d.tc : Thread nD τ) TRest V' ∗ (∃ r, prngReg d r)
    ∗ ∃ Wd, ⌜(K (F := F)).WBelow (T d) Wd 8⌝ ∗ owes (d : Thread nD τ) 0 Wd) from rfl]
  unfold SparseCore.Cfg.ctx SparseCore.Cfg.tcSt ghostAt
  rw [(K (F := F)).Otc_end d (le_refl 1)]
  iintro ⟨Hk, Hb, ⟨#Hlev, -⟩, ⟨⟨%W1, %hW1, HO⟩, Hst⟩, ⟨Ha, Hr⟩, Hp, ⟨Hc, Ht⟩⟩
  isplitl [Hk Hst]
  · iintro ⟨Hb, ⟨%V', %hV', Ha, Hr, -, ⟨%W2, %hW2, HO⟩⟩⟩
    rw [wp_ret]
    imodintro
    iapply Hk $$ %V' [] [Hb] [HO Hst] [Ha Hr]
    · ipureintro; exact hV'
    · iexact Hb
    · isplitl [HO]
      · iexists W2; isplitr; · ipureintro; exact hW2
        iexact HO
      iexact Hst
    · rw [held_arr]; isplitl [Ha] <;> iassumption
  isplitl [Hb]; · iexact Hb
  isplitl [Ha Hr Hp HO]
  · isplitl [Ha]; · iexact Ha
    isplitl [Hr]; · iexact Hr
    isplitl [Hp]; · iexact Hp
    iexists W1; isplitr; · ipureintro; exact hW1
    iexact HO
  isplitr; · iexact Hlev
  isplitl [Hc] <;> iassumption

theorem hmain (κ : GSem nD τ sig → ℕ) (d : Dev nD) :
    iprop((K (F := F)).ctx EH (P m (sAt m) (dAt m)) κ ∗ (K (F := F)).tcSt EH d 0 ∗ (K (F := F)).tcRes m ρ d ∗ ghostAt d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    Pipeline.unscopedBufs_held d (V0 m d), main_eq]
  iintro ⟨#Hctx, Hst, ⟨Hb, Hheld, Hts, Hp⟩, Hg⟩
  iapply (wp_seq 𝒱 none Set.univ d (ucRefs τ sig) _ preOps pre_bufs pre_fresh (V0 m d)) $$ [Hb Hheld]
  · isplitl [Hb] <;> iassumption
  iintro ⟨Hb, Hheld⟩
  ihave Hheld := (Entails.of_eq (held_V1 m d)) $$ Hheld
  icases Hheld with ⟨Hin, Hout, Hrest⟩
  rw [wp_bind]
  iapply ((K (F := F)).wp_run (D (F := F)) 𝒱 (EH := EH) (P := P m (sAt m) (dAt m)) κ d 0) $$ [Hst Hin Hout Hb Hrest Hts Hp Hg]
  isplitr; · iexact Hctx
  isplitl [Hst]; · iexact Hst
  isplitl [Hin Hout]
  · rw [st0_eq]
    iapply (st0_of m (sAt m) (dAt m) d)
    isplitl [Hin] <;> iassumption
  iintro ⟨Hst, Hdn⟩
  ihave Hdn := (Entails.of_eq (dn0_eq m (sAt m) (dAt m) d)) $$ Hdn
  unfold dnP
  icases Hdn with ⟨H0, H1⟩
  ihave H0 := (Entails.of_eq (out_pos d 0 rfl Finset.univ _)) $$ H0
  ihave H1 := (Entails.of_eq (out_neg d 1 (by decide) Finset.univ _)) $$ H1
  ihave Hheld := (Entails.of_eq (held_V2 m d)) $$ [H0 H1 Hrest]
  · isplitl [H0 H1]
    · isplitl [H0] <;> iassumption
    iexact Hrest
  iapply (wp_seq 𝒱 none Set.univ d (ucRefs τ sig \ TIn) _ midOps mid_bufs mid_fresh (V2 m d)) $$ [Hb Hheld]
  · isplitl [Hb] <;> iassumption
  iintro ⟨Hb, Hheld⟩
  rw [wp_bind]
  iapply (wp_mega m κ d _)
  isplitr [Hb Hst Hheld Hp Hg]
  rotate_left
  · isplitl [Hb]; · iexact Hb
    isplitr; · iexact Hctx
    isplitl [Hst]; · iexact Hst
    isplitl [Hheld]; · iexact Hheld
    isplitl [Hp]; · iexists (ρ d); iexact Hp
    iexact Hg
  iintro %V' %hV' Hb Hst Hheld
  rw [← bind_pure (StableHlo.seq (postOps (F := F)))]
  iapply (wp_seq 𝒱 none Set.univ d (ucRefs τ sig \ TIn) _ postOps post_bufs post_fresh V') $$ [Hb Hheld]
  · isplitl [Hb] <;> iassumption
  iintro ⟨Hb, Hheld⟩
  rw [wp_pure]
  imodintro
  isplitl [Hst]; · iexact Hst
  isplitl [Hheld]
  · unfold FIN
    iexists (after postOps V'); isplitr; · ipureintro; exact final_of m d V' hV'
    iexact Hheld
  isplitl [Hb] <;> iassumption

def fq (d : Dev nD) (s' : Phys nD τ sig (Elt F)) : Prop := Final m d fun b => s'.mem.mem (d, b)

/-- A held buffer's contents, read off a state. -/
theorem held_read (d : Dev nD) (S : Finset (DevRef τ sig)) (V : Valuation τ sig (Elt F)) (b : DevRef τ sig) (hb : b ∈ S) (s' : Phys nD τ sig (Elt F)) :
    iprop(held (SparseCore.T d) S V ∗ SI s') ⊢ (⌜s'.mem.mem (d, b) = V b⌝ : sProp 𝕄) := by
  unfold held
  have hel : (bigSep S fun b => (((d, b) : Loc nD τ sig) ↦{fullShare} V b : sProp 𝕄)) ⊢ (((d, b) : Loc nD τ sig) ↦{fullShare} V b : sProp 𝕄) := bigSep_elim hb
  iintro ⟨H, HSI⟩
  ihave H := hel $$ H
  ihave H := (SI_pointsTo_agree (st := s') (ℓ := (d, b)) (I := Finset.univ) (q := fullShare) (f := V b)) $$ [HSI H]
  · isplitl [HSI] <;> iassumption
  icases H with %h
  ipureintro; exact funext fun i => h i (Finset.mem_univ i)

theorem held_reads (d : Dev nD) (S : Finset (DevRef τ sig)) (V : Valuation τ sig (Elt F)) (s' : Phys nD τ sig (Elt F)) :
    iprop(held (SparseCore.T d) S V ∗ SI s') ⊢ (⌜∀ b, b ∈ S → s'.mem.mem (d, b) = V b⌝ : sProp 𝕄) :=
  (Laws.forall_intro fun b => (Laws.forall_intro fun hb => held_read d S V b hb s').trans Laws.pure_forall.2).trans Laws.pure_forall.2

theorem res_mem : ∀ b ∈ ({main_v16, main_v18, main_v20, main_v23, main_v26, main_v27} : Finset (Ref sig .tc)), dv b ∈ ucRefs τ sig \ TIn := fun b hb => by
  simp only [Finset.mem_insert, Finset.mem_singleton] at hb
  rcases hb with rfl | rfl | rfl | rfl | rfl | rfl <;> exact Finset.mem_sdiff.mpr ⟨uc_mem _ rfl, off_TIn _ (by decide) (by decide)⟩
theorem arg_mem (a : Fin 9) : dv (isArg a) ∈ ucRefs τ sig \ TIn := by
  fin_cases a <;> exact Finset.mem_sdiff.mpr ⟨uc_mem _ rfl, off_TIn _ (by decide) (by decide)⟩

theorem hfin (d : Dev nD) (s' : Phys nD τ sig (Elt F)) : iprop(FIN m d ∗ SI s') ⊢ (⌜fq m d s'⌝ : sProp 𝕄) := by
  unfold FIN
  iintro ⟨⟨%V, %hV, H⟩, HSI⟩
  ihave H := (held_reads d _ V s') $$ [H HSI]
  · isplitl [H] <;> iassumption
  icases H with %h
  ipureintro
  exact ⟨fun a => (h _ (arg_mem a)).trans (hV.1 a), (h _ (res_mem _ (by decide))).trans hV.2.1, (h _ (res_mem _ (by decide))).trans hV.2.2.1,
    (h _ (res_mem _ (by decide))).trans hV.2.2.2.1, (h _ (res_mem _ (by decide))).trans hV.2.2.2.2.1, (h _ (res_mem _ (by decide))).trans hV.2.2.2.2.2.1,
    (h _ (res_mem _ (by decide))).trans hV.2.2.2.2.2.2⟩

/-! ## The program's run -/

def QC : PUnit × MemSt nD τ sig (Elt F) → Prop := fun r => (∀ d : Dev nD, Final m d fun b => r.2.mem (d, b)) ∧ r.2.sem = fun _ => 0

/-- Every execution from edges inside their graphs ends with the arguments unchanged, the results at `Final`, every counter zero. -/
theorem run_main (hE : ∀ d, EdgesOK (sAt m d) (dAt m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (sAt m) (dAt m)) (A := ∅) facts v₀
    (fun q hq => match q with | 0 => nomatch hq)
    (fun q _ => match q with | 0 => tileObl m (sAt m) (dAt m) facts hE)
    (fun q _ => match q with | 0 => SparseCore.Cfg.VecSplit.of_plain (vecSplit m (sAt m) (dAt m)))
    m ρ main ghostAt (FIN m) (u₀ (F := F)) (sep_elim_left.trans (hu₀ m (sAt m) (dAt m))) (hmain m ρ) (fq m) (hfin m) (QC m) (fun _ h hz => ⟨h, hz⟩)

end Run

end Cert.Proof.Adj
-- ==== Proof.Count.lean ====
/-
  The count that both programs compute: how many edges of the list join node `s` to node `t` of graph `g`, as a sum over the
  edges of one for an edge that does and zero for an edge that does not. The kernel's side: what sixteen lanes add, what a tile's
  walk adds, and what the two halves of the list add together.
-/
module

public import proofs.«01_k».proof.Proof.Launch
public import Idealize.ShloMosaic.Lib.ValueIdx
public import Idealize.ShloMosaic.Lib.ValueIdxCore

@[expose] public section

set_option maxRecDepth 16384

noncomputable section

namespace Cert.Proof.Adj

open Cert.KernelIdeal Cert.KernelIdeal.Gen
open Idealize.ShloMosaic
open Idealize.ShloMosaic.ValueIdx hiding ix1 ix2 ix3 eq_ix1 eq_ix2 eq_ix3

/-- Zero and one, as the programs spell them, at the ideal instance. -/
def zeroR : EReal := Scalar.ofBits (F := Ideal) .f32 0x00000000#32
def oneR : EReal := Scalar.ofBits (F := Ideal) .f32 0x3F800000#32

/-- Edge `(a, b)` joins node `s` to node `t` of graph `g`. -/
def joins (a b : BitVec 32) (g s t : ℕ) : Prop := a.toNat / 100 = g ∧ a.toNat % 100 = s ∧ b.toNat % 100 = t

instance (a b : BitVec 32) (g s t : ℕ) : Decidable (joins a b g s t) := by unfold joins; infer_instance

/-- The number of edges among `base … base + n - 1` that join `s` to `t` in graph `g`. -/
def cnt (src dst : S320000.Idx → BitVec 32) (base n g s t : ℕ) : EReal :=
  ∑ e ∈ Finset.range n, if joins (wordAt src (base + e)) (wordAt dst (base + e)) g s t then oneR else 0

/-- Two consecutive stretches of the list count what the whole of them counts. -/
theorem cnt_add (src dst : S320000.Idx → BitVec 32) (g s t n n' : ℕ) :
    cnt src dst 0 n g s t + cnt src dst n n' g s t = cnt src dst 0 (n + n') g s t := by
  unfold cnt
  rw [Finset.sum_range_add]
  simp only [Nat.zero_add]

/-! ## Sixteen lanes -/

/-- A masked indexed addition of ones, read at one element: one for every lane that the mask admits and whose index names it. -/
theorem lanes_apply (g : Vec Ideal S102400 .f32) (ix : IVec S16 32) (mask : IVec S16 1) (j : S102400.Idx) :
    lanes (F := Ideal) g ix mask j
      = (g j : EReal) + ∑ k : Fin 16, if mask (ix1 k) = 1 ∧ (j 0).val = (ix (ix1 k)).toNat then oneR else 0 := by
  have key : ∀ (l : List (Fin 16)) (g : Vec Ideal S102400 .f32),
      (l.foldl (fun g (k : Fin 16) =>
        if mask (Shape.ofLane (d := ![16]) k) = 1 then
          fun j => if (j 0).val = (ix (Shape.ofLane (d := ![16]) k)).toNat then Elt.idxAdd (F := Ideal) .f32 (g j) (k0_pay82 (F := Ideal) (Shape.ofLane (d := ![16]) k)) else g j
        else g) g) j
      = (g j : EReal) + (l.map fun k => if mask (ix1 k) = 1 ∧ (j 0).val = (ix (ix1 k)).toNat then oneR else 0).sum := by
    intro l
    induction l with
    | nil => intro g; simp
    | cons k l ih =>
      intro g
      rw [List.foldl_cons, ih, List.map_cons, List.sum_cons, ← add_assoc]
      congr 1
      have hk : Shape.ofLane (d := ![16]) k = ix1 k := by
        funext a
        match a with
        | ⟨0, _⟩ => rfl
      rw [hk]
      by_cases hm : mask (ix1 k) = 1
      · by_cases hj : (j 0).val = (ix (ix1 k)).toNat
        · rw [if_pos hm, if_pos hj, if_pos ⟨hm, hj⟩]; rfl
        · rw [if_pos hm, if_neg hj, if_neg (fun h => hj h.2), add_zero]
      · rw [if_neg hm, if_neg (fun h => hm h.1), add_zero]
  unfold lanes
  rw [key]
  rw [← Fin.sum_univ_def]

/-! ## One edge at one element -/

/-- Where the first addition of an edge lands: element `(g % 8) * 12800 + s * 128 + t` of the block of the tile that owns graph `g`. -/
theorem hitA {a b : BitVec 32} (h : EdgeOK a b) {g s t : ℕ} (hg : g < 100) (hs : s < 100) (ht : t < 128) :
    (own (BitVec.ofNat 32 (8 * (g / 8))) a = 1 ∧ g % 8 * 12800 + s * 128 + t = (ixA (BitVec.ofNat 32 (8 * (g / 8))) a b).toNat)
      ↔ joins a b g s t := by
  have hb : g / 8 < 13 := by omega
  rw [show (1 : BitVec 1) = 1#1 from rfl, own_iff h.1 hb, ixA_toNat h hb]
  unfold blkN joins
  obtain ⟨h0, h1, h2⟩ := h
  constructor
  · rintro ⟨e, e'⟩
    rw [if_pos e] at e'
    omega
  · rintro ⟨e, e1, e2⟩
    have e3 : a.toNat / 100 / 8 = g / 8 := by rw [e]
    refine ⟨e3, ?_⟩
    rw [if_pos e3]
    omega

/-- Where the second, mirrored, addition lands. -/
theorem hitB {a b : BitVec 32} (h : EdgeOK a b) {g s t : ℕ} (hg : g < 100) (hs : s < 100) (ht : t < 128) :
    (own (BitVec.ofNat 32 (8 * (g / 8))) a = 1 ∧ g % 8 * 12800 + s * 128 + t = (ixB (BitVec.ofNat 32 (8 * (g / 8))) a b).toNat)
      ↔ joins a b g t s := by
  have hb : g / 8 < 13 := by omega
  rw [show (1 : BitVec 1) = 1#1 from rfl, own_iff h.1 hb, ixB_toNat h hb]
  unfold blkN joins
  obtain ⟨h0, h1, h2⟩ := h
  constructor
  · rintro ⟨e, e'⟩
    rw [if_pos e] at e'
    omega
  · rintro ⟨e, e1, e2⟩
    have e3 : a.toNat / 100 / 8 = g / 8 := by rw [e]
    refine ⟨e3, ?_⟩
    rw [if_pos e3]
    omega

/-! ## A tile's walk -/

/-- After `n` vectors the accumulator of the tile that owns graph `g` holds, at the element of `(s, t)`, the edges met so far that
    join `s` to `t` and those that join `t` to `s`. -/
theorem accAt_apply {src dst : S320000.Idx → BitVec 32} (hE : EdgesOK src dst) {g s t : ℕ} (hg : g < 100) (hs : s < 100) (ht : t < 128)
    (base : ℕ) (j : S102400.Idx) (hj : (j 0).val = g % 8 * 12800 + s * 128 + t) (n : ℕ) (hn : base + 16 * n ≤ 320000) :
    accAt (F := Ideal) (BitVec.ofNat 32 (8 * (g / 8))) src dst base n j
      = zeroR + (cnt src dst base (16 * n) g s t + cnt src dst base (16 * n) g t s) := by
  induction n with
  | zero =>
    show zeroR = _
    simp [cnt]
  | succ n ih =>
    show vecStep (F := Ideal) _ _ _ _ j = _
    unfold vecStep
    rw [lanes_apply, lanes_apply, ih (by omega)]
    have sA : (∑ k : Fin 16, if own (BitVec.ofNat 32 (8 * (g / 8))) (vecOf src (base + 16 * n) (ix1 k)) = 1
          ∧ (j 0).val = (ixA (BitVec.ofNat 32 (8 * (g / 8))) (vecOf src (base + 16 * n) (ix1 k)) (vecOf dst (base + 16 * n) (ix1 k))).toNat then oneR else 0)
        = ∑ k ∈ Finset.range 16, if joins (wordAt src (base + (16 * n + k))) (wordAt dst (base + (16 * n + k))) g s t then oneR else 0 := by
      rw [Finset.sum_range]
      refine Finset.sum_congr rfl fun k _ => ?_
      refine if_congr ?_ rfl rfl
      rw [hj, ← Nat.add_assoc]
      exact hitA (hE (base + 16 * n + k.val) (by have := k.isLt; omega)) hg hs ht
    have sB : (∑ k : Fin 16, if own (BitVec.ofNat 32 (8 * (g / 8))) (vecOf src (base + 16 * n) (ix1 k)) = 1
          ∧ (j 0).val = (ixB (BitVec.ofNat 32 (8 * (g / 8))) (vecOf src (base + 16 * n) (ix1 k)) (vecOf dst (base + 16 * n) (ix1 k))).toNat then oneR else 0)
        = ∑ k ∈ Finset.range 16, if joins (wordAt src (base + (16 * n + k))) (wordAt dst (base + (16 * n + k))) g t s then oneR else 0 := by
      rw [Finset.sum_range]
      refine Finset.sum_congr rfl fun k _ => ?_
      refine if_congr ?_ rfl rfl
      rw [hj, ← Nat.add_assoc]
      exact hitB (hE (base + 16 * n + k.val) (by have := k.isLt; omega)) hg hs ht
    have c1 : ∀ p q : ℕ, cnt src dst base (16 * (n + 1)) g p q = cnt src dst base (16 * n) g p q
        + ∑ k ∈ Finset.range 16, if joins (wordAt src (base + (16 * n + k))) (wordAt dst (base + (16 * n + k))) g p q then oneR else 0 := by
      intro p q
      unfold cnt
      rw [show 16 * (n + 1) = 16 * n + 16 by ring, Finset.sum_range_add]
    rw [sA, sB, c1, c1]
    abel

/-! ## The two halves together -/

/-- A core's output, at the element of `(g, s, t)`. -/
theorem outVal_apply {src dst : S320000.Idx → BitVec 32} (hE : EdgesOK src dst) {g s t : ℕ} (hg : g < 100) (hs : s < 100) (ht : t < 128)
    (c : ℕ) (hc : c < 2) (j : S1331200.Idx) (hj : (j 0).val = g * 12800 + s * 128 + t) :
    outVal (F := Ideal) src dst c j
      = zeroR + (cnt src dst (160000 * c) 160000 g s t + cnt src dst (160000 * c) 160000 g t s) := by
  unfold outVal
  have e : (j 0).val / 102400 = g / 8 := by omega
  rw [e]
  exact accAt_apply hE hg hs ht (160000 * c) _ (by show (j 0).val % 102400 = _; omega) 10000 (by omega)

/-- A core's output, cut to the hundred graphs, at `(g, s, t)`; the columns from a hundred on are there, and hold no edge. -/
theorem cut_apply {src dst : S320000.Idx → BitVec 32} (hE : EdgesOK src dst) (g s : Fin 100) (t : Fin 128) (c : ℕ) (hc : c < 2) :
    cutVal (F := Ideal) (outVal (F := Ideal) src dst c) (ix3 g s t)
      = zeroR + (cnt src dst (160000 * c) 160000 g s t + cnt src dst (160000 * c) 160000 g t s) := by
  unfold cutVal
  have i3 : ∀ f : S104x100x128.Idx → EReal,
      extractStridedSlice S100x100x128 ![0, 0, 0] f slices_S104x100x128_S100x100x128_0_0_0 (ix3 g s t)
      = f (ix3 (⟨g.val, by omega⟩ : Fin 104) s t) := by
    intro f
    unfold extractStridedSlice
    refine congrArg f (funext fun a => Fin.ext ?_)
    match a with
    | ⟨0, _⟩ => simp
    | ⟨1, _⟩ => simp
    | ⟨2, _⟩ => simp
  refine (i3 _).trans ?_
  unfold shapeCast
  refine outVal_apply hE g.isLt s.isLt t.isLt c hc _ ?_
  rw [← Shape.rowMajor_val_one]
  rw [Shape.rowMajor_reshapeEquiv, Shape.rowMajor_val_three]
  show (g.val * 100 + s.val) * 128 + t.val = _
  ring

/-- The two cores' outputs together, at `(g, s, t)`: the counts of both directions over the whole list. -/
theorem cut_add {src dst : S320000.Idx → BitVec 32} (hE : EdgesOK src dst) (g s : Fin 100) (t : Fin 128) :
    (cutVal (F := Ideal) (outVal (F := Ideal) src dst 0) (ix3 g s t) : EReal) + cutVal (F := Ideal) (outVal (F := Ideal) src dst 1) (ix3 g s t)
      = (zeroR + cnt src dst 0 320000 g s t) + (zeroR + cnt src dst 0 320000 g t s) := by
  rw [cut_apply hE g s t 0 (by omega), cut_apply hE g s t 1 (by omega)]
  have c1 := cnt_add src dst g s t 160000 160000
  have c2 := cnt_add src dst g t s 160000 160000
  rw [show 320000 = 160000 + 160000 from rfl, ← c1, ← c2]
  simp only [Nat.mul_zero, Nat.mul_one]
  abel

/-- No edge joins a place from a hundred on. -/
theorem cnt_pad (src dst : S320000.Idx → BitVec 32) (base n g s t : ℕ) (h : 100 ≤ s ∨ 100 ≤ t) : cnt src dst base n g s t = 0 := by
  unfold cnt
  refine Finset.sum_eq_zero fun e _ => if_neg ?_
  rintro ⟨_, h1, h2⟩
  omega

end Cert.Proof.Adj
-- ==== Proof.Pick.lean ====
/-
  The order in which a pooling picks the nodes of a graph: greater score first, and the lower place first among equals. `pick s n j` is
  the place picked at round `j` of the `n` places with scores `s`. A stable sort by greater score lists the places in that order.
-/
module

public import Idealize.ShloMosaic.Lib.SortFacts
public import Idealize.ShloMosaic.Lib.ValueIdx

@[expose] public section

noncomputable section

namespace Cert.Proof.Adj

open Idealize.ShloMosaic
open scoped Classical

/-- Place `a` is picked before place `b`. -/
def before (s : ℕ → EReal) (a b : ℕ) : Prop := s b < s a ∨ (s a = s b ∧ a < b)

variable {s : ℕ → EReal} {n : ℕ}

theorem before_irrefl (a : ℕ) : ¬ before s a a := by
  rintro (h | h)
  · exact lt_irrefl _ h
  · exact lt_irrefl _ h.2

theorem before_trans {a b c : ℕ} (h : before s a b) (k : before s b c) : before s a c := by
  rcases h with h | ⟨h, h'⟩ <;> rcases k with k | ⟨k, k'⟩
  · exact .inl (k.trans h)
  · exact .inl (k ▸ h)
  · exact .inl (h ▸ k)
  · exact .inr ⟨h.trans k, h'.trans k'⟩

theorem before_total {a b : ℕ} (h : a ≠ b) : before s a b ∨ before s b a := by
  rcases lt_trichotomy (s a) (s b) with k | k | k
  · exact .inr (.inl k)
  · rcases lt_or_gt_of_ne h with h | h
    · exact .inl (.inr ⟨k, h⟩)
    · exact .inr (.inr ⟨k.symm, h⟩)
  · exact .inl (.inl k)

/-- The round at which place `c` of the first `n` is picked: how many are picked before it. -/
def place (s : ℕ → EReal) (n c : ℕ) : ℕ := ((Finset.range n).filter fun a => before s a c).card

theorem place_lt_of_before {a b : ℕ} (ha : a < n) (h : before s a b) : place s n a < place s n b := by
  refine Finset.card_lt_card (Finset.ssubset_iff_of_subset ?_ |>.mpr ⟨a, ?_, ?_⟩)
  · intro c hc
    rw [Finset.mem_filter] at hc ⊢
    exact ⟨hc.1, before_trans hc.2 h⟩
  · exact Finset.mem_filter.mpr ⟨Finset.mem_range.mpr ha, h⟩
  · intro k
    exact before_irrefl a (Finset.mem_filter.mp k).2

theorem place_inj {a b : ℕ} (ha : a < n) (hb : b < n) (h : place s n a = place s n b) : a = b := by
  by_contra e
  rcases before_total (s := s) e with k | k
  · exact absurd (place_lt_of_before ha k) (by omega)
  · exact absurd (place_lt_of_before hb k) (by omega)

theorem place_lt {c : ℕ} (h : c < n) : place s n c < n := by
  have e : place s n c < (Finset.range n).card := by
    refine Finset.card_lt_card (Finset.ssubset_iff_of_subset (Finset.filter_subset _ _) |>.mpr ⟨c, Finset.mem_range.mpr h, ?_⟩)
    intro k
    exact before_irrefl c (Finset.mem_filter.mp k).2
  simpa using e

theorem exists_place {j : ℕ} (hj : j < n) : ∃ c, c < n ∧ place s n c = j := by
  have hs := Finset.surj_on_of_inj_on_of_card_le (s := Finset.range n) (t := Finset.range n) (fun c _ => place s n c)
    (fun c hc => Finset.mem_range.mpr (place_lt (Finset.mem_range.mp hc)))
    (fun a b ha hb h => place_inj (Finset.mem_range.mp ha) (Finset.mem_range.mp hb) h) le_rfl
  obtain ⟨c, hc, e⟩ := hs j (Finset.mem_range.mpr hj)
  exact ⟨c, Finset.mem_range.mp hc, e.symm⟩

/-- The place picked at round `j`. -/
def pick (s : ℕ → EReal) (n j : ℕ) : ℕ := if h : ∃ c, c < n ∧ place s n c = j then h.choose else 0

theorem pick_lt {j : ℕ} (hj : j < n) : pick s n j < n := by
  unfold pick; rw [dif_pos (exists_place hj)]; exact (exists_place hj).choose_spec.1

theorem place_pick {j : ℕ} (hj : j < n) : place s n (pick s n j) = j := by
  unfold pick; rw [dif_pos (exists_place hj)]; exact (exists_place hj).choose_spec.2

theorem eq_pick {j c : ℕ} (hc : c < n) (h : place s n c = j) : c = pick s n j := by
  have hj : j < n := h ▸ place_lt hc
  exact place_inj hc (pick_lt hj) (h.trans (place_pick hj).symm)

/-- Nothing that is not picked yet is before the next pick. -/
theorem not_before_pick {j c : ℕ} (hj : j < n) (hc : c < n) (h : j ≤ place s n c) : ¬ before s c (pick s n j) := fun k => by
  have := place_lt_of_before hc k
  rw [place_pick hj] at this
  omega

/-! ## The stable sort -/

/-- Greater score first. -/
def greater (s : ℕ → EReal) (a b : Fin n) : Bool := decide (s b < s a)
/-- Greater score first, the lower place first among equals. -/
def earlier (s : ℕ → EReal) (a b : Fin n) : Bool := decide (before s a b)

theorem stableSort_greater (l : List (Fin n)) (hl : l.Pairwise (· < ·)) : stableSort (greater s) l = stableSort (earlier s) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.mp hb)
    unfold greater earlier before
    refine decide_eq_decide.mpr ⟨.inl, ?_⟩
    rintro (h | h)
    · exact h
    · exact absurd h.2 (by have : a.val < b.val := hab; omega)

theorem sortedFrom_greater : sortedFrom (greater (n := n) s) = sortedFrom (earlier s) := by
  have e : sortPositions n (greater s) = sortPositions n (earlier s) := stableSort_greater _ (List.pairwise_lt_finRange n)
  funext k
  unfold sortedFrom
  simp only [List.get_eq_getElem, e]
  rfl

theorem place_sortedFrom (r : Fin n) : place s n (sortedFrom (greater (n := n) s) r) = r := by
  rw [sortedFrom_greater]
  have hinv : ∀ i j : Fin n, i < j → ¬ before s (sortedFrom (earlier (n := n) s) j) (sortedFrom (earlier (n := n) s) i) := fun i j hij => by
    have := sortedFrom_noInversion (earlier (n := n) s) (earlier s)
      (fun a b h => decide_eq_false fun k => before_irrefl _ (before_trans (of_decide_eq_true h) k)) (fun _ _ h => h)
      (fun a b c h k => decide_eq_false fun m => by
        have h := of_decide_eq_false h
        have k := of_decide_eq_false k
        by_cases e : b = c
        · subst e; exact h m
        · rcases before_total (s := s) (a := b) (b := c) (fun e' => e (Fin.ext e')) with q | q
          · exact k q
          · exact h (before_trans m q)) i j hij
    exact of_decide_eq_false this
  let f : Fin n → Fin n := fun r => ⟨place s n (sortedFrom (earlier (n := n) s) r), place_lt (Fin.is_lt _)⟩
  have hf : StrictMono f := fun i j hij => by
    show place s n _ < place s n _
    rcases before_total (s := s) (a := sortedFrom (earlier (n := n) s) i) (b := sortedFrom (earlier (n := n) s) j)
      (fun e => absurd (sortedFrom_injective _ (Fin.ext e)) (ne_of_lt hij)) with q | q
    · exact place_lt_of_before (Fin.is_lt _) q
    · exact absurd q (hinv i j hij)
  have hr : Set.range f = Set.range (id : Fin n → Fin n) := by
    rw [Set.range_id, Set.range_eq_univ]
    exact Finite.injective_iff_surjective.mp hf.injective
  exact congrArg Fin.val (congrFun ((StrictMono.range_inj hf strictMono_id).mp hr) r)

/-- Position `r` of the sorted places is the place picked at round `r`. -/
theorem sortedFrom_eq_pick (r : Fin n) : (sortedFrom (greater (n := n) s) r).val = pick s n r := eq_pick (Fin.is_lt _) (place_sortedFrom r)

end Cert.Proof.Adj
end
-- ==== Proof.Dense.lean ====
/-
  The dense part's mathematics on natural-number places, for one graph with `n` nodes, adjacency `a` and features `x`: the normalised
  product, a layer, the pooling's scores, and the pooled adjacency and features. A matrix padded with zeros to more rows and columns
  gives the same sums.
-/
module

public import proofs.«01_k».proof.Proof.Pick
public import Idealize.ShloMosaic.Lib.Pointwise

@[expose] public section

noncomputable section

namespace Cert.Proof.Adj

open Idealize.ShloMosaic

/-- The identity matrix. -/
def eye (s t : ℕ) : EReal := if s = t then 1 else 0

theorem eye_comm (s t : ℕ) : eye s t = eye t s := by unfold eye; simp only [eq_comm]

/-- One over the square root of a degree, which is kept away from zero. -/
def nrm (d : EReal) : EReal := Ideal.div 1 (Ideal.sqrt (max (Ideal.ofBits .f32 0x358637BD#32) d))

/-- The select of one and zero by whether two places are equal. -/
theorem select_eye {r c : ℕ} (hr : r < 2 ^ 32) (hc : c < 2 ^ 32) :
    Scalar.select (IntOp.cmpi .eq (BitVec.ofNat 32 r) (BitVec.ofNat 32 c)) (1 : EReal) 0 = eye r c := by
  unfold eye IntOp.cmpi
  by_cases h : r = c
  · subst h; simp [Scalar.select]
  · have : ¬ BitVec.ofNat 32 r = BitVec.ofNat 32 c := by
      intro e
      have e := congrArg BitVec.toNat e
      simp only [BitVec.toNat_ofNat] at e
      omega
    have e : (BitVec.ofNat 32 r == BitVec.ofNat 32 c) = false := beq_false_of_ne this
    simp [Scalar.select, h, e]

/-- A sum over `N` places of what vanishes from the `n`th on. -/
theorem sum_cut {n N : ℕ} (hn : n ≤ N) (f : ℕ → EReal) (h : ∀ k, n ≤ k → f k = 0) : ∑ x : Fin N, f x = ∑ x : Fin n, f x := by
  rw [Fin.sum_univ_eq_sum_range f N, Fin.sum_univ_eq_sum_range f n]
  exact (Finset.sum_subset (Finset.range_mono hn) fun k _ hk => h k (by simpa using hk)).symm

/-! ## One graph -/

variable (n : ℕ) (a : ℕ → ℕ → EReal) (x : ℕ → Fin 128 → EReal)

/-- The normalised adjacency, with loops, times the features. -/
def agg (s : ℕ) (c : Fin 128) : EReal :=
  ∑ t : Fin n, nrm (∑ y : Fin n, (a s y + eye s y)) * (a s t + eye s t) * nrm (∑ y : Fin n, (a t y + eye t y)) * x t c

/-- A layer: the rectified product with the weights. -/
def lay (w : (⟨2, ![128, 128]⟩ : Shape).Idx → EReal) (b : (⟨1, ![128]⟩ : Shape).Idx → EReal) (s : ℕ) (c : Fin 128) : EReal :=
  max (∑ k : Fin 128, agg n a x s k * w (ix2 k c) + b (ix1 c)) 0

/-- The score of a place: how far its features are from the mean of its neighbours'. -/
def score (s : ℕ) : EReal :=
  ∑ c : Fin 128, FloatOps.absf (F := Ideal) (φ := .f32) (x s c - Ideal.div (∑ k : Fin n, a s k * x k c) (max 1 (∑ k : Fin n, a s k)))

/-- The adjacency between, and the features of, the places picked. -/
def poolA (i j : ℕ) : EReal := a (pick (score n a x) n i) (pick (score n a x) n j)
def poolX (i : ℕ) (c : Fin 128) : EReal := x (pick (score n a x) n i) c

/-- A matrix, and features, with zeros beyond the `n`th place. -/
def padA (r c : ℕ) : EReal := if r < n ∧ c < n then a r c else 0
def padX (r : ℕ) (c : Fin 128) : EReal := if r < n then x r c else 0

variable {n a x}

theorem absf_nonneg (v : EReal) : 0 ≤ FloatOps.absf (F := Ideal) (φ := .f32) v := by
  show 0 ≤ max v (-v)
  rcases le_total 0 v with h | h
  · exact le_max_of_le_left h
  · exact le_max_of_le_right (EReal.neg_nonneg.mpr h)

theorem score_nonneg (s : ℕ) : 0 ≤ score n a x s := Finset.sum_nonneg fun _ _ => absf_nonneg _

theorem padA_row {N s : ℕ} (hn : n ≤ N) (hs : s < n) : ∑ y : Fin N, (padA n a s y + eye s y) = ∑ y : Fin n, (a s y + eye s y) := by
  rw [sum_cut hn (fun k => padA n a s k + eye s k) fun k hk => by
    unfold padA eye; rw [if_neg (by omega), if_neg (by omega), add_zero]]
  refine Finset.sum_congr rfl fun y _ => ?_
  unfold padA; rw [if_pos ⟨hs, y.isLt⟩]

theorem padA_col {N s : ℕ} (hn : n ≤ N) (ha : ∀ i j, a i j = a j i) (hs : s < n) : ∑ y : Fin N, (padA n a y s + eye y s) = ∑ y : Fin n, (a s y + eye s y) := by
  rw [← padA_row hn hs]
  refine Finset.sum_congr rfl fun y _ => ?_
  unfold padA
  rw [eye_comm, ha]
  simp only [and_comm]

/-- The normalised product over padded matrices is that over the graph's own. -/
theorem agg_pad {N s : ℕ} (hn : n ≤ N) (ha : ∀ i j, a i j = a j i) (hs : s < n) (c : Fin 128) :
    ∑ t : Fin N, nrm (∑ y : Fin N, (padA n a s y + eye s y)) * (padA n a s t + eye s t) * nrm (∑ y : Fin N, (padA n a y t + eye y t)) * padX n x t c
      = agg n a x s c := by
  rw [sum_cut hn (fun t => nrm (∑ y : Fin N, (padA n a s y + eye s y)) * (padA n a s t + eye s t) * nrm (∑ y : Fin N, (padA n a y t + eye y t)) * padX n x t c)
    fun k hk => by show _ * padX n x k c = 0; unfold padX; rw [if_neg (by omega), mul_zero]]
  unfold agg
  refine Finset.sum_congr rfl fun t _ => ?_
  rw [padA_row hn hs, padA_col hn ha t.isLt]
  unfold padA padX
  rw [if_pos ⟨hs, t.isLt⟩, if_pos t.isLt]

/-- So are the scores. -/
theorem score_pad {N s : ℕ} (hn : n ≤ N) (hs : s < n) :
    ∑ c : Fin 128, FloatOps.absf (F := Ideal) (φ := .f32) (padX n x s c - Ideal.div (∑ k : Fin N, padA n a s k * padX n x k c) (max 1 (∑ k : Fin N, padA n a s k)))
      = score n a x s := by
  unfold score
  refine Finset.sum_congr rfl fun c _ => ?_
  rw [sum_cut hn (fun k => padA n a s k * padX n x k c) fun k hk => by show _ * padX n x k c = 0; unfold padX; rw [if_neg (by omega), mul_zero],
    sum_cut hn (fun k => padA n a s k) fun k hk => by unfold padA; rw [if_neg (by omega)]]
  unfold padX
  rw [if_pos hs]
  have e : ∀ k : Fin n, padA n a s k = a s k := fun k => by unfold padA; rw [if_pos ⟨hs, k.isLt⟩]
  simp only [e, if_pos (Fin.is_lt _)]

/-! ## Picking by a matrix of ones -/

variable {s : ℕ → EReal}

/-- A sum against the row of the matrix that picks place `pick s n i`. -/
theorem sum_pick {i K N : ℕ} (hK : K ≤ n) (hn : n ≤ N) (f : ℕ → EReal) :
    ∑ t : Fin N, (if i < K ∧ t.val = pick s n i then (1 : EReal) else 0) * f t = if i < K then f (pick s n i) else 0 := by
  by_cases h : i < K
  · have hp : pick s n i < N := (pick_lt (by omega)).trans_le hn
    rw [if_pos h, Finset.sum_eq_single (⟨pick s n i, hp⟩ : Fin N)]
    · rw [if_pos ⟨h, rfl⟩, one_mul]
    · intro t _ ht
      rw [if_neg (fun k => ht (Fin.ext k.2)), zero_mul]
    · exact fun h => absurd (Finset.mem_univ _) h
  · rw [if_neg h]
    refine Finset.sum_eq_zero fun t _ => ?_
    rw [if_neg (fun k => h k.1), zero_mul]

/-- The picked rows of padded features, and of a padded matrix its picked rows and columns. -/
theorem pick_rows {i K N : ℕ} (hK : K ≤ n) (hn : n ≤ N) (c : Fin 128) :
    ∑ t : Fin N, (if i < K ∧ t.val = pick s n i then (1 : EReal) else 0) * padX n x t c = padX K (fun i c => x (pick s n i) c) i c := by
  rw [sum_pick hK hn fun t => padX n x t c]
  unfold padX
  by_cases h : i < K
  · rw [if_pos h, if_pos (pick_lt (by omega)), if_pos h]
  · rw [if_neg h, if_neg h]

theorem pick_both {i j K N : ℕ} (hK : K ≤ n) (hn : n ≤ N) :
    ∑ u : Fin N, (∑ t : Fin N, (if i < K ∧ t.val = pick s n i then (1 : EReal) else 0) * padA n a t u) * (if j < K ∧ u.val = pick s n j then (1 : EReal) else 0)
      = padA K (fun i j => a (pick s n i) (pick s n j)) i j := by
  have e : ∀ u : Fin N, (∑ t : Fin N, (if i < K ∧ t.val = pick s n i then (1 : EReal) else 0) * padA n a t u) * (if j < K ∧ u.val = pick s n j then (1 : EReal) else 0)
      = (if j < K ∧ u.val = pick s n j then (1 : EReal) else 0) * (if i < K then padA n a (pick s n i) u else 0) := fun u => by
    rw [sum_pick hK hn fun t => padA n a t u, mul_comm]
  simp only [e]
  rw [sum_pick hK hn fun u => if i < K then padA n a (pick s n i) u else 0]
  unfold padA
  by_cases hi : i < K <;> by_cases hj : j < K
  · rw [if_pos hj, if_pos hi, if_pos ⟨pick_lt (by omega), pick_lt (by omega)⟩, if_pos ⟨hi, hj⟩]
  · rw [if_neg hj, if_neg (by tauto)]
  · rw [if_pos hj, if_neg hi, if_neg (by tauto)]
  · rw [if_neg hj, if_neg (by tauto)]

end Cert.Proof.Adj
end
-- ==== Proof.Rounds.lean ====
/-
  The kernel's way of picking, round by round: the greatest of the scores that are left, and of the places that have it the lowest. A
  place that is picked gets the round's number, and a score below all others. After `K` rounds the places picked at them have their
  numbers, and the others a number that no row has.
-/
module

public import proofs.«01_k».proof.Proof.Pick
public import Idealize.ShloMosaic.Lib.Pointwise

@[expose] public section

noncomputable section

namespace Cert.Proof.Adj

open Idealize.ShloMosaic

/-! ## The constants -/

theorem ofBits_neg_two : Ideal.ofBits .f32 0xC0000000#32 = ((-2 : ℝ) : EReal) := by
  simp [Ideal.ofBits, Ideal.ieee, -EReal.coe_mul, -EReal.coe_neg]; norm_num
theorem ofBits_neg_one : Ideal.ofBits .f32 0xBF800000#32 = ((-1 : ℝ) : EReal) := by
  simp [Ideal.ofBits, Ideal.ieee, -EReal.coe_mul, -EReal.coe_neg]; norm_num
theorem ofBits_999 : Ideal.ofBits .f32 0x4479C000#32 = (((999 : ℕ) : ℝ) : EReal) := by
  simp [Ideal.ofBits, Ideal.ieee, -EReal.coe_mul]; norm_num
theorem ofBits_bot : Ideal.ofBits .f32 0xFF800000#32 = ⊥ := by
  simp [Ideal.ofBits, Ideal.ieee]

variable {s : ℕ → EReal} {n : ℕ}

/-- The scores after `j` rounds. -/
def left (s : ℕ → EReal) (n j c : ℕ) : EReal :=
  if c < n then (if place s n c < j then Ideal.ofBits .f32 0xC0000000#32 else s c) else Ideal.ofBits .f32 0xBF800000#32
/-- The numbers after `j` rounds. -/
def mark (s : ℕ → EReal) (n j c : ℕ) : EReal :=
  if c < n ∧ place s n c < j then ((place s n c : ℝ) : EReal) else Ideal.ofBits .f32 0x4479C000#32

theorem left_le (h0 : ∀ c, 0 ≤ s c) {j c : ℕ} (hj : j < n) : left s n j c ≤ s (pick s n j) ∧ (left s n j c = s (pick s n j) → pick s n j ≤ c) := by
  have neg : ∀ r : ℝ, r < 0 → (r : EReal) ≤ s (pick s n j) ∧ ((r : EReal) = s (pick s n j) → pick s n j ≤ c) := fun r hr => by
    have hlt : (r : EReal) < s (pick s n j) := lt_of_lt_of_le (by exact_mod_cast hr) (h0 _)
    exact ⟨hlt.le, fun e => absurd e hlt.ne⟩
  unfold left
  by_cases hc : c < n
  · rw [if_pos hc]
    by_cases hp : place s n c < j
    · rw [if_pos hp, ofBits_neg_two]; exact neg _ (by norm_num)
    · rw [if_neg hp]
      have hb := not_before_pick hj hc (Nat.le_of_not_lt hp)
      unfold before at hb
      rw [not_or] at hb
      refine ⟨not_lt.mp hb.1, fun e => ?_⟩
      by_contra k
      exact hb.2 ⟨e, by omega⟩
  · rw [if_neg hc, ofBits_neg_one]; exact neg _ (by norm_num)

theorem left_pick {j : ℕ} (hj : j < n) : left s n j (pick s n j) = s (pick s n j) := by
  unfold left; rw [if_pos (pick_lt hj), place_pick hj, if_neg (lt_irrefl _)]

/-- The least of signed words is the least of their values. -/
theorem toInt_minsi (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.mp h)]

theorem fold_minsi {N : ℕ} (f : Fin N → BitVec 32) (p : Fin N) (b : BitVec 32) (hb : (f p).toInt ≤ b.toInt) (h : ∀ x, (f p).toInt ≤ (f x).toInt) :
    Finset.fold IntOp.minsi b f Finset.univ = f p := by
  refine BitVec.eq_of_toInt_eq ?_
  rw [← Finset.fold_hom (op := IntOp.minsi) (op' := min) (m := BitVec.toInt) toInt_minsi]
  refine le_antisymm ?_ ?_
  · exact (Finset.fold_min_le _).mpr (.inr ⟨p, Finset.mem_univ _, le_rfl⟩)
  · exact (Finset.le_fold_min _).mpr ⟨hb, fun x _ => h x⟩

theorem toInt_ofNat {k : ℕ} (h : k < 2 ^ 31) : (BitVec.ofNat 32 k).toInt = k := by
  rw [BitVec.toInt_eq_toNat_cond]; simp only [BitVec.toNat_ofNat]; rw [if_pos (by omega)]; omega

/-- One round's choice among `N` places: place `c` is chosen exactly when it is the next pick. -/
theorem choice {N j : ℕ} (hN : N < 2 ^ 31) (hn : n ≤ N) (hj : j < n) (h0 : ∀ c, 0 ≤ s c) (f : Fin N → EReal) (hf : ∀ c : Fin N, f c = left s n j c) (c : Fin N) :
    IntOp.cmpi .eq (BitVec.ofNat 32 c) (Finset.fold IntOp.minsi 2147483647#32
        (fun x : Fin N => if f x = Finset.fold max (Ideal.ofBits .f32 0xFF800000#32) (fun x => f x) Finset.univ then BitVec.ofNat 32 x else BitVec.ofNat 32 N) Finset.univ)
      = if c.val = pick s n j then 1#1 else 0#1 := by
  have hp := pick_lt (s := s) hj
  have hm : Finset.fold max (Ideal.ofBits .f32 0xFF800000#32) (fun x => f x) Finset.univ = s (pick s n j) := by
    rw [ofBits_bot]
    refine le_antisymm ?_ ?_
    · exact (Finset.fold_max_le _).mpr ⟨bot_le, fun x _ => by rw [hf]; exact (left_le h0 hj).1⟩
    · exact (Finset.le_fold_max _).mpr (.inr ⟨⟨pick s n j, by omega⟩, Finset.mem_univ _, by rw [hf, left_pick hj]⟩)
  rw [hm]
  have hfp : (if f ⟨pick s n j, by omega⟩ = s (pick s n j) then BitVec.ofNat 32 (pick s n j) else BitVec.ofNat 32 N) = BitVec.ofNat 32 (pick s n j) := by
    rw [if_pos (by rw [hf, left_pick hj])]
  rw [fold_minsi (fun x : Fin N => if f x = s (pick s n j) then BitVec.ofNat 32 x else BitVec.ofNat 32 N) ⟨pick s n j, by omega⟩]
  · show IntOp.cmpi .eq (BitVec.ofNat 32 c) (if f ⟨pick s n j, _⟩ = s (pick s n j) then BitVec.ofNat 32 (pick s n j) else BitVec.ofNat 32 N) = _
    rw [hfp]
    unfold IntOp.cmpi
    by_cases h : c.val = pick s n j
    · rw [if_pos h, h]; simp
    · have : ¬ BitVec.ofNat 32 c = BitVec.ofNat 32 (pick s n j) := fun e => by
        have e := congrArg BitVec.toInt e
        rw [toInt_ofNat (by omega), toInt_ofNat (by omega)] at e
        exact h (by exact_mod_cast e)
      rw [if_neg h]
      simp [beq_false_of_ne this]
  · show (if f ⟨pick s n j, _⟩ = s (pick s n j) then BitVec.ofNat 32 (pick s n j) else BitVec.ofNat 32 N).toInt ≤ _
    rw [hfp, toInt_ofNat (by omega), show (2147483647#32).toInt = 2147483647 by decide]
    omega
  · intro x
    show (if f ⟨pick s n j, _⟩ = s (pick s n j) then BitVec.ofNat 32 (pick s n j) else BitVec.ofNat 32 N).toInt ≤ (if f x = s (pick s n j) then BitVec.ofNat 32 x else BitVec.ofNat 32 N).toInt
    rw [hfp, toInt_ofNat (by omega)]
    by_cases h : f x = s (pick s n j)
    · rw [if_pos h, toInt_ofNat (by have := x.isLt; omega)]
      exact_mod_cast (left_le h0 hj).2 ((hf x).symm.trans h)
    · rw [if_neg h, toInt_ofNat hN]; omega

/-- What a round leaves. -/
theorem left_step {j c : ℕ} (hj : j < n) :
    Scalar.select (if c = pick s n j then 1#1 else 0#1) (Ideal.ofBits .f32 0xC0000000#32) (left s n j c) = left s n (j + 1) c := by
  by_cases h : c = pick s n j
  · subst h
    rw [if_pos rfl]
    show Ideal.ofBits .f32 0xC0000000#32 = _
    unfold left; rw [if_pos (pick_lt hj), place_pick hj, if_pos (Nat.lt_succ_self j)]
  · rw [if_neg h]
    show left s n j c = _
    unfold left
    by_cases hc : c < n
    · have : place s n c ≠ j := fun e => h (eq_pick hc e)
      rw [if_pos hc, if_pos hc]
      by_cases hp : place s n c < j
      · rw [if_pos hp, if_pos (by omega)]
      · rw [if_neg hp, if_neg (by omega)]
    · rw [if_neg hc, if_neg hc]

theorem mark_step {j c : ℕ} (hj : j < n) (v : EReal) (hv : v = ((j : ℝ) : EReal)) :
    Scalar.select (if c = pick s n j then 1#1 else 0#1) v (mark s n j c) = mark s n (j + 1) c := by
  by_cases h : c = pick s n j
  · subst h
    rw [if_pos rfl]
    show v = _
    unfold mark; rw [place_pick hj, if_pos ⟨pick_lt hj, Nat.lt_succ_self j⟩, hv]
  · rw [if_neg h]
    show mark s n j c = _
    unfold mark
    by_cases hc : c < n
    · have : place s n c ≠ j := fun e => h (eq_pick hc e)
      by_cases hp : place s n c < j
      · rw [if_pos ⟨hc, hp⟩, if_pos ⟨hc, by omega⟩]
      · rw [if_neg (by tauto), if_neg (by rintro ⟨_, h⟩; omega)]
    · rw [if_neg (by tauto), if_neg (by tauto)]

/-- A statement of the number of rounds run that each round carries on holds after all of them. -/
theorem rounds_induct {σ : Type} (P : ℕ → σ → Prop) : ∀ (K : ℕ) (G : Fin K → σ → σ) (init : σ) (j : ℕ), P j init →
    (∀ (k : Fin K) st, P (j + k) st → P (j + k + 1) (G k st)) → P (j + K) ((List.finRange K).foldl (fun acc k => G k acc) init) := by
  intro K
  induction K with
  | zero => intro G init j h _; exact h
  | succ K ih =>
    intro G init j h hs
    rw [List.finRange_succ, List.foldl_cons, List.foldl_map]
    have := ih (fun k => G k.succ) (G 0 init) (j + 1) (hs 0 init h) fun k st hk => by
      have := hs k.succ st (by rw [show j + (k.succ : Fin (K + 1)).val = j + 1 + k.val by simp; omega]; exact hk)
      rw [show j + (k.succ : Fin (K + 1)).val + 1 = j + 1 + k.val + 1 by simp; omega] at this
      exact this
    rw [show j + (K + 1) = j + 1 + K by omega]
    exact this

/-- A number read back as a word. -/
theorem fptosi_ofNat {k : ℕ} (h : k < 2 ^ 31) : FloatOps.fptosi (F := Ideal) (φ := .f32) 32 ((k : ℝ) : EReal) = BitVec.ofNat 32 k := by
  show BitVec.ofInt 32 (max (-(2 ^ 31 : ℕ)) (min ((2 ^ 31 : ℕ) - 1) (if 0 ≤ (k : ℝ) then ⌊(k : ℝ)⌋ else ⌈(k : ℝ)⌉))) = _
  rw [if_pos (Nat.cast_nonneg k), Int.floor_natCast, min_eq_right (by push_cast; omega), max_eq_right (by push_cast; omega)]
  exact BitVec.ofInt_natCast 32 k

/-- The matrix of ones that the numbers give: row `i` picks the place picked at round `i`. -/
theorem onehot {K i c : ℕ} (hK : K ≤ n) (hn : n < 999) (hi : i < 999) :
    Scalar.select (IntOp.cmpi .eq (FloatOps.fptosi (F := Ideal) (φ := .f32) 32 (mark s n K c)) (BitVec.ofNat 32 i)) (1 : EReal) 0
      = if i < K ∧ c = pick s n i then (1 : EReal) else 0 := by
  have e : ∀ k, k < 1000 → Scalar.select (IntOp.cmpi .eq (BitVec.ofNat 32 k) (BitVec.ofNat 32 i)) (1 : EReal) 0 = if k = i then 1 else 0 := fun k hk => by
    unfold IntOp.cmpi
    by_cases h : k = i
    · subst h; simp [Scalar.select]
    · have : ¬ BitVec.ofNat 32 k = BitVec.ofNat 32 i := fun e => by
        have e := congrArg BitVec.toInt e
        rw [toInt_ofNat (by omega), toInt_ofNat (by omega)] at e
        exact h (by exact_mod_cast e)
      simp [Scalar.select, h, beq_false_of_ne this]
  unfold mark
  by_cases h : c < n ∧ place s n c < K
  · rw [if_pos h, fptosi_ofNat (by omega), e _ (by omega)]
    by_cases k : place s n c = i
    · rw [if_pos k, if_pos ⟨by omega, eq_pick h.1 k⟩]
    · rw [if_neg k, if_neg]
      rintro ⟨h1, rfl⟩
      exact k (place_pick (by omega))
  · rw [if_neg h, ofBits_999, fptosi_ofNat (by norm_num), e _ (by omega), if_neg (by omega), if_neg]
    rintro ⟨h1, rfl⟩
    exact h ⟨pick_lt (by omega), by rw [place_pick (by omega)]; exact h1⟩

end Cert.Proof.Adj
end
-- ==== Proof.KerVal.lean ====
/-
  The kernel's first-layer result read at an element: from the adjacency that the two cores' outputs add up to, through the
  normalised product with the features, to the rectified product with the weights. The kernel works on 128 rows and columns where the
  graph has a hundred nodes: beyond the hundredth the adjacency, and the features, are zero, so every sum stops at a hundred.
-/
module

public import proofs.«01_k».proof.Proof.Count
public import proofs.«01_k».proof.Proof.Dense
public import proofs.«01_k».proof.Proof.Rounds

@[expose] public section

set_option maxRecDepth 16384

noncomputable section

namespace Cert.Proof.Adj

open Cert.KernelIdeal Cert.KernelIdeal.Gen Cert.Proof.Mega
open Idealize.ShloMosaic

/-! ## The mathematics, on natural-number places -/

/-- The adjacency of graph `g` between places `s` and `t`: the edges of the list in both directions. -/
def adj (src dst : S320000.Idx → BitVec 32) (g s t : ℕ) : EReal := (zeroR + cnt src dst 0 320000 g s t) + (zeroR + cnt src dst 0 320000 g t s)

/-- The adjacency with the loops. -/
def loopAdj (src dst : S320000.Idx → BitVec 32) (g s t : ℕ) : EReal := adj src dst g s t + eye s t

/-- The normalising factor of place `s`. -/
def fac (src dst : S320000.Idx → BitVec 32) (g s : ℕ) : EReal := nrm (∑ k : Fin 100, loopAdj src dst g s k)

/-- The normalised adjacency. -/
def nadj (src dst : S320000.Idx → BitVec 32) (g s t : ℕ) : EReal := fac src dst g s * loopAdj src dst g s t * fac src dst g t

theorem zeroR_eq : zeroR = 0 := Ideal.ofBits_zero_f32

theorem adj_comm (src dst : S320000.Idx → BitVec 32) (g s t : ℕ) : adj src dst g s t = adj src dst g t s := add_comm _ _

theorem adj_pad (src dst : S320000.Idx → BitVec 32) (g s t : ℕ) (h : 100 ≤ s ∨ 100 ≤ t) : adj src dst g s t = 0 := by
  unfold adj
  rw [cnt_pad _ _ _ _ _ _ _ h, cnt_pad _ _ _ _ _ _ _ h.symm, zeroR_eq]; simp

theorem loopAdj_comm (src dst : S320000.Idx → BitVec 32) (g s t : ℕ) : loopAdj src dst g s t = loopAdj src dst g t s := by
  unfold loopAdj; rw [adj_comm, eye_comm]

theorem loopAdj_pad (src dst : S320000.Idx → BitVec 32) (g s t : ℕ) (hs : s < 100) (ht : 100 ≤ t) : loopAdj src dst g s t = 0 := by
  unfold loopAdj eye
  rw [adj_pad _ _ _ _ _ (.inr ht), if_neg (by omega), add_zero]

/-! ## The padded adjacency and the normalised product -/

variable {src dst : S320000.Idx → BitVec 32}

/-- The adjacency that the dense kernel reads. -/
abbrev kA (src dst : S320000.Idx → BitVec 32) : Vec Ideal S100x128x128 .f32 :=
  valA0 (F := Ideal) (cutVal (outVal src dst 0)) (cutVal (outVal src dst 1))

theorem rowA0_apply (a b : Vec Ideal S1x100x128 .f32) (r c : Fin 128) :
    rowA0 (F := Ideal) a b (ix3 0 r c) = if h : r.val < 100 then (a (ix3 0 ⟨r, h⟩ c) : EReal) + b (ix3 0 ⟨r, h⟩ c) else (0 : EReal) := by
  pointwise [rowA0, k1_pay3, k1_pay110]

theorem kA_apply (hE : EdgesOK src dst) (g : Fin 100) (r c : Fin 128) : kA src dst (ix3 g r c) = adj src dst g r c := by
  show rowA0 (F := Ideal) (slab (cutVal (outVal src dst 0)) g) (slab (cutVal (outVal src dst 1)) g) (ix3 0 r c) = _
  rw [rowA0_apply]
  by_cases h : r.val < 100
  · rw [dif_pos h]
    exact cut_add hE g ⟨r, h⟩ c
  · rw [dif_neg h, adj_pad _ _ _ _ _ (.inl (by omega))]

theorem rowM1_apply (A X : Vec Ideal S1x128x128 .f32) (r c : Fin 128) : rowM1 (F := Ideal) A X (ix3 0 r c) =
    ∑ x : Fin 128, nrm (∑ y : Fin 128, ((A (ix3 0 r y) : EReal) + eye r y)) * ((A (ix3 0 r x) : EReal) + eye r x)
      * nrm (∑ y : Fin 128, ((A (ix3 0 y x) : EReal) + eye y x)) * (X (ix3 0 x c) : EReal) := by
  have e : ∀ a b : Fin 128, Scalar.select (IntOp.cmpi .eq (BitVec.ofNat 32 a) (BitVec.ofNat 32 b)) (1 : EReal) 0 = eye a b :=
    fun a b => select_eye (by have := a.isLt; omega) (by have := b.isLt; omega)
  unfold nrm
  simp only [← e]
  pointwise [rowM1, k1_pay6]

/-- The features the dense kernel reads, padded to 128 rows a graph. -/
theorem pad_apply (x : S10000x128.Idx → EReal) (g : Fin 100) (r c : Fin 128) :
    padVal (F := Ideal) x (ix3 g r c) = if h : r.val < 100 then x (ix2 (⟨g.val * 100 + r.val, by have := g.isLt; omega⟩ : Fin 10000) c) else 0 := by
  have z : FloatOps.sitofp (F := Ideal) FTy.f32 0#32 = (0 : EReal) := by
    show ((((0#32 : BitVec 32).toInt : ℝ) : EReal)) = 0
    simp
  pointwise [padVal]
  rw [z]

/-- The remainder by `m` of a place in the rows stacked `m` a graph. -/
theorem remsi_row {m g i : ℕ} (hm : m < 256) (hg : g < 100) (hi : i < m) :
    IntOp.remsi .vector (BitVec.ofNat 32 (g * m + i)) (BitVec.ofNat 32 m) = BitVec.ofNat 32 i := by
  have hb : g * m + i < 2 ^ 31 := by nlinarith
  have hc : ¬ IntOp.SDivCorner (BitVec.ofNat 32 (g * m + i)) (BitVec.ofNat 32 m) := by
    unfold IntOp.SDivCorner
    have e := toInt_ofNat (k := m) (by omega)
    rintro (h' | ⟨h', h''⟩)
    · rw [h'] at e; simp at e; omega
    · rw [h''] at e; simp at e; try omega
  have ht : ∀ k, k < 2 ^ 31 → (BitVec.ofNat 32 k).msb = false := fun k hk => by
    rw [BitVec.msb_eq_decide]; simp; omega
  unfold IntOp.remsi
  rw [if_neg hc, BitVec.srem_eq, ht _ hb, ht m (by omega)]
  show BitVec.ofNat 32 (g * m + i) % BitVec.ofNat 32 m = _
  apply BitVec.eq_of_toNat_eq
  rw [BitVec.toNat_umod, BitVec.toNat_ofNat, BitVec.toNat_ofNat, BitVec.toNat_ofNat, Nat.mod_eq_of_lt (a := m) (by omega),
    Nat.mod_eq_of_lt (a := g * m + i) (by omega), Nat.mod_eq_of_lt (a := i) (by omega), Nat.mul_comm, Nat.mul_add_mod, Nat.mod_eq_of_lt hi]

/-- The signed comparison of two small words. -/
theorem slt_ofNat {a b : ℕ} (ha : a < 2 ^ 31) (hb : b < 2 ^ 31) : IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_ofNat ha, toInt_ofNat hb]
  by_cases h : a < b
  · rw [if_pos h, decide_eq_true (by omega)]; rfl
  · rw [if_neg h, decide_eq_false (by omega)]; rfl

/-- Whether a row of the stacked matrix, of `m` rows a graph, is one of a graph's first `k`, as the dense kernel computes it. -/
def rowMask (m k n : BitVec 32) : BitVec 1 :=
  IntOp.cmpi .slt (Scalar.select (IntOp.andi (IntOp.xori (IntOp.cmpi .slt (IntOp.remsi .vector n (Scalar.select (Scalar.cmpi .eq m 0#32) 1#32 m)) 0#32)
      (Scalar.cmpi .slt (Scalar.select (Scalar.cmpi .eq m 0#32) 1#32 m) 0#32))
    (IntOp.cmpi .ne (IntOp.remsi .vector n (Scalar.select (Scalar.cmpi .eq m 0#32) 1#32 m)) 0#32))
    (IntOp.addi (IntOp.remsi .vector n (Scalar.select (Scalar.cmpi .eq m 0#32) 1#32 m)) (Scalar.select (Scalar.cmpi .eq m 0#32) 1#32 m))
    (IntOp.remsi .vector n (Scalar.select (Scalar.cmpi .eq m 0#32) 1#32 m))) k

theorem rowMask_eq {m k g i : ℕ} (hm : m < 256) (hk : k < 256) (hg : g < 100) (hi : i < m) :
    rowMask (BitVec.ofNat 32 m) (BitVec.ofNat 32 k) (BitVec.ofNat 32 (g * m + i)) = if i < k then 1#1 else 0#1 := by
  have hz : Scalar.select (Scalar.cmpi .eq (BitVec.ofNat 32 m) 0#32) 1#32 (BitVec.ofNat 32 m) = BitVec.ofNat 32 m := by
    have : Scalar.cmpi .eq (BitVec.ofNat 32 m) 0#32 = 0#1 := by
      have hne : ¬ BitVec.ofNat 32 m = 0#32 := fun e => by
        have e := congrArg BitVec.toNat e
        simp only [BitVec.toNat_ofNat] at e
        omega
      show BitVec.ofBool (BitVec.ofNat 32 m == 0#32) = _
      rw [beq_false_of_ne hne]; rfl
    rw [this]; rfl
  have hs : ∀ j, j < 2 ^ 31 → IntOp.cmpi .slt (BitVec.ofNat 32 j) 0#32 = 0#1 := fun j hj => by
    rw [show 0#32 = BitVec.ofNat 32 0 from rfl, slt_ofNat hj (by norm_num), if_neg (by omega)]
  unfold rowMask
  rw [hz, remsi_row hm hg hi, hs i (by omega)]
  rw [show Scalar.cmpi .slt (BitVec.ofNat 32 m) 0#32 = 0#1 from hs m (by omega), show IntOp.xori 0#1 0#1 = 0#1 by decide,
    show ∀ x : BitVec 1, IntOp.andi 0#1 x = 0#1 by decide]
  exact slt_ofNat (by omega) (by omega)

/-- A dense layer: the rectified product of the stacked rows with the weights. -/
theorem layer1_apply (w : Vec Ideal S128x128 .f32) (b : Vec Ideal S1x128 .f32) (M : Vec Ideal S100x128x128 .f32) (g : Fin 100) (r c : Fin 128) :
    k1_pay117 (F := Ideal) (k1_pay114 w b M) (Scalar.select (Scalar.cmpi .eq 128#32 0#32) 1#32 128#32) k1_pay115 k1_pay116 0#32 (ix3 g r c)
      = if r.val < 100 then max (∑ x : Fin 128, (M (ix3 g r x) : EReal) * w (ix2 x c) + b (ix2 0 c)) (0 : EReal) else (0 : EReal) := by
  have e : k1_pay117 (F := Ideal) (k1_pay114 w b M) (Scalar.select (Scalar.cmpi .eq 128#32 0#32) 1#32 128#32) k1_pay115 k1_pay116 0#32 (ix3 g r c)
      = Scalar.select (rowMask 128#32 100#32 (BitVec.ofNat 32 (g.val * 128 + r.val))) (max (∑ x : Fin 128, (M (ix3 g r x) : EReal) * w (ix2 x c) + b (ix2 0 c)) (0 : EReal)) (0 : EReal) := by
    unfold rowMask
    pointwise [k1_pay114, k1_pay117, k1_pay115, k1_pay116]
  rw [e, show rowMask 128#32 100#32 (BitVec.ofNat 32 (g.val * 128 + r.val)) = _ from rowMask_eq (m := 128) (k := 100) (by norm_num) (by norm_num) g.isLt r.isLt]
  by_cases h : r.val < 100
  · rw [if_pos h, if_pos h]; rfl
  · rw [if_neg h, if_neg h]; rfl

/-! ## The first layer -/

/-- The normalised adjacency times the features, at place `s` of graph `g` and column `c`. -/
def agg1 (src dst : S320000.Idx → BitVec 32) (x : S10000x128.Idx → EReal) (g : Fin 100) (s : ℕ) (c : Fin 128) : EReal :=
  ∑ k : Fin 100, nadj src dst g s k * x (ix2 (⟨g.val * 100 + k.val, by have := g.isLt; have := k.isLt; omega⟩ : Fin 10000) c)

/-- The first layer's output. -/
def lay1 (src dst : S320000.Idx → BitVec 32) (x : S10000x128.Idx → EReal) (w : S128x128.Idx → EReal) (b : S128.Idx → EReal)
    (g : Fin 100) (s : ℕ) (c : Fin 128) : EReal :=
  max (∑ k : Fin 128, agg1 src dst x g s k * w (ix2 k c) + b (ix1 c)) 0

theorem deg_row (g s : ℕ) (hs : s < 100) : ∑ y : Fin 128, loopAdj src dst g s y = ∑ y : Fin 100, loopAdj src dst g s y :=
  sum_cut (n := 100) (N := 128) (by norm_num) (fun y => loopAdj src dst g s y) fun k hk => loopAdj_pad _ _ _ _ _ hs hk

theorem deg_col (g s : ℕ) (hs : s < 100) : ∑ y : Fin 128, loopAdj src dst g y s = ∑ y : Fin 100, loopAdj src dst g s y := by
  rw [← deg_row g s hs]
  exact Finset.sum_congr rfl fun y _ => loopAdj_comm _ _ _ _ _

/-- The normalised product, at one of a graph's hundred rows. -/
theorem m1_apply (hE : EdgesOK src dst) (x : S10000x128.Idx → EReal) (g : Fin 100) (r c : Fin 128) (hr : r.val < 100) :
    valM1 (F := Ideal) (cutVal (outVal src dst 0)) (cutVal (outVal src dst 1)) (padVal x) (ix3 g r c) = agg1 src dst x g r c := by
  show rowM1 (F := Ideal) (slab (kA src dst) g) (slab (padVal (F := Ideal) x) g) (ix3 0 r c) = _
  rw [rowM1_apply]
  have eA : ∀ a b : Fin 128, (slab (kA src dst) g (ix3 0 a b) : EReal) = adj src dst g a b := fun a b => kA_apply hE g a b
  have eX : ∀ a : Fin 128, (slab (padVal (F := Ideal) x) g (ix3 0 a c) : EReal) = _ := fun a => pad_apply x g a c
  simp only [eA, eX]
  let f : ℕ → EReal := fun k => nadj src dst g r k * (if h : k < 100 then x (ix2 (⟨g.val * 100 + k, by have := g.isLt; omega⟩ : Fin 10000) c) else 0)
  have s1 : ∑ k : Fin 128, f k = agg1 src dst x g r c := by
    rw [sum_cut (n := 100) (N := 128) (by norm_num) f fun k hk => by show _ * (dite _ _ _) = _; rw [dif_neg (by omega), mul_zero]]
    refine Finset.sum_congr rfl fun k _ => ?_
    show _ * (dite _ _ _) = _
    rw [dif_pos k.isLt]
  rw [← s1]
  refine Finset.sum_congr rfl fun k _ => ?_
  by_cases hk : k.val < 100
  · show nrm (∑ y : Fin 128, loopAdj src dst g r y) * loopAdj src dst g r k * nrm (∑ y : Fin 128, loopAdj src dst g y k) * _ = nadj src dst g r k * _
    rw [deg_row _ _ hr, deg_col _ _ hk]
    rfl
  · show _ * (dite _ _ _) = _ * (dite _ _ _)
    rw [dif_neg hk, mul_zero, mul_zero]

theorem x1_apply (hE : EdgesOK src dst) (x : S10000x128.Idx → EReal) (w : S128x128.Idx → EReal) (b : S128.Idx → EReal) (g : Fin 100) (r c : Fin 128) :
    valX1 (F := Ideal) (cutVal (outVal src dst 0)) (cutVal (outVal src dst 1)) (padVal x) w (shapeCast S1x128 b shapeCasts_S128_S1x128) (ix3 g r c)
      = if r.val < 100 then lay1 src dst x w b g r c else 0 := by
  refine (layer1_apply w _ _ g r c).trans ?_
  by_cases h : r.val < 100
  · rw [if_pos h, if_pos h]
    have eb : (shapeCast S1x128 b shapeCasts_S128_S1x128 (ix2 0 c) : EReal) = b (ix1 c) := by pointwise
    unfold lay1
    rw [eb]
    simp only [m1_apply hE x g r _ h]
  · rw [if_neg h, if_neg h]

/-- The kernel's first-layer result, at node `n` and column `c`. -/
theorem xsVal_apply (hE : EdgesOK src dst) (x : S10000x128.Idx → EReal) (w : S128x128.Idx → EReal) (b : S128.Idx → EReal) (g i : Fin 100) (c : Fin 128) :
    xsVal (F := Ideal) src dst x w b (ix2 (⟨g.val * 100 + i.val, by have := g.isLt; have := i.isLt; omega⟩ : Fin 10000) c) = lay1 src dst x w b g i c := by
  have e : xsVal (F := Ideal) src dst x w b (ix2 (⟨g.val * 100 + i.val, by have := g.isLt; have := i.isLt; omega⟩ : Fin 10000) c)
      = valX1 (F := Ideal) (cutVal (outVal src dst 0)) (cutVal (outVal src dst 1)) (padVal x) w (shapeCast S1x128 b shapeCasts_S128_S1x128)
        (ix3 g (⟨i.val, by have := i.isLt; omega⟩ : Fin 128) c) := by
    pointwise [xsVal, joinVal]
  rw [e, x1_apply hE, if_pos i.isLt]

end Cert.Proof.Adj
-- ==== Proof.Pre.lean ====
/-
  Host arithmetic on one word: the floor division and the remainder by a hundred, of a word that is not negative; and what the
  precondition says of each edge, `edges_ok`: its two ends are nodes of one graph.
-/
module

public import proofs.«01_k».proof.Proof.Launch
public import proofs.«01_k».proof.Proof.Gen.Pre_edges_in_graphs
public import proofs.«01_k».proof.Pre_edges_in_graphs
public import Idealize.ShloMosaic.Lib.ReduceAll

@[expose] public section

set_option maxRecDepth 16384

noncomputable section

namespace Cert.Proof.Adj

open Cert.KernelIdeal Cert.KernelIdeal.Gen

open Idealize.ShloMosaic Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Words -/

/-- The sign of a word, as a word. -/
def sgn (a : BitVec 32) : BitVec 32 := if a = 0 then 0 else if a.msb then -1 else 1

/-- Floor division by a hundred, as the host computes it: the quotient rounded toward zero, less one where the signs differ and the
    division is not exact. -/
def fdiv (a : BitVec 32) : BitVec 32 :=
  Scalar.select (IntOp.andi (IntOp.cmpi .ne (sgn a) (sgn 100#32)) (IntOp.cmpi .ne (IntOp.remsi .host a 100#32) 0#32))
    (IntOp.subi (IntOp.divsi .host a 100#32) 1#32) (IntOp.divsi .host a 100#32)

theorem msb_small {a : BitVec 32} (h : a.toNat < 10000) : a.msb = false := by
  rw [BitVec.msb_eq_decide]; simp; omega

theorem divsi_small {a : BitVec 32} (h : a.toNat < 10000) : (IntOp.divsi .host a 100#32).toNat = a.toNat / 100 := by
  have hc : ¬ IntOp.SDivCorner a 100#32 := by
    unfold IntOp.SDivCorner
    rintro (h' | ⟨h', h''⟩)
    · exact absurd h' (by decide)
    · exact absurd h'' (by decide)
  unfold IntOp.divsi
  rw [if_neg hc, BitVec.sdiv_eq, msb_small h, show (100#32).msb = false by decide]
  show (a / 100#32).toNat = _
  rw [BitVec.toNat_udiv]; rfl

theorem remsi_small {a : BitVec 32} (h : a.toNat < 10000) : (IntOp.remsi .host a 100#32).toNat = a.toNat % 100 := by
  have hc : ¬ IntOp.SDivCorner a 100#32 := by
    unfold IntOp.SDivCorner
    rintro (h' | ⟨h', h''⟩)
    · exact absurd h' (by decide)
    · exact absurd h'' (by decide)
  unfold IntOp.remsi
  rw [if_neg hc, BitVec.srem_eq, msb_small h, show (100#32).msb = false by decide]
  show (a % 100#32).toNat = _
  rw [BitVec.toNat_umod]; rfl

theorem fdiv_toNat {a : BitVec 32} (h : a.toNat < 10000) : (fdiv a).toNat = a.toNat / 100 := by
  unfold fdiv
  by_cases h0 : a = 0
  · subst h0; decide
  · have hs : sgn a = 1 := by unfold sgn; rw [if_neg h0, msb_small h]; rfl
    rw [hs, show (IntOp.cmpi .ne (1 : BitVec 32) (sgn 100#32)) = 0#1 by decide]
    rw [show ∀ x : BitVec 1, IntOp.andi 0#1 x = 0#1 by decide]
    show (IntOp.divsi .host a 100#32).toNat = _
    exact divsi_small h

/-! ## The precondition -/

theorem and_one (a b : BitVec 1) : IntOp.andi a b = 1#1 ↔ a = 1#1 ∧ b = 1#1 := by revert a b; decide

theorem one_of {p : Bool} (h : BitVec.ofBool p = 1#1) : p = true := by cases p <;> [exact absurd h (by decide); rfl]

/-- The comparisons that the precondition makes of an edge say that its ends are nodes of one graph. -/
theorem edge_of {a b : BitVec 32}
    (h : IntOp.andi (IntOp.andi (IntOp.andi (IntOp.cmpi .sge a 0#32) (IntOp.cmpi .slt a 10000#32)) (IntOp.cmpi .sge b (IntOp.muli (fdiv a) 100#32)))
      (IntOp.cmpi .slt b (IntOp.addi (IntOp.muli (fdiv a) 100#32) 100#32)) = 1#1) : EdgeOK a b := by
  rw [and_one, and_one, and_one] at h
  obtain ⟨⟨⟨h1, h2⟩, h3⟩, h4⟩ := h
  have h1 : (0#32).sle a = true := one_of h1
  have h2 : a.slt 10000#32 = true := one_of h2
  have h3 : (IntOp.muli (fdiv a) 100#32).sle b = true := one_of h3
  have h4 : b.slt (IntOp.addi (IntOp.muli (fdiv a) 100#32) 100#32) = true := one_of h4
  rw [BitVec.sle_eq_decide, decide_eq_true_eq] at h1
  rw [BitVec.slt_eq_decide, decide_eq_true_eq] at h2
  simp only [BitVec.toInt_eq_toNat_cond, BitVec.toNat_ofNat] at h1 h2
  have ha : a.toNat < 10000 := by
    have := a.isLt
    split at h1 <;> simp at h1 h2 <;> omega
  have hf := fdiv_toNat ha
  have hm : (IntOp.muli (fdiv a) 100#32).toNat = a.toNat / 100 * 100 := by
    simp only [IntOp.muli, BitVec.toNat_mul, hf, BitVec.toNat_ofNat]; omega
  have hn : (IntOp.addi (IntOp.muli (fdiv a) 100#32) 100#32).toNat = a.toNat / 100 * 100 + 100 := by
    simp only [IntOp.addi, BitVec.toNat_add, hm, BitVec.toNat_ofNat]; omega
  rw [BitVec.sle_eq_decide, decide_eq_true_eq] at h3
  rw [BitVec.slt_eq_decide, decide_eq_true_eq] at h4
  simp only [BitVec.toInt_eq_toNat_cond, hm, hn] at h3 h4
  have := b.isLt
  refine ⟨ha, ?_, ?_⟩
  · split at h3 <;> split at h3 <;> omega
  · split at h3 <;> split at h3 <;> split at h4 <;> split at h4 <;> omega

/-- The precondition at a launch's argument: every edge lies in one graph. -/
theorem edges_ok (x0 : Vec F S10000x128 .f32) (x : S2x320000.Idx → BitVec 32) (x2 : S10000.Idx → BitVec 32) (x3 : Vec F S128x128 .f32)
    (x4 : Vec F S128 .f32) (x5 : Vec F S128x128 .f32) (x6 : Vec F S128 .f32) (x7 : Vec F S128x128 .f32) (x8 : Vec F S128 .f32)
    (h : Cert.Pre_edges_in_graphs.fn (F := F) x0 x x2 x3 x4 x5 x6 x7 x8 = fun _ => 1#1) : EdgesOK (srcOf x) (dstOf x) := by
  intro n hn
  have e := congrFun h (Shape.Idx.first (by decide : 0 < Cert.Pre_edges_in_graphs.S_.numel))
  have : Subsingleton Cert.Pre_edges_in_graphs.S_.Idx := ⟨fun a b => funext fun k => k.elim0⟩
  have e := Host.reduce_andi_all _ _ _ _ _ e (fun a => (⟨n, hn⟩ : Fin 320000).cast (by rw [Fin.eq_zero a]; rfl))
  unfold wordAt
  rw [dif_pos hn, dif_pos hn]
  exact edge_of e

end Cert.Proof.Adj
-- ==== Proof.Cat3.lean ====
/-
  Three columns laid side by side, read at one element: column `k` of the table is piece `k`. At any number of rows.
-/
module

public import Idealize.ShloMosaic.Lib.Pipeline.Value
public import Idealize.ShloMosaic.Lib.ValueIdxCore

@[expose] public section

noncomputable section

namespace Cert.Proof.Adj

open Idealize.ShloMosaic Idealize.ShloMosaic.ValueIdx

variable {α : Type} {N : ℕ}

/-- A column of `N` elements. -/
abbrev Col (N : ℕ) : Shape := ⟨2, ![N, 1]⟩

theorem cat3_0 (A B C : (Col N).Idx → α) (h : Shape.Concatenates [Col N, Col N, Col N] ⟨2, ![N, 3]⟩ 1) (e : Fin N) :
    concatenate ⟨2, ![N, 3]⟩ 1 [⟨Col N, A⟩, ⟨Col N, B⟩, ⟨Col N, C⟩] h (ix2 e 0) = A (ix2 e 0) := by
  refine concatenate_apply_piece (t := ⟨2, ![N, 3]⟩) 1 [⟨Col N, A⟩, ⟨Col N, B⟩, ⟨Col N, C⟩] h (ix2 e 0) 0 (by simp) (Col N) A rfl rfl 0 rfl (ix2 e 0) ?_ rfl
  intro b hb
  match b with
  | ⟨0, _⟩ => rfl
  | ⟨1, _⟩ => exact absurd rfl hb

theorem cat3_1 (A B C : (Col N).Idx → α) (h : Shape.Concatenates [Col N, Col N, Col N] ⟨2, ![N, 3]⟩ 1) (e : Fin N) :
    concatenate ⟨2, ![N, 3]⟩ 1 [⟨Col N, A⟩, ⟨Col N, B⟩, ⟨Col N, C⟩] h (ix2 e 1) = B (ix2 e 0) := by
  refine concatenate_apply_piece (t := ⟨2, ![N, 3]⟩) 1 [⟨Col N, A⟩, ⟨Col N, B⟩, ⟨Col N, C⟩] h (ix2 e 1) 1 (by simp) (Col N) B rfl rfl 1 rfl (ix2 e 0) ?_ rfl
  intro b hb
  match b with
  | ⟨0, _⟩ => rfl
  | ⟨1, _⟩ => exact absurd rfl hb

theorem cat3_2 (A B C : (Col N).Idx → α) (h : Shape.Concatenates [Col N, Col N, Col N] ⟨2, ![N, 3]⟩ 1) (e : Fin N) :
    concatenate ⟨2, ![N, 3]⟩ 1 [⟨Col N, A⟩, ⟨Col N, B⟩, ⟨Col N, C⟩] h (ix2 e 2) = C (ix2 e 0) := by
  refine concatenate_apply_piece (t := ⟨2, ![N, 3]⟩) 1 [⟨Col N, A⟩, ⟨Col N, B⟩, ⟨Col N, C⟩] h (ix2 e 2) 2 (by simp) (Col N) C rfl rfl 2 rfl (ix2 e 0) ?_ rfl
  intro b hb
  match b with
  | ⟨0, _⟩ => rfl
  | ⟨1, _⟩ => exact absurd rfl hb

end Cert.Proof.Adj
-- ==== Proof.RefVal.lean ====
/-
  The reference's value: what its scatter-add of ones leaves at `(g, s, t)`, as the count of `Count`, and the sum of that and its
  transpose.
-/
module

public import proofs.«01_k».proof.Proof.KerVal
public import proofs.«01_k».proof.Proof.Pre
public import proofs.«01_k».proof.Proof.Cat3
public import proofs.«01_k».proof.Proof.Gen.ReferenceIdeal.Run
public import Idealize.ShloMosaic.Lib.Routing.OpsPair
public import Idealize.ShloMosaic.Lib.ValueIdxRank1
public import Idealize.ShloMosaic.Lib.ValueLayout

@[expose] public section

set_option maxRecDepth 16384

noncomputable section

namespace Cert.Proof.Adj

open Cert.ReferenceIdeal Cert.ReferenceIdeal.Gen
open Idealize.ShloMosaic
open Idealize.ShloMosaic.ValueIdx hiding ix1 ix2 ix3 eq_ix1 eq_ix2 eq_ix3

/-! ## The three index words of an edge -/

/-- The graph of the source, as the host computes it. -/
def colG (a : BitVec 32) : BitVec 32 := Scalar.select (IntOp.cmpi .slt (fdiv a) 0#32) (IntOp.addi (fdiv a) 100#32) (fdiv a)

/-- The divisor of the host's remainder, and the remainder of the sign of the divisor. -/
def den : BitVec 32 := Scalar.select (IntOp.cmpi .eq 100#32 0#32) 1#32 100#32
def rem100 (a : BitVec 32) : BitVec 32 :=
  Scalar.select (IntOp.andi (IntOp.cmpi .ne (IntOp.cmpi .slt (IntOp.remsi .host a den) 0#32) (IntOp.cmpi .slt den 0#32)) (IntOp.cmpi .ne (IntOp.remsi .host a den) 0#32))
    (IntOp.addi (IntOp.remsi .host a den) den) (IntOp.remsi .host a den)

/-- A node's place within its graph, as the host computes it. -/
def colR (a : BitVec 32) : BitVec 32 := Scalar.select (IntOp.cmpi .slt (rem100 a) 0#32) (IntOp.addi (rem100 a) 100#32) (rem100 a)

theorem toInt_small {a : BitVec 32} (h : a.toNat < 10000) : a.toInt = (a.toNat : Int) := by
  rw [BitVec.toInt_eq_toNat_cond, if_pos (by omega)]

theorem colG_toInt {a : BitVec 32} (h : a.toNat < 10000) : (colG a).toInt = ((a.toNat / 100 : ℕ) : Int) := by
  have e := fdiv_toNat h
  unfold colG
  rw [Routing.wrap_of_lt _ _ (by rw [e]; show _ < 2147483648; omega), toInt_small (by omega), e]

theorem rem100_toNat {a : BitVec 32} (h : a.toNat < 10000) : (rem100 a).toNat = a.toNat % 100 := by
  have hd : den = 100#32 := by decide
  have e := remsi_small h
  have hs : IntOp.cmpi .slt (IntOp.remsi .host a 100#32) 0#32 = 0#1 := by
    rw [WordCmp.cmpi_slt_zero, decide_eq_false (by rw [e]; show ¬ 2147483648 ≤ _; omega)]; rfl
  unfold rem100
  rw [hd, hs, show IntOp.cmpi .slt 100#32 0#32 = 0#1 by decide, show IntOp.cmpi .ne 0#1 0#1 = 0#1 by decide,
    show ∀ x : BitVec 1, IntOp.andi 0#1 x = 0#1 by decide]
  exact e

theorem colR_toInt {a : BitVec 32} (h : a.toNat < 10000) : (colR a).toInt = ((a.toNat % 100 : ℕ) : Int) := by
  have e := rem100_toNat h
  unfold colR
  rw [Routing.wrap_of_lt _ _ (by rw [e]; show _ < 2147483648; omega), toInt_small (by omega), e]

/-! ## The table of index words, and where an update lands -/

/-- A row of words as a column. -/
def colOf (f : S320000.Idx → BitVec 32) : S320000x1.Idx → BitVec 32 := broadcastInDim S320000x1 ![0] bcast_S320000_S320000x1_0 f

/-- The three columns of index words: the graph, the source's place and the destination's place. -/
abbrev pieces (src dst : S320000.Idx → BitVec 32) : List ((s : Shape) × (s.Idx → BitVec 32)) :=
  [⟨S320000x1, colOf fun i => colG (src i)⟩, ⟨S320000x1, colOf fun i => colR (src i)⟩, ⟨S320000x1, colOf fun i => colR (dst i)⟩]

/-- The three index words of every edge. -/
def idxTab (src dst : S320000.Idx → BitVec 32) : S320000x3.Idx → BitVec 32 :=
  concatenate S320000x3 1 (pieces src dst) concatenates_S320000x1_S320000x1_S320000x1_S320000x3_d1

theorem colOf_apply (f : S320000.Idx → BitVec 32) (e : Fin 320000) : colOf f (ix2 e 0) = f (ix1 e) := by
  unfold colOf broadcastInDim
  refine congrArg f (funext fun a => Fin.ext ?_)
  match a with
  | ⟨0, _⟩ => rfl

theorem idxTab_0 (src dst : S320000.Idx → BitVec 32) (e : Fin 320000) : idxTab src dst (ix2 e 0) = colG (src (ix1 e)) :=
  (cat3_0 (N := 320000) (colOf fun i => colG (src i)) (colOf fun i => colR (src i)) (colOf fun i => colR (dst i)) _ e).trans (colOf_apply _ e)

theorem idxTab_1 (src dst : S320000.Idx → BitVec 32) (e : Fin 320000) : idxTab src dst (ix2 e 1) = colR (src (ix1 e)) :=
  (cat3_1 (N := 320000) (colOf fun i => colG (src i)) (colOf fun i => colR (src i)) (colOf fun i => colR (dst i)) _ e).trans (colOf_apply _ e)

theorem idxTab_2 (src dst : S320000.Idx → BitVec 32) (e : Fin 320000) : idxTab src dst (ix2 e 2) = colR (dst (ix1 e)) :=
  (cat3_2 (N := 320000) (colOf fun i => colG (src i)) (colOf fun i => colR (src i)) (colOf fun i => colR (dst i)) _ e).trans (colOf_apply _ e)

/-- The start of an update's one-element window on an axis is that axis's index word, read signed. -/
theorem start_eq (idx : S320000x3.Idx → BitVec 32) (e : Fin 320000) (a : Fin 3) :
    scatter_S100x100x100_S320000x3_S320000_n_012_012_1.start (ix1 e) idx a = (idx (ix2 e a)).toInt := by
  unfold ScatterDims.start
  rw [dif_pos (by revert a; decide)]
  refine congrArg (fun i => (idx i).toInt) (funext fun b => Fin.ext ?_)
  match b with
  | ⟨0, _⟩ => rfl
  | ⟨1, _⟩ => fin_cases a <;> rfl

theorem window_eq (e : Fin 320000) (a : Fin 3) :
    scatter_S100x100x100_S320000x3_S320000_n_012_012_1.window (ix1 e) a = 0 := by
  unfold ScatterDims.window
  rw [dif_neg (by revert a; decide)]

/-- Edge `e`'s update lands at `(g, s, t)` exactly when the edge joins `s` to `t` in graph `g`. -/
theorem lands_iff {src dst : S320000.Idx → BitVec 32} (hE : EdgesOK src dst) (e : Fin 320000) (g s t : Fin 100) :
    scatter_S100x100x100_S320000x3_S320000_n_012_012_1.resultIdx? (ix1 e) (idxTab src dst) = some (ix3 g s t)
      ↔ joins (wordAt src e) (wordAt dst e) g s t := by
  have ws : ∀ f : S320000.Idx → BitVec 32, wordAt f e.val = f (ix1 e) := by
    intro f
    unfold wordAt
    rw [dif_pos e.isLt]
    refine congrArg f (funext fun a => Fin.ext ?_)
    match a with
    | ⟨0, _⟩ => rfl
  have h := hE e.val e.isLt
  rw [ws, ws] at h
  obtain ⟨h0, h1, h2⟩ := h
  rw [ws, ws, Routing.resultIdx?_eq_some]
  have q0 : (idxTab src dst (ix2 e 0)).toInt = ((src (ix1 e)).toNat / 100 : ℕ) := by rw [idxTab_0, colG_toInt h0]
  have q1 : (idxTab src dst (ix2 e 1)).toInt = ((src (ix1 e)).toNat % 100 : ℕ) := by rw [idxTab_1, colR_toInt h0]
  have q2 : (idxTab src dst (ix2 e 2)).toInt = ((dst (ix1 e)).toNat % 100 : ℕ) := by rw [idxTab_2, colR_toInt (by omega)]
  constructor
  · intro h
    have h0 := h 0
    have h1 := h 1
    have h2 := h 2
    rw [start_eq, window_eq, q0] at h0
    rw [start_eq, window_eq, q1] at h1
    rw [start_eq, window_eq, q2] at h2
    change _ = (g.val : Int) at h0
    change _ = (s.val : Int) at h1
    change _ = (t.val : Int) at h2
    refine ⟨?_, ?_, ?_⟩ <;> omega
  · rintro ⟨h0, h1, h2⟩ a
    match a with
    | ⟨0, _⟩ => rw [start_eq, window_eq]; refine (congrArg (· + _) q0).trans ?_; rw [h0]; simp
    | ⟨1, _⟩ => rw [start_eq, window_eq]; refine (congrArg (· + _) q1).trans ?_; rw [h1]; simp
    | ⟨2, _⟩ => rw [start_eq, window_eq]; refine (congrArg (· + _) q2).trans ?_; rw [h2]; simp

/-! ## The scatter-add, and the result -/

/-- The scatter-add of ones at every edge's index words. -/
def scat (src dst : S320000.Idx → BitVec 32) : FVec Ideal S100x100x100 .f32 :=
  Host.scatterAdd (F := Ideal) scatter_S100x100x100_S320000x3_S320000_n_012_012_1
    (broadcastInDim S100x100x100 ![] bcast_S_S100x100x100 (constant S_ .f32 0x00000000#32)) (idxTab src dst)
    (broadcastInDim S320000 ![] bcast_S_S320000 (constant S_ .f32 0x3F800000#32))

theorem scat_apply {src dst : S320000.Idx → BitVec 32} (hE : EdgesOK src dst) (g s t : Fin 100) :
    scat src dst (ix3 g s t) = zeroR + cnt src dst 0 320000 g s t := by
  show zeroR + ∑ j ∈ Finset.univ.filter (fun j => scatter_S100x100x100_S320000x3_S320000_n_012_012_1.resultIdx? j (idxTab src dst) = some (ix3 g s t)), oneR = _
  refine congrArg (fun x : EReal => zeroR + x) ?_
  rw [Finset.sum_filter, ← Equiv.sum_comp (idxEquiv1 (n := 320000)).symm]
  unfold cnt
  rw [Finset.sum_range]
  refine Finset.sum_congr rfl fun e _ => ?_
  rw [Nat.zero_add]
  exact if_congr (lands_iff hE e g s t) rfl rfl

/-- The adjacency that the reference keeps. -/
def refAdj (src dst : S320000.Idx → BitVec 32) : FVec Ideal S100x100x100 .f32 :=
  addf (F := Ideal) (scat src dst) (transpose S100x100x100 [0, 2, 1] (scat src dst) transposes_S100x100x100_S100x100x100_0_2_1)

theorem refAdj_apply {src dst : S320000.Idx → BitVec 32} (hE : EdgesOK src dst) (g s t : Fin 100) :
    refAdj src dst (ix3 g s t) = adj src dst g s t := by
  show (scat src dst (ix3 g s t) : EReal) + transpose S100x100x100 [0, 2, 1] (scat src dst) transposes_S100x100x100_S100x100x100_0_2_1 (ix3 g s t) = _
  have e : (transpose S100x100x100 [0, 2, 1] (scat src dst) transposes_S100x100x100_S100x100x100_0_2_1 (ix3 g s t) : EReal) = scat src dst (ix3 g t s) := by
    pointwise
  rw [e, scat_apply hE, scat_apply hE]
  rfl

/-- With the loops, the degrees' factors, and the first layer's output, as the reference writes them. -/
def refLoop (src dst : S320000.Idx → BitVec 32) : FVec Ideal S100x100x100 .f32 :=
  addf (refAdj src dst) (broadcastInDim S100x100x100 ![0, 1, 2] bcast_S1x100x100_S100x100x100_0_1_2 (broadcastInDim S1x100x100 ![1, 2] bcast_S100x100_S1x100x100_1_2
    (uitofp .f32 (cmpi .eq (addi (iotaInDim S100x100 32 0) (broadcastInDim S100x100 ![] bcast_S_S100x100 (constantI S_ 32 0#32))) (iotaInDim S100x100 32 1)))))

def refFac (src dst : S320000.Idx → BitVec 32) : FVec Ideal S100x100 .f32 :=
  Host.divf (broadcastInDim S100x100 ![] bcast_S_S100x100 (constant S_ .f32 0x3F800000#32)) (Host.sqrt (maximumf
    (broadcastInDim S100x100 ![] bcast_S_S100x100 (id (constant S_ .f32 0x358637BD#32)))
    (Host.reduceAdd (refLoop src dst) (constant S_ .f32 0x00000000#32) reducesTo_S100x100x100_S100x100_d2 h_S_)))

/-- The identity matrix as the reference writes it. -/
theorem uitofp_eye {r c : ℕ} (hr : r < 2 ^ 32) (hc : c < 2 ^ 32) :
    FloatOps.uitofp (F := Ideal) .f32 (IntOp.cmpi .eq (IntOp.addi (BitVec.ofNat 32 r) 0#32) (BitVec.ofNat 32 c)) = eye r c := by
  rw [show ∀ a : BitVec 32, IntOp.addi a 0#32 = a from fun a => BitVec.add_zero a, ← select_eye hr hc]
  generalize IntOp.cmpi .eq (BitVec.ofNat 32 r) (BitVec.ofNat 32 c) = q
  show (((q.toNat : ℝ) : EReal)) = _
  rcases (by revert q; decide : ∀ q : BitVec 1, q = 0#1 ∨ q = 1#1) q with rfl | rfl
  · simp [Scalar.select]
  · simp [Scalar.select]

theorem refLoop_apply {src dst : S320000.Idx → BitVec 32} (hE : EdgesOK src dst) (g s t : Fin 100) :
    refLoop src dst (ix3 g s t) = loopAdj src dst g s t := by
  unfold loopAdj
  rw [← refAdj_apply hE]
  pointwise [refLoop]
  rw [uitofp_eye (by have := s.isLt; omega) (by have := t.isLt; omega)]

theorem refFac_apply {src dst : S320000.Idx → BitVec 32} (hE : EdgesOK src dst) (g s : Fin 100) :
    refFac src dst (ix2 g s) = fac src dst g s := by
  unfold fac nrm
  simp only [← refLoop_apply hE]
  pointwise [refFac]
  rfl

/-! ## The reference's run ends at these -/

section
variable (V0 : Valuation τ sig (Elt Ideal))

/-- The two rows of the edge list that the reference reads. -/
abbrev rS : S320000.Idx → BitVec 32 := srcOf (V0 (Proc.devRef .tc main_arg1))
abbrev rD : S320000.Idx → BitVec 32 := dstOf (V0 (Proc.devRef .tc main_arg1))

theorem res_scat : Value.res_main_v30 (F := Ideal) V0 = scat (rS V0) (rD V0) := by
  unfold Value.res_main_v30
  rfl

theorem res_adj : Value.res_main_v32 (F := Ideal) V0 = refAdj (rS V0) (rD V0) := by
  unfold Value.res_main_v32
  rw [res_scat]
  rfl

theorem res_loop : Value.res_main_v42 (F := Ideal) V0 = refLoop (rS V0) (rD V0) := by
  unfold Value.res_main_v42
  rw [res_adj]
  rfl

theorem res_fac : Value.res_main_v47 (F := Ideal) V0 = refFac (rS V0) (rD V0) := by
  unfold Value.res_main_v47
  rw [res_loop]
  rfl

end

end Cert.Proof.Adj
-- ==== Proof.Gather.lean ====
/-
  Three host operations of the reference's pooling read at an index: the sorted indices, the rows of a graph gathered along the middle
  axis, and the columns gathered along the last.
-/
module

public import proofs.«01_k».proof.Proof.Pick
public import Idealize.ShloMosaic.Lib.ValueIdx
public import Idealize.ShloMosaic.Lib.ValueIdxCore
public import Idealize.ShloMosaic.Lib.Pointwise

@[expose] public section

noncomputable section

namespace Cert.Proof.Adj

open Idealize.ShloMosaic
open Idealize.ShloMosaic.ValueIdx (takeIdx)

variable {α : Type}

/-! ## Rows -/

/-- The dimension numbers of a gather of rows of each batch. -/
abbrev rowDims (B N C R : Nat) (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

theorem gather_rows {B N C R w : Nat} (hN : 0 < N) (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (g : Fin B) (r : Fin R) (c : Fin C) :
    Host.gather (rowDims B N C R wf) x idx (ix3 g r c) = x (ix3 g ⟨min (idx (ix3 g r 0)).toInt.toNat (N - 1), by omega⟩ c) := by
  unfold Host.gather
  congr 1
  funext a
  refine Fin.ext ?_
  show (rowDims B N C R wf).start (ix3 g r c) idx a + (rowDims B N C R wf).batchCoord (ix3 g r c) a + (rowDims B N C R wf).offCoord (ix3 g r c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N C R wf).startIndexMap from List.mem_singleton.mpr rfl)]
    have hsi : (rowDims B N C R wf).siIdx (ix3 g r c) ⟨List.idxOf (1 : Fin 3) (rowDims B N C R wf).startIndexMap,
        List.idxOf_lt_length_iff.2 (List.mem_singleton.mpr rfl)⟩ = ix3 g r 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp at h)]
    unfold GatherDims.start
    rw [dif_neg (show ¬ (2 : Fin 3) ∈ (rowDims B N C R wf).startIndexMap by simp)]
    simp only [Nat.zero_add, Nat.add_zero]
    rfl

/-! ## Columns -/

/-- The dimension numbers of a gather of columns of each batch. -/
abbrev colDims (B N C R : Nat) (wf : GatherDims.WF ⟨3, ![B, C, N]⟩ ⟨3, ![B, R, 1]⟩ ⟨3, ![B, C, R]⟩ [1] [2] [0] [2] [0] 2 ![1, C, 1]) :
    GatherDims ⟨3, ![B, C, N]⟩ ⟨3, ![B, R, 1]⟩ ⟨3, ![B, C, R]⟩ where
  offsetDims := [1]
  collapsedSliceDims := [2]
  operandBatchingDims := [0]
  startIndicesBatchingDims := [0]
  startIndexMap := [2]
  indexVectorDim := 2
  sliceSizes := ![1, C, 1]
  wf := wf

theorem gather_cols {B N C R w : Nat} (hN : 0 < N) (wf : GatherDims.WF ⟨3, ![B, C, N]⟩ ⟨3, ![B, R, 1]⟩ ⟨3, ![B, C, R]⟩ [1] [2] [0] [2] [0] 2 ![1, C, 1])
    (x : (⟨3, ![B, C, N]⟩ : Shape).Idx → α) (idx : IVec ⟨3, ![B, R, 1]⟩ w) (g : Fin B) (c : Fin C) (r : Fin R) :
    Host.gather (colDims B N C R wf) x idx (ix3 g c r) = x (ix3 g c ⟨min (idx (ix3 g r 0)).toInt.toNat (N - 1), by omega⟩) := by
  unfold Host.gather
  congr 1
  funext a
  refine Fin.ext ?_
  show (colDims B N C R wf).start (ix3 g c r) idx a + (colDims B N C R wf).batchCoord (ix3 g c r) a + (colDims B N C R wf).offCoord (ix3 g c r) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h)]
    unfold GatherDims.start
    rw [dif_neg (show ¬ (1 : Fin 3) ∈ (colDims B N C R wf).startIndexMap by simp)]
    simp only [Nat.zero_add, Nat.add_zero]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (colDims B N C R wf).startIndexMap from List.mem_singleton.mpr rfl)]
    have hsi : (colDims B N C R wf).siIdx (ix3 g c r) ⟨List.idxOf (2 : Fin 3) (colDims B N C R wf).startIndexMap,
        List.idxOf_lt_length_iff.2 (List.mem_singleton.mpr rfl)⟩ = ix3 g r 0 := by
      funext b; refine Fin.ext ?_
      match b with
      | ⟨0, _⟩ => rfl
      | ⟨1, _⟩ => rfl
      | ⟨2, _⟩ => rfl
    rw [hsi]
    rfl

/-! ## The sorted indices -/

/-- The index at position `r` of row `g`, of the top `K` of `N` scores, is the place picked at round `r`. -/
theorem topK_apply {B N K : Nat} (x : Vec Ideal ⟨2, ![B, N]⟩ .f32) (h : (⟨2, ![B, N]⟩ : Shape).Slices (fun _ => 0) ⟨2, ![B, K]⟩) (hK : K ≤ N)
    (s : ℕ → EReal) (g : Fin B) (hs : ∀ c : Fin N, (x (ix2 g c) : EReal) = s c) (r : Fin K) :
    (Host.topK ⟨2, ![B, K]⟩ 1 (FloatOps.cmpfTotal (F := Ideal) (φ := .f32) .gt) x h).2 (ix2 g r) = BitVec.ofNat 32 (pick s N r) := by
  have key : ∀ (r' : Fin N), r'.val = r.val →
      (Host.sort2 ⟨2, ![B, N]⟩ 1 (fun (l : EReal × BitVec 32) r => FloatOps.cmpfTotal (F := Ideal) (φ := .f32) .gt l.1 r.1) x
        (fun i => if hd : 1 < 2 then iotaInDim ⟨2, ![B, N]⟩ 32 ⟨1, hd⟩ i else 0#32)).2 (ix2 g r') = BitVec.ofNat 32 (pick s N r) := fun r' hr => by
    show BitVec.ofNat 32 (sortedFrom (fun k k' : Fin N => FloatOps.cmpfTotal (F := Ideal) (φ := .f32) .gt (x (Shape.Idx.along (ix2 g r') 1 k)) (x (Shape.Idx.along (ix2 g r') 1 k')) == 1#1) r').val = _
    have e : (fun k k' : Fin N => FloatOps.cmpfTotal (F := Ideal) (φ := .f32) .gt (x (Shape.Idx.along (ix2 g r') 1 k)) (x (Shape.Idx.along (ix2 g r') 1 k')) == 1#1) = greater s := by
      funext k k'
      have ek : ∀ k : Fin N, Shape.Idx.along (ix2 g r') 1 k = ix2 g k := fun k => by
        funext a
        match a with
        | ⟨0, _⟩ => rfl
        | ⟨1, _⟩ => rfl
      rw [ek, ek]
      show (BitVec.ofBool (decide ((x (ix2 g k') : EReal) < x (ix2 g k))) == 1#1) = decide (s k' < s k)
      rw [hs, hs]
      cases decide (s k' < s k) <;> rfl
    rw [e, sortedFrom_eq_pick, hr]
  refine Eq.trans ?_ (key ⟨r.val, by have := r.isLt; omega⟩ rfl)
  refine congrArg (Host.sort2 ⟨2, ![B, N]⟩ 1 (fun (l : EReal × BitVec 32) r => FloatOps.cmpfTotal (F := Ideal) (φ := .f32) .gt l.1 r.1) x
    (fun i => if hd : 1 < 2 then iotaInDim ⟨2, ![B, N]⟩ 32 ⟨1, hd⟩ i else 0#32)).2 (funext fun a => ?_)
  match a with
  | ⟨0, _⟩ => exact Fin.ext (Nat.zero_add _)
  | ⟨1, _⟩ => exact Fin.ext (Nat.zero_add _)

end Cert.Proof.Adj
end
-- ==== Proof.Pool.lean ====
/-
  The dense kernel's two poolings read at an element. From a graph's padded adjacency and features the rounds leave each place its
  number, the pooled adjacency and features are those of the places picked, padded, and the normalised product is that of the pooled
  graph.
-/
module

public import proofs.«01_k».proof.Proof.KerVal

@[expose] public section

set_option maxRecDepth 16384

noncomputable section

namespace Cert.Proof.Adj

open Cert.KernelIdeal Cert.KernelIdeal.Gen Cert.Proof.Mega
open Idealize.ShloMosaic

/-- A select on a bit given by a proposition. -/
theorem select_prop {α : Type} (p : Prop) [Decidable p] (a b : α) : Scalar.select (if p then 1#1 else 0#1) a b = if p then a else b := by
  by_cases h : p <;> simp [h, Scalar.select]

/-- A round's number, as the kernel computes it. -/
theorem round_word {k : ℕ} (h : k < 2 ^ 31) : (((Scf.iv 0#32 1#32 k).toInt : ℝ) : EReal) = ((k : ℝ) : EReal) := by
  have : Scf.iv 0#32 1#32 k = BitVec.ofNat 32 k := by unfold Scf.iv; simp
  rw [this, toInt_ofNat h]; norm_cast

variable {s : ℕ → EReal} {a : ℕ → ℕ → EReal} {x : ℕ → Fin 128 → EReal}

/-- The bit by which a round chooses a place: it is the least of those with the greatest score left. -/
def pickBit {N : ℕ} (f : Fin N → EReal) (c : Fin N) : BitVec 1 :=
  IntOp.cmpi .eq (BitVec.ofNat 32 c) (Finset.fold IntOp.minsi 2147483647#32
    (fun x : Fin N => if f x = Finset.fold max (Ideal.ofBits .f32 0xFF800000#32) (fun x => f x) Finset.univ then BitVec.ofNat 32 x else BitVec.ofNat 32 N) Finset.univ)

/-- What the rounds leave, given what each does to the scores left, `L`, and to the numbers, `R`. -/
theorem rounds_read {σ : Type} {N n K T : ℕ} (hT : T = K) (hK : K ≤ n) (hn : n ≤ N) (hN : N < 2 ^ 31) (h0 : ∀ c, 0 ≤ s c)
    (L R : σ → Fin N → EReal) (G : Fin T → σ → σ) (init : σ)
    (iL : ∀ c, L init c = if c.val < n then s c else Ideal.ofBits .f32 0xBF800000#32) (iR : ∀ c, R init c = Ideal.ofBits .f32 0x4479C000#32)
    (sL : ∀ k st c, L (G k st) c = Scalar.select (pickBit (L st) c) (Ideal.ofBits .f32 0xC0000000#32) (L st c))
    (sR : ∀ k st c, R (G k st) c = Scalar.select (pickBit (L st) c) (((Scf.iv 0#32 1#32 k.val).toInt : ℝ) : EReal) (R st c)) (c : Fin N) :
    R ((List.finRange T).foldl (fun acc k => G k acc) init) c = mark s n K c := by
  subst hT
  have key := rounds_induct (fun j st => ∀ c, L st c = left s n j c ∧ R st c = mark s n j c) T G init 0 ?_ ?_
  · rw [(key c).2, Nat.zero_add]
  · intro c
    constructor
    · rw [iL]; unfold left; rw [if_neg (Nat.not_lt_zero _)]
    · rw [iR]; unfold mark; rw [if_neg (fun h => Nat.not_lt_zero _ h.2)]
  · intro k st hk c
    have hj : 0 + k.val < n := by have := k.isLt; omega
    have hp : pickBit (L st) c = _ := choice hN hn hj h0 (L st) (fun c => (hk c).1) c
    constructor
    · rw [sL, hp, (hk c).1]; exact left_step hj
    · rw [sR, hp, (hk c).2]
      refine mark_step hj _ ?_
      rw [round_word (by omega), Nat.zero_add]

/-! ## The first pooling: a hundred nodes in 128 places, fifty picked -/

theorem ranks1_apply (S : Vec Ideal S100x1x128 .f32) (h0 : ∀ c, 0 ≤ s c) (g : Fin 100)
    (hS : ∀ c : Fin 128, c.val < 100 → (S (ix3 g 0 c) : EReal) = s c) (c : Fin 128) :
    ((ranks1 (F := Ideal) S).2 (ix2 g c) : EReal) = mark s 100 50 c := by
  unfold ranks1
  rw [Scf.fold_eq]
  have e : ∀ (f : FVec Ideal S100x128 .f32) (c : Fin 128), k1_pay122 (F := Ideal) f (ix2 g c) = pickBit (fun c => (f (ix2 g c) : EReal)) c := fun f c => by
    unfold pickBit
    pointwise [k1_pay122]
  refine rounds_read (n := 100) (K := 50) (T := k1_t4_loop.trips) rfl (by norm_num) (by norm_num) (by norm_num) h0
    (fun st c => (st.1 (ix2 g c) : EReal)) (fun st c => (st.2 (ix2 g c) : EReal)) (fun k st => (k1_pay124 st.1, k1_pay123 k st.1 st.2))
    (k1_pay120 S, k1_pay121 (F := Ideal)) (fun c => ?_) (fun c => ?_) (fun k st c => ?_) (fun k st c => ?_) c
  · have e0 : (k1_pay120 (F := Ideal) S (ix2 g c) : EReal)
        = Scalar.select (IntOp.cmpi .slt (BitVec.ofNat 32 c) 100#32) (S (ix3 g 0 c)) (Ideal.ofBits .f32 0xBF800000#32) := by pointwise [k1_pay120]
    refine e0.trans ?_
    rw [show IntOp.cmpi .slt (BitVec.ofNat 32 c.val) 100#32 = _ from slt_ofNat (b := 100) (by have := c.isLt; omega) (by norm_num), select_prop]
    by_cases h : c.val < 100
    · rw [if_pos h, if_pos h, hS c h]
    · rw [if_neg h, if_neg h]
  · pointwise [k1_pay121]
  · rw [← e]; pointwise [k1_pay124]
  · rw [← e]; pointwise [k1_pay123]

theorem rowS1_apply (A X : Vec Ideal S1x128x128 .f32) (hA : ∀ r c : Fin 128, (A (ix3 0 r c) : EReal) = padA 100 a r c)
    (hX : ∀ r c : Fin 128, (X (ix3 0 r c) : EReal) = padX 100 x r c) (r : Fin 128) (hr : r.val < 100) :
    (rowS1 (F := Ideal) A X (ix3 0 0 r) : EReal) = score 100 a x r := by
  rw [← score_pad (N := 128) (by norm_num) hr]
  simp only [← hA, ← hX]
  pointwise [rowS1, k1_pay9]

theorem pay15_apply (rk : Vec Ideal S1x1x128 .f32) (hk : ∀ c : Fin 128, (rk (ix3 0 0 c) : EReal) = mark s 100 50 c) (i : Fin 64) (c : Fin 128) :
    (k1_pay15 (F := Ideal) rk (ix2 i c) : EReal) = if i.val < 50 ∧ c.val = pick s 100 i then (1 : EReal) else 0 := by
  rw [← onehot (s := s) (n := 100) (K := 50) (i := i) (c := c) (by norm_num) (by norm_num) (by have := i.isLt; omega), ← hk]
  pointwise [k1_pay15]

theorem rowXp1_apply (rk : Vec Ideal S1x1x128 .f32) (X : Vec Ideal S1x128x128 .f32) (hk : ∀ c : Fin 128, (rk (ix3 0 0 c) : EReal) = mark s 100 50 c)
    (hX : ∀ r c : Fin 128, (X (ix3 0 r c) : EReal) = padX 100 x r c) (r : Fin 64) (c : Fin 128) :
    (rowXp1 (F := Ideal) rk X (ix3 0 r c) : EReal) = padX 50 (fun i c => x (pick s 100 i) c) r c := by
  rw [← pick_rows (n := 100) (N := 128) (by norm_num) (by norm_num)]
  simp only [← hX, ← pay15_apply rk hk]
  pointwise [rowXp1, k1_pay17, k1_pay16]

theorem rowA1_apply (rk : Vec Ideal S1x1x128 .f32) (A : Vec Ideal S1x128x128 .f32) (hk : ∀ c : Fin 128, (rk (ix3 0 0 c) : EReal) = mark s 100 50 c)
    (hA : ∀ r c : Fin 128, (A (ix3 0 r c) : EReal) = padA 100 a r c) (r c : Fin 64) :
    (rowA1 (F := Ideal) rk A (ix3 0 r c) : EReal) = padA 50 (fun i j => a (pick s 100 i) (pick s 100 j)) r c := by
  rw [← pick_both (n := 100) (N := 128) (by norm_num) (by norm_num)]
  simp only [← hA, ← pay15_apply rk hk]
  pointwise [rowA1, k1_pay19, k1_pay18]

theorem rowM2_apply (rk : Vec Ideal S1x1x128 .f32) (A X : Vec Ideal S1x128x128 .f32) (r : Fin 64) (c : Fin 128) :
    (rowM2 (F := Ideal) rk A X (ix3 0 r c) : EReal) =
    ∑ t : Fin 64, nrm (∑ y : Fin 64, ((rowA1 (F := Ideal) rk A (ix3 0 r y) : EReal) + eye r y)) * ((rowA1 (F := Ideal) rk A (ix3 0 r t) : EReal) + eye r t)
      * nrm (∑ y : Fin 64, ((rowA1 (F := Ideal) rk A (ix3 0 y t) : EReal) + eye y t)) * (rowXp1 (F := Ideal) rk X (ix3 0 t c) : EReal) := by
  have e : ∀ a b : Fin 64, Scalar.select (IntOp.cmpi .eq (BitVec.ofNat 32 a) (BitVec.ofNat 32 b)) (1 : EReal) 0 = eye a b :=
    fun a b => select_eye (by have := a.isLt; omega) (by have := b.isLt; omega)
  have e20 : ∀ a b : Fin 64, (k1_pay20 (F := Ideal) rk A (ix2 a b) : EReal) = (rowA1 (F := Ideal) rk A (ix3 0 a b) : EReal) + eye a b := fun a b => by
    rw [← e]
    pointwise [k1_pay20, rowA1, k1_pay19, k1_pay18]
  have e16 : ∀ (t : Fin 64), (rowXp1 (F := Ideal) rk X (ix3 0 t c) : EReal) = k1_pay16 (F := Ideal) rk X (ix2 t c) := fun t => by
    pointwise [rowXp1, k1_pay17]
  simp only [← e20, e16]
  unfold nrm
  pointwise [rowM2, k1_pay21]

/-! ## The second pooling: fifty nodes in 64 places, twenty-five picked -/

theorem ranks2_apply (S : Vec Ideal S100x1x64 .f32) (h0 : ∀ c, 0 ≤ s c) (g : Fin 100)
    (hS : ∀ c : Fin 64, c.val < 50 → (S (ix3 g 0 c) : EReal) = s c) (c : Fin 64) :
    ((ranks2 (F := Ideal) S).2 (ix2 g c) : EReal) = mark s 50 25 c := by
  unfold ranks2
  rw [Scf.fold_eq]
  have e : ∀ (f : FVec Ideal S100x64 .f32) (c : Fin 64), k1_pay132 (F := Ideal) f (ix2 g c) = pickBit (fun c => (f (ix2 g c) : EReal)) c := fun f c => by
    unfold pickBit
    pointwise [k1_pay132]
  refine rounds_read (n := 50) (K := 25) (T := k1_t7_loop.trips) rfl (by norm_num) (by norm_num) (by norm_num) h0
    (fun st c => (st.1 (ix2 g c) : EReal)) (fun st c => (st.2 (ix2 g c) : EReal)) (fun k st => (k1_pay134 st.1, k1_pay133 k st.1 st.2))
    (k1_pay130 S, k1_pay131 (F := Ideal)) (fun c => ?_) (fun c => ?_) (fun k st c => ?_) (fun k st c => ?_) c
  · have e0 : (k1_pay130 (F := Ideal) S (ix2 g c) : EReal)
        = Scalar.select (IntOp.cmpi .slt (BitVec.ofNat 32 c) 50#32) (S (ix3 g 0 c)) (Ideal.ofBits .f32 0xBF800000#32) := by pointwise [k1_pay130]
    refine e0.trans ?_
    rw [show IntOp.cmpi .slt (BitVec.ofNat 32 c.val) 50#32 = _ from slt_ofNat (b := 50) (by have := c.isLt; omega) (by norm_num), select_prop]
    by_cases h : c.val < 50
    · rw [if_pos h, if_pos h, hS c h]
    · rw [if_neg h, if_neg h]
  · pointwise [k1_pay131]
  · rw [← e]; pointwise [k1_pay134]
  · rw [← e]; pointwise [k1_pay133]

theorem rowS2_apply (A : Vec Ideal S1x64x64 .f32) (X : Vec Ideal S1x64x128 .f32) (hA : ∀ r c : Fin 64, (A (ix3 0 r c) : EReal) = padA 50 a r c)
    (hX : ∀ (r : Fin 64) (c : Fin 128), (X (ix3 0 r c) : EReal) = padX 50 x r c) (r : Fin 64) (hr : r.val < 50) :
    (rowS2 (F := Ideal) A X (ix3 0 0 r) : EReal) = score 50 a x r := by
  rw [← score_pad (N := 64) (by norm_num) hr]
  simp only [← hA, ← hX]
  pointwise [rowS2, k1_pay45]

theorem pay51_apply (rk : Vec Ideal S1x1x64 .f32) (hk : ∀ c : Fin 64, (rk (ix3 0 0 c) : EReal) = mark s 50 25 c) (i : Fin 32) (c : Fin 64) :
    (k1_pay51 (F := Ideal) rk (ix2 i c) : EReal) = if i.val < 25 ∧ c.val = pick s 50 i then (1 : EReal) else 0 := by
  rw [← onehot (s := s) (n := 50) (K := 25) (i := i) (c := c) (by norm_num) (by norm_num) (by have := i.isLt; omega), ← hk]
  pointwise [k1_pay51]

theorem rowXp2_apply (rk : Vec Ideal S1x1x64 .f32) (X : Vec Ideal S1x64x128 .f32) (hk : ∀ c : Fin 64, (rk (ix3 0 0 c) : EReal) = mark s 50 25 c)
    (hX : ∀ (r : Fin 64) (c : Fin 128), (X (ix3 0 r c) : EReal) = padX 50 x r c) (r : Fin 32) (c : Fin 128) :
    (rowXp2 (F := Ideal) rk X (ix3 0 r c) : EReal) = padX 25 (fun i c => x (pick s 50 i) c) r c := by
  rw [← pick_rows (n := 50) (N := 64) (by norm_num) (by norm_num)]
  simp only [← hX, ← pay51_apply rk hk]
  pointwise [rowXp2, k1_pay53, k1_pay52]

theorem rowA2_apply (rk : Vec Ideal S1x1x64 .f32) (A : Vec Ideal S1x64x64 .f32) (hk : ∀ c : Fin 64, (rk (ix3 0 0 c) : EReal) = mark s 50 25 c)
    (hA : ∀ r c : Fin 64, (A (ix3 0 r c) : EReal) = padA 50 a r c) (r c : Fin 32) :
    (rowA2 (F := Ideal) rk A (ix3 0 r c) : EReal) = padA 25 (fun i j => a (pick s 50 i) (pick s 50 j)) r c := by
  rw [← pick_both (n := 50) (N := 64) (by norm_num) (by norm_num)]
  simp only [← hA, ← pay51_apply rk hk]
  pointwise [rowA2, k1_pay55, k1_pay54]

theorem rowM3_apply (rk : Vec Ideal S1x1x64 .f32) (A : Vec Ideal S1x64x64 .f32) (X : Vec Ideal S1x64x128 .f32) (r : Fin 32) (c : Fin 128) :
    (rowM3 (F := Ideal) rk A X (ix3 0 r c) : EReal) =
    ∑ t : Fin 32, nrm (∑ y : Fin 32, ((rowA2 (F := Ideal) rk A (ix3 0 r y) : EReal) + eye r y)) * ((rowA2 (F := Ideal) rk A (ix3 0 r t) : EReal) + eye r t)
      * nrm (∑ y : Fin 32, ((rowA2 (F := Ideal) rk A (ix3 0 y t) : EReal) + eye y t)) * (rowXp2 (F := Ideal) rk X (ix3 0 t c) : EReal) := by
  have e : ∀ a b : Fin 32, Scalar.select (IntOp.cmpi .eq (BitVec.ofNat 32 a) (BitVec.ofNat 32 b)) (1 : EReal) 0 = eye a b :=
    fun a b => select_eye (by have := a.isLt; omega) (by have := b.isLt; omega)
  have e56 : ∀ a b : Fin 32, (k1_pay56 (F := Ideal) rk A (ix2 a b) : EReal) = (rowA2 (F := Ideal) rk A (ix3 0 a b) : EReal) + eye a b := fun a b => by
    rw [← e]
    pointwise [k1_pay56, rowA2, k1_pay55, k1_pay54]
  have e52 : ∀ (t : Fin 32), (rowXp2 (F := Ideal) rk X (ix3 0 t c) : EReal) = k1_pay52 (F := Ideal) rk X (ix2 t c) := fun t => by
    pointwise [rowXp2, k1_pay53]
  simp only [← e56, e52]
  unfold nrm
  pointwise [rowM3, k1_pay57]

/-! ## The second and third layers -/

theorem layer2_apply (w : Vec Ideal S128x128 .f32) (b : Vec Ideal S1x128 .f32) (M : Vec Ideal S100x64x128 .f32) (g : Fin 100) (r : Fin 64) (c : Fin 128) :
    (k1_pay127 (F := Ideal) w (k1_pay108 b) M (ix3 g r c) : EReal)
      = if r.val < 50 then max (∑ x : Fin 128, (M (ix3 g r x) : EReal) * w (ix2 x c) + b (ix2 0 c)) (0 : EReal) else (0 : EReal) := by
  rw [← select_prop, ← rowMask_eq (m := 64) (k := 50) (by norm_num) (by norm_num) g.isLt r.isLt]
  unfold rowMask
  pointwise [k1_pay127, k1_pay108]

theorem layer3_apply (w : Vec Ideal S128x128 .f32) (b : Vec Ideal S1x128 .f32) (M : Vec Ideal S100x32x128 .f32) (g : Fin 100) (r : Fin 32) (c : Fin 128) :
    (k1_pay1 (F := Ideal) (k1_pay137 w (k1_pay109 b) M) (Scalar.select (Scalar.cmpi .eq 32#32 0#32) 1#32 32#32) k1_pay138 k1_pay139 k1_pay140
        (Scalar.cmpi .slt (Scalar.select (Scalar.cmpi .eq 32#32 0#32) 1#32 32#32) 0#32) (ix3 g r c) : EReal)
      = if r.val < 25 then max (∑ x : Fin 128, (M (ix3 g r x) : EReal) * w (ix2 x c) + b (ix2 0 c)) (0 : EReal) else (0 : EReal) := by
  rw [← select_prop, ← rowMask_eq (m := 32) (k := 25) (by norm_num) (by norm_num) g.isLt r.isLt]
  unfold rowMask
  pointwise [k1_pay1, k1_pay137, k1_pay138, k1_pay139, k1_pay140, k1_pay109]

/-! ## The summary -/

theorem rowSum_apply (P1 : Vec Ideal S1x64x128 .f32) (P2 P3 : Vec Ideal S1x32x128 .f32) (c : Fin 256) :
    (rowSum (F := Ideal) P1 P2 P3 (ix3 0 0 c) : EReal) =
      if h : c.val < 128 then
        max (Finset.fold max (Ideal.ofBits .f32 0xFF800000#32) (fun x : Fin 64 => (P1 (ix3 0 x ⟨c, h⟩) : EReal)) Finset.univ) 0
        + max (Finset.fold max (Ideal.ofBits .f32 0xFF800000#32) (fun x : Fin 32 => (P2 (ix3 0 x ⟨c, h⟩) : EReal)) Finset.univ) 0
        + max (Finset.fold max (Ideal.ofBits .f32 0xFF800000#32) (fun x : Fin 32 => (P3 (ix3 0 x ⟨c, h⟩) : EReal)) Finset.univ) 0
      else
        max (Ideal.div (∑ x : Fin 64, (P1 (ix3 0 x ⟨c - 128, by omega⟩) : EReal)) (Ideal.ofBits .f32 0x42480000#32)) 0
        + max (Ideal.div (∑ x : Fin 32, (P2 (ix3 0 x ⟨c - 128, by omega⟩) : EReal)) (Ideal.ofBits .f32 0x41C80000#32)) 0
        + max (Ideal.div (∑ x : Fin 32, (P3 (ix3 0 x ⟨c - 128, by omega⟩) : EReal)) (Ideal.ofBits .f32 0x41C80000#32)) 0 := by
  pointwise [rowSum, k1_pay88, k1_pay83, k1_pay84, k1_pay85, k1_pay86, k1_pay87, k1_pay80, k1_pay81, k1_pay82]

end Cert.Proof.Adj
end
-- ==== Proof.Chain.lean ====
/-
  The kernel's results read at an element, pooling by pooling: the pooled features and adjacency, the second and third layers, and the
  summary, as the mathematics of `Dense` on the counted adjacency and the features given.
-/
module

public import proofs.«01_k».proof.Proof.Pool

@[expose] public section

set_option maxRecDepth 16384

noncomputable section

namespace Cert.Proof.Adj

open Cert.KernelIdeal Cert.KernelIdeal.Gen Cert.Proof.Mega
open Idealize.ShloMosaic

/-! ## The mathematics of the whole -/

/-- The features of graph `g`'s nodes. -/
def nodes (x : S10000x128.Idx → EReal) (g : Fin 100) (k : ℕ) (c : Fin 128) : EReal :=
  if h : k < 100 then x (ix2 (⟨g.val * 100 + k, by have := g.isLt; omega⟩ : Fin 10000) c) else 0

theorem lay1_eq (src dst : S320000.Idx → BitVec 32) (x : S10000x128.Idx → EReal) (w : S128x128.Idx → EReal) (b : S128.Idx → EReal) (g : Fin 100) :
    lay1 src dst x w b g = lay 100 (adj src dst g) (nodes x g) w b := by
  funext s c
  unfold lay1 lay
  have e : ∀ k, agg1 src dst x g s k = agg 100 (adj src dst g) (nodes x g) s k := fun k => by
    unfold agg1 agg
    refine Finset.sum_congr rfl fun t _ => ?_
    have : nodes x g t k = x (ix2 (⟨g.val * 100 + t.val, by have := g.isLt; have := t.isLt; omega⟩ : Fin 10000) k) := by
      unfold nodes; rw [dif_pos t.isLt]
    rw [this]
    rfl
  simp only [e]

/-- The greatest of a graph's features in a column, and their mean, rectified. -/
def top (n : ℕ) (x : ℕ → Fin 128 → EReal) (c : Fin 128) : EReal :=
  max (Finset.fold max (Ideal.ofBits .f32 0xFF800000#32) (fun t : Fin n => x t c) Finset.univ) 0
def mean (n : ℕ) (d : EReal) (x : ℕ → Fin 128 → EReal) (c : Fin 128) : EReal := max (Ideal.div (∑ t : Fin n, x t c) d) 0

/-- The readout of features: the greatest in each column, then the mean of each. -/
def readout (n : ℕ) (d : EReal) (x : ℕ → Fin 128 → EReal) (c : Fin 256) : EReal :=
  if h : c.val < 128 then top n x ⟨c, h⟩ else mean n d x ⟨c - 128, by omega⟩

theorem top_pad {n N : ℕ} (hn : n ≤ N) (x : ℕ → Fin 128 → EReal) (c : Fin 128) : top N (padX n x) c = top n x c := by
  unfold top
  rw [ofBits_bot]
  refine le_antisymm (max_le ((Finset.fold_max_le _).mpr ⟨bot_le, fun t _ => ?_⟩) (le_max_right _ _)) (max_le ((Finset.fold_max_le _).mpr ⟨bot_le, fun t _ => ?_⟩) (le_max_right _ _))
  · unfold padX
    by_cases h : t.val < n
    · rw [if_pos h]
      exact le_max_of_le_left ((Finset.le_fold_max _).mpr (.inr ⟨⟨t, h⟩, Finset.mem_univ _, le_rfl⟩))
    · rw [if_neg h]; exact le_max_right _ _
  · refine le_max_of_le_left ((Finset.le_fold_max _).mpr (.inr ⟨⟨t, by omega⟩, Finset.mem_univ _, ?_⟩))
    unfold padX
    rw [if_pos t.isLt]

theorem mean_pad {n N : ℕ} (hn : n ≤ N) (d : EReal) (x : ℕ → Fin 128 → EReal) (c : Fin 128) : mean N d (padX n x) c = mean n d x c := by
  unfold mean
  rw [sum_cut hn (fun t => padX n x t c) fun k hk => by unfold padX; rw [if_neg (by omega)]]
  have e : ∀ t : Fin n, padX n x t c = x t c := fun t => by unfold padX; rw [if_pos t.isLt]
  simp only [e]

theorem readout_pad {n N : ℕ} (hn : n ≤ N) (d : EReal) (x : ℕ → Fin 128 → EReal) (c : Fin 256) : readout N d (padX n x) c = readout n d x c := by
  unfold readout
  by_cases h : c.val < 128
  · rw [dif_pos h, dif_pos h, top_pad hn]
  · rw [dif_neg h, dif_neg h, mean_pad hn]

section
variable (src dst : S320000.Idx → BitVec 32) (x : S10000x128.Idx → EReal) (w w2 w3 : S128x128.Idx → EReal) (b b2 b3 : S128.Idx → EReal) (g : Fin 100)

/-- After the first pooling: the adjacency, the features, and the second layer. -/
def A2 : ℕ → ℕ → EReal := poolA 100 (adj src dst g) (lay1 src dst x w b g)
def P2 : ℕ → Fin 128 → EReal := poolX 100 (adj src dst g) (lay1 src dst x w b g)
def L2 : ℕ → Fin 128 → EReal := lay 50 (A2 src dst x w b g) (P2 src dst x w b g) w2 b2
/-- After the second: the adjacency, the features, and the third layer. -/
def A3 : ℕ → ℕ → EReal := poolA 50 (A2 src dst x w b g) (L2 src dst x w w2 b b2 g)
def P3 : ℕ → Fin 128 → EReal := poolX 50 (A2 src dst x w b g) (L2 src dst x w w2 b b2 g)
def L3 : ℕ → Fin 128 → EReal := lay 25 (A3 src dst x w w2 b b2 g) (P3 src dst x w w2 b b2 g) w3 b3
/-- The summary of a graph. -/
def S3 (c : Fin 256) : EReal :=
  readout 50 (Ideal.ofBits .f32 0x42480000#32) (P2 src dst x w b g) c + readout 25 (Ideal.ofBits .f32 0x41C80000#32) (P3 src dst x w w2 b b2 g) c
    + readout 25 (Ideal.ofBits .f32 0x41C80000#32) (L3 src dst x w w2 w3 b b2 b3 g) c

theorem A2_comm (i j : ℕ) : A2 src dst x w b g i j = A2 src dst x w b g j i := adj_comm _ _ _ _ _
theorem A3_comm (i j : ℕ) : A3 src dst x w w2 b b2 g i j = A3 src dst x w w2 b b2 g j i := A2_comm _ _ _ _ _ _ _ _
end

/-! ## One pooling and one layer -/

section
variable {a : ℕ → ℕ → EReal} {x : ℕ → Fin 128 → EReal}
variable {A : Vec Ideal S100x128x128 .f32} {X : Vec Ideal S100x128x128 .f32} {g : Fin 100}
variable (hA : ∀ r c : Fin 128, (A (ix3 g r c) : EReal) = padA 100 a r c) (hX : ∀ r c : Fin 128, (X (ix3 g r c) : EReal) = padX 100 x r c)
include hA hX

theorem rk1_apply (c : Fin 128) : (slab (valRk1 (F := Ideal) A X) g (ix3 0 0 c) : EReal) = mark (score 100 a x) 100 50 c := by
  have e : (slab (valRk1 (F := Ideal) A X) g (ix3 0 0 c) : EReal) = (ranks1 (F := Ideal) (stack fun g => rowS1 (slab A g) (slab X g))).2 (ix2 g c) := by
    show (valRk1 (F := Ideal) A X (ix3 g 0 c) : EReal) = _
    unfold valRk1
    generalize (ranks1 (F := Ideal) (stack fun g => rowS1 (slab A g) (slab X g))).2 = f
    pointwise [k1_pay125]
  rw [e]
  exact ranks1_apply _ score_nonneg g (fun c hc => rowS1_apply (slab A g) (slab X g) hA hX c hc) c

theorem xp1_apply (r : Fin 64) (c : Fin 128) : (valXp1 (F := Ideal) A X (ix3 g r c) : EReal) = padX 50 (poolX 100 a x) r c :=
  rowXp1_apply (slab (valRk1 A X) g) (slab X g) (rk1_apply hA hX) hX r c

theorem a1_apply (r c : Fin 64) : (valA1 (F := Ideal) A X (ix3 g r c) : EReal) = padA 50 (poolA 100 a x) r c :=
  rowA1_apply (slab (valRk1 A X) g) (slab A g) (rk1_apply hA hX) hA r c

theorem m2_apply (ha : ∀ i j, a i j = a j i) (r : Fin 64) (c : Fin 128) (hr : r.val < 50) :
    (valM2 (F := Ideal) A X (ix3 g r c) : EReal) = agg 50 (poolA 100 a x) (poolX 100 a x) r c := by
  rw [← agg_pad (a := poolA 100 a x) (N := 64) (by norm_num) (fun i j => ha _ _) hr]
  have eA : ∀ r c : Fin 64, (rowA1 (F := Ideal) (slab (valRk1 A X) g) (slab A g) (ix3 0 r c) : EReal) = _ := fun r c => a1_apply hA hX r c
  have eX : ∀ r : Fin 64, (rowXp1 (F := Ideal) (slab (valRk1 A X) g) (slab X g) (ix3 0 r c) : EReal) = _ := fun r => xp1_apply hA hX r c
  simp only [← eA, ← eX]
  exact rowM2_apply (slab (valRk1 A X) g) (slab A g) (slab X g) r c

theorem x2_apply (ha : ∀ i j, a i j = a j i) (w : S128x128.Idx → EReal) (b : S128.Idx → EReal) (r : Fin 64) (c : Fin 128) :
    (valX2 (F := Ideal) A X w (shapeCast S1x128 b shapeCasts_S128_S1x128) (ix3 g r c) : EReal) = padX 50 (lay 50 (poolA 100 a x) (poolX 100 a x) w b) r c := by
  refine (layer2_apply w _ _ g r c).trans ?_
  unfold padX
  by_cases h : r.val < 50
  · rw [if_pos h, if_pos h]
    have eb : (shapeCast S1x128 b shapeCasts_S128_S1x128 (ix2 0 c) : EReal) = b (ix1 c) := by pointwise
    unfold lay
    rw [eb]
    simp only [m2_apply hA hX ha r _ h]
  · rw [if_neg h, if_neg h]
end

section
variable {a : ℕ → ℕ → EReal} {x : ℕ → Fin 128 → EReal}
variable {A : Vec Ideal S100x64x64 .f32} {X : Vec Ideal S100x64x128 .f32} {g : Fin 100}
variable (hA : ∀ r c : Fin 64, (A (ix3 g r c) : EReal) = padA 50 a r c) (hX : ∀ (r : Fin 64) (c : Fin 128), (X (ix3 g r c) : EReal) = padX 50 x r c)
include hA hX

theorem rk2_apply (c : Fin 64) : (slab (valRk2 (F := Ideal) A X) g (ix3 0 0 c) : EReal) = mark (score 50 a x) 50 25 c := by
  have e : (slab (valRk2 (F := Ideal) A X) g (ix3 0 0 c) : EReal) = (ranks2 (F := Ideal) (stack fun g => rowS2 (slab A g) (slab X g))).2 (ix2 g c) := by
    show (valRk2 (F := Ideal) A X (ix3 g 0 c) : EReal) = _
    unfold valRk2
    generalize (ranks2 (F := Ideal) (stack fun g => rowS2 (slab A g) (slab X g))).2 = f
    pointwise [k1_pay135]
  rw [e]
  exact ranks2_apply _ score_nonneg g (fun c hc => rowS2_apply (slab A g) (slab X g) hA hX c hc) c

theorem xp2_apply (r : Fin 32) (c : Fin 128) : (valXp2 (F := Ideal) A X (ix3 g r c) : EReal) = padX 25 (poolX 50 a x) r c :=
  rowXp2_apply (slab (valRk2 A X) g) (slab X g) (rk2_apply hA hX) hX r c

theorem a2_apply (r c : Fin 32) : (rowA2 (F := Ideal) (slab (valRk2 A X) g) (slab A g) (ix3 0 r c) : EReal) = padA 25 (poolA 50 a x) r c :=
  rowA2_apply (slab (valRk2 A X) g) (slab A g) (rk2_apply hA hX) hA r c

theorem m3_apply (ha : ∀ i j, a i j = a j i) (r : Fin 32) (c : Fin 128) (hr : r.val < 25) :
    (valM3 (F := Ideal) A X (ix3 g r c) : EReal) = agg 25 (poolA 50 a x) (poolX 50 a x) r c := by
  rw [← agg_pad (a := poolA 50 a x) (N := 32) (by norm_num) (fun i j => ha _ _) hr]
  have eX : ∀ r : Fin 32, (rowXp2 (F := Ideal) (slab (valRk2 A X) g) (slab X g) (ix3 0 r c) : EReal) = _ := fun r => xp2_apply hA hX r c
  simp only [← a2_apply hA hX, ← eX]
  exact rowM3_apply (slab (valRk2 A X) g) (slab A g) (slab X g) r c

theorem x3_apply (ha : ∀ i j, a i j = a j i) (w : S128x128.Idx → EReal) (b : S128.Idx → EReal) (r : Fin 32) (c : Fin 128) :
    (valX3 (F := Ideal) A X w (shapeCast S1x128 b shapeCasts_S128_S1x128) (ix3 g r c) : EReal) = padX 25 (lay 25 (poolA 50 a x) (poolX 50 a x) w b) r c := by
  refine (layer3_apply w _ _ g r c).trans ?_
  unfold padX
  by_cases h : r.val < 25
  · rw [if_pos h, if_pos h]
    have eb : (shapeCast S1x128 b shapeCasts_S128_S1x128 (ix2 0 c) : EReal) = b (ix1 c) := by pointwise
    unfold lay
    rw [eb]
    simp only [m3_apply hA hX ha r _ h]
  · rw [if_neg h, if_neg h]
end

/-! ## The kernel's results -/

section
variable {src dst : S320000.Idx → BitVec 32} (hE : EdgesOK src dst) (x : S10000x128.Idx → EReal) (w w2 w3 : S128x128.Idx → EReal) (b b2 b3 : S128.Idx → EReal) (g : Fin 100)
include hE

theorem kA_pad (r c : Fin 128) : (kA src dst (ix3 g r c) : EReal) = padA 100 (adj src dst g) r c := by
  rw [kA_apply hE]
  unfold padA
  by_cases h : r.val < 100 ∧ c.val < 100
  · rw [if_pos h]
  · rw [if_neg h, adj_pad]; omega

/-- The first layer's result as the dense kernel keeps it. -/
abbrev kX1 (src dst : S320000.Idx → BitVec 32) (x : S10000x128.Idx → EReal) (w : S128x128.Idx → EReal) (b : S128.Idx → EReal) : Vec Ideal S100x128x128 .f32 :=
  valX1 (F := Ideal) (cutVal (outVal src dst 0)) (cutVal (outVal src dst 1)) (padVal x) w (shapeCast S1x128 b shapeCasts_S128_S1x128)

/-- And the second's. -/
abbrev kX2 (src dst : S320000.Idx → BitVec 32) (x : S10000x128.Idx → EReal) (w w2 : S128x128.Idx → EReal) (b b2 : S128.Idx → EReal) : Vec Ideal S100x64x128 .f32 :=
  valX2 (F := Ideal) (kA src dst) (kX1 src dst x w b) w2 (shapeCast S1x128 b2 shapeCasts_S128_S1x128)

theorem kX1_pad (r c : Fin 128) : (kX1 src dst x w b (ix3 g r c) : EReal) = padX 100 (lay1 src dst x w b g) r c := x1_apply hE x w b g r c

theorem kA1_pad (r c : Fin 64) : (valA1 (F := Ideal) (kA src dst) (kX1 src dst x w b) (ix3 g r c) : EReal) = padA 50 (A2 src dst x w b g) r c :=
  a1_apply (kA_pad hE g) (kX1_pad hE x w b g) r c

theorem kXp1_pad (r : Fin 64) (c : Fin 128) : (valXp1 (F := Ideal) (kA src dst) (kX1 src dst x w b) (ix3 g r c) : EReal) = padX 50 (P2 src dst x w b g) r c :=
  xp1_apply (kA_pad hE g) (kX1_pad hE x w b g) r c

theorem kX2_pad (r : Fin 64) (c : Fin 128) : (kX2 src dst x w w2 b b2 (ix3 g r c) : EReal) = padX 50 (L2 src dst x w w2 b b2 g) r c :=
  x2_apply (kA_pad hE g) (kX1_pad hE x w b g) (adj_comm src dst g) w2 b2 r c

theorem kXp2_pad (r : Fin 32) (c : Fin 128) : (valXp2 (F := Ideal) (valA1 (kA src dst) (kX1 src dst x w b)) (kX2 src dst x w w2 b b2) (ix3 g r c) : EReal)
    = padX 25 (P3 src dst x w w2 b b2 g) r c :=
  xp2_apply (kA1_pad hE x w b g) (kX2_pad hE x w w2 b b2 g) r c

theorem kX3_pad (r : Fin 32) (c : Fin 128) :
    (valX3 (F := Ideal) (valA1 (kA src dst) (kX1 src dst x w b)) (kX2 src dst x w w2 b b2) w3 (shapeCast S1x128 b3 shapeCasts_S128_S1x128) (ix3 g r c) : EReal)
      = padX 25 (L3 src dst x w w2 w3 b b2 b3 g) r c :=
  x3_apply (kA1_pad hE x w b g) (kX2_pad hE x w w2 b b2 g) (A2_comm src dst x w b g) w3 b3 r c

/-- The second layer's result, at node `i` of graph `g`. -/
theorem xs2Val_apply (i : Fin 50) (c : Fin 128) :
    xs2Val (F := Ideal) src dst x w b w2 b2 (ix2 (⟨g.val * 50 + i.val, by have := g.isLt; have := i.isLt; omega⟩ : Fin 5000) c) = L2 src dst x w w2 b b2 g i c := by
  have e : xs2Val (F := Ideal) src dst x w b w2 b2 (ix2 (⟨g.val * 50 + i.val, by have := g.isLt; have := i.isLt; omega⟩ : Fin 5000) c)
      = kX2 src dst x w w2 b b2 (ix3 g (⟨i.val, by have := i.isLt; omega⟩ : Fin 64) c) := by
    pointwise [xs2Val]
    rfl
  rw [e, kX2_pad hE]
  unfold padX
  rw [if_pos i.isLt]

/-- The third layer's. -/
theorem xs4Val_apply (i : Fin 25) (c : Fin 128) :
    xs4Val (F := Ideal) src dst x w b w2 b2 w3 b3 (ix2 (⟨g.val * 25 + i.val, by have := g.isLt; have := i.isLt; omega⟩ : Fin 2500) c) = L3 src dst x w w2 w3 b b2 b3 g i c := by
  have e : xs4Val (F := Ideal) src dst x w b w2 b2 w3 b3 (ix2 (⟨g.val * 25 + i.val, by have := g.isLt; have := i.isLt; omega⟩ : Fin 2500) c)
      = valX3 (F := Ideal) (valA1 (kA src dst) (kX1 src dst x w b)) (kX2 src dst x w w2 b b2) w3 (shapeCast S1x128 b3 shapeCasts_S128_S1x128)
        (ix3 g (⟨i.val, by have := i.isLt; omega⟩ : Fin 32) c) := by
    pointwise [xs4Val]
    rfl
  rw [e, kX3_pad hE]
  unfold padX
  rw [if_pos i.isLt]

/-- The summary of graph `g`. -/
theorem sumVal_apply (c : Fin 256) : sumVal (F := Ideal) src dst x w b w2 b2 w3 b3 (ix2 g c) = S3 src dst x w w2 w3 b b2 b3 g c := by
  have e : sumVal (F := Ideal) src dst x w b w2 b2 w3 b3 (ix2 g c)
      = rowSum (F := Ideal) (slab (valXp1 (kA src dst) (kX1 src dst x w b)) g) (slab (valXp2 (valA1 (kA src dst) (kX1 src dst x w b)) (kX2 src dst x w w2 b b2)) g)
        (slab (valX3 (valA1 (kA src dst) (kX1 src dst x w b)) (kX2 src dst x w w2 b b2) w3 (shapeCast S1x128 b3 shapeCasts_S128_S1x128)) g) (ix3 0 0 c) := by
    pointwise [sumVal]
    rfl
  rw [e, rowSum_apply]
  unfold S3
  rw [← readout_pad (n := 50) (N := 64) (by norm_num), ← readout_pad (n := 25) (N := 32) (by norm_num), ← readout_pad (n := 25) (N := 32) (by norm_num)]
  have e1 : ∀ (r : Fin 64) (c : Fin 128), (slab (valXp1 (F := Ideal) (kA src dst) (kX1 src dst x w b)) g (ix3 0 r c) : EReal) = _ := fun r c => kXp1_pad hE x w b g r c
  have e2 : ∀ (r : Fin 32) (c : Fin 128), (slab (valXp2 (F := Ideal) (valA1 (kA src dst) (kX1 src dst x w b)) (kX2 src dst x w w2 b b2)) g (ix3 0 r c) : EReal) = _ :=
    fun r c => kXp2_pad hE x w w2 b b2 g r c
  have e3 : ∀ (r : Fin 32) (c : Fin 128), (slab (valX3 (F := Ideal) (valA1 (kA src dst) (kX1 src dst x w b)) (kX2 src dst x w w2 b b2) w3 (shapeCast S1x128 b3 shapeCasts_S128_S1x128)) g (ix3 0 r c) : EReal) = _ :=
    fun r c => kX3_pad hE x w w2 w3 b b2 b3 g r c
  simp only [e1, e2, e3]
  unfold readout top mean
  by_cases h : c.val < 128
  · simp only [dif_pos h]
  · simp only [dif_neg h]
end

end Cert.Proof.Adj
end
-- ==== Proof.RefPool.lean ====
/-
  The reference's two poolings read at an element. Its sort by decreasing score, cut at the number to keep, lists the places picked; its
  gathers take their features, rows and columns; the layers and the summary are those of `Chain`.
-/
module

public import proofs.«01_k».proof.Proof.RefVal
public import proofs.«01_k».proof.Proof.Gather
public import proofs.«01_k».proof.Proof.Chain

@[expose] public section

set_option maxRecDepth 16384

noncomputable section

namespace Cert.Proof.Adj

open Cert.ReferenceIdeal Cert.ReferenceIdeal.Gen
open Idealize.ShloMosaic
open Idealize.ShloMosaic.ValueIdx hiding ix1 ix2 ix3 eq_ix1 eq_ix2 eq_ix3

/-! ## Index words -/

/-- A small index word is not wrapped. -/
theorem wrap_nat {p : ℕ} (m : BitVec 32) (hp : p < 2 ^ 31) :
    Scalar.select (IntOp.cmpi .slt (BitVec.ofNat 32 p) 0#32) (IntOp.addi (BitVec.ofNat 32 p) m) (BitVec.ofNat 32 p) = BitVec.ofNat 32 p := by
  rw [show IntOp.cmpi .slt (BitVec.ofNat 32 p) 0#32 = _ from slt_ofNat (b := 0) hp (by norm_num), if_neg (by omega)]
  rfl

/-- And it passes the test of its range. -/
theorem range_nat {p m : ℕ} (hm : m < 2 ^ 31) (hp : p ≤ m) :
    IntOp.andi (IntOp.cmpi .sge (BitVec.ofNat 32 p) 0#32) (IntOp.cmpi .sle (BitVec.ofNat 32 p) (BitVec.ofNat 32 m)) = 1#1 := by
  have h1 : IntOp.cmpi .sge (BitVec.ofNat 32 p) 0#32 = 1#1 := by
    show BitVec.ofBool ((0#32).sle (BitVec.ofNat 32 p)) = _
    rw [BitVec.sle_eq_decide, toInt_ofNat (k := p) (by omega), decide_eq_true (by simp)]; rfl
  have h2 : IntOp.cmpi .sle (BitVec.ofNat 32 p) (BitVec.ofNat 32 m) = 1#1 := by
    show BitVec.ofBool ((BitVec.ofNat 32 p).sle (BitVec.ofNat 32 m)) = _
    rw [BitVec.sle_eq_decide, toInt_ofNat (by omega), toInt_ofNat hm, decide_eq_true (by exact_mod_cast hp)]; rfl
  rw [h1, h2]; rfl

theorem fold_andi_one {ι : Type} {f : ι → BitVec 1} {t : Finset ι} (h : ∀ x ∈ t, f x = 1#1) : Finset.fold IntOp.andi 1#1 f t = 1#1 := by
  classical
  revert h
  refine Finset.induction_on t (fun _ => rfl) fun x t hx ih h => ?_
  rw [Finset.fold_insert hx, h x (Finset.mem_insert_self _ _), ih fun y hy => h y (Finset.mem_insert_of_mem hy)]
  rfl

theorem select_one {α : Type} (a b : α) : Scalar.select 1#1 a b = a := rfl

/-- The reference's one. -/
theorem one_word : id (constant (F := Ideal) S_ .f32 0x3F800000#32) Idealize.ShloMosaic.ix0 = (1 : EReal) := Ideal.ofBits_one_f32

theorem word_min {p N : ℕ} (hp : p < N) (hN : N < 2 ^ 31) : min (BitVec.ofNat 32 p).toInt.toNat (N - 1) = p := by
  rw [toInt_ofNat (by omega)]; simp; omega

theorem gather_rows_at {α : Type} {B N C R p : ℕ} (hN : N < 2 ^ 31) (hp : p < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ 32) (g : Fin B) (r : Fin R) (c : Fin C) (hi : idx (ix3 g r 0) = BitVec.ofNat 32 p) :
    Host.gather (rowDims B N C R wf) x idx (ix3 g r c) = x (ix3 g ⟨p, hp⟩ c) := by
  rw [gather_rows (by omega)]
  refine congrArg (fun q : Fin N => x (ix3 g q c)) (Fin.ext ?_)
  show min (idx (ix3 g r 0)).toInt.toNat (N - 1) = p
  rw [hi, word_min hp hN]

theorem gather_cols_at {α : Type} {B N C R p : ℕ} (hN : N < 2 ^ 31) (hp : p < N)
    (wf : GatherDims.WF ⟨3, ![B, C, N]⟩ ⟨3, ![B, R, 1]⟩ ⟨3, ![B, C, R]⟩ [1] [2] [0] [2] [0] 2 ![1, C, 1])
    (x : (⟨3, ![B, C, N]⟩ : Shape).Idx → α) (idx : IVec ⟨3, ![B, R, 1]⟩ 32) (g : Fin B) (c : Fin C) (r : Fin R) (hi : idx (ix3 g r 0) = BitVec.ofNat 32 p) :
    Host.gather (colDims B N C R wf) x idx (ix3 g c r) = x (ix3 g c ⟨p, hp⟩) := by
  rw [gather_cols (by omega)]
  refine congrArg (fun q : Fin N => x (ix3 g c q)) (Fin.ext ?_)
  show min (idx (ix3 g r 0)).toInt.toNat (N - 1) = p
  rw [hi, word_min hp hN]

/-! ## The first layer and the first pooling -/

variable (V0 : Valuation τ sig (Elt Ideal))

/-- The features, the weights and the biases. -/
abbrev rX : S10000x128.Idx → EReal := V0 (Proc.devRef .tc main_arg0)
abbrev rW : S128x128.Idx → EReal := V0 (Proc.devRef .tc main_arg3)
abbrev rB : S128.Idx → EReal := V0 (Proc.devRef .tc main_arg4)
abbrev rW2 : S128x128.Idx → EReal := V0 (Proc.devRef .tc main_arg5)
abbrev rB2 : S128.Idx → EReal := V0 (Proc.devRef .tc main_arg6)
abbrev rW3 : S128x128.Idx → EReal := V0 (Proc.devRef .tc main_arg7)
abbrev rB3 : S128.Idx → EReal := V0 (Proc.devRef .tc main_arg8)

/-- The chain of `Chain` at them. -/
abbrev rL1 (g : Fin 100) : ℕ → Fin 128 → EReal := lay1 (rS V0) (rD V0) (rX V0) (rW V0) (rB V0) g
abbrev rA2 (g : Fin 100) : ℕ → ℕ → EReal := A2 (rS V0) (rD V0) (rX V0) (rW V0) (rB V0) g
abbrev rP2 (g : Fin 100) : ℕ → Fin 128 → EReal := P2 (rS V0) (rD V0) (rX V0) (rW V0) (rB V0) g
abbrev rL2 (g : Fin 100) : ℕ → Fin 128 → EReal := L2 (rS V0) (rD V0) (rX V0) (rW V0) (rW2 V0) (rB V0) (rB2 V0) g
abbrev rA3 (g : Fin 100) : ℕ → ℕ → EReal := A3 (rS V0) (rD V0) (rX V0) (rW V0) (rW2 V0) (rB V0) (rB2 V0) g
abbrev rP3 (g : Fin 100) : ℕ → Fin 128 → EReal := P3 (rS V0) (rD V0) (rX V0) (rW V0) (rW2 V0) (rB V0) (rB2 V0) g
abbrev rL3 (g : Fin 100) : ℕ → Fin 128 → EReal := L3 (rS V0) (rD V0) (rX V0) (rW V0) (rW2 V0) (rW3 V0) (rB V0) (rB2 V0) (rB3 V0) g

/-- The places in order of their scores, at each pooling. -/
abbrev ord1 (g : Fin 100) (j : ℕ) : ℕ := pick (score 100 (adj (rS V0) (rD V0) g) (rL1 V0 g)) 100 j
abbrev ord2 (g : Fin 100) (j : ℕ) : ℕ := pick (score 50 (rA2 V0 g) (rL2 V0 g)) 50 j

/-- The second pooling's adjacency as the reference writes it. -/
def refA3 : FVec Ideal S100x25x25 .f32 :=
  Host.gather gather_S100x25x50_S100x25x1_S100x25x25_1_2_0_0_2_2_1251 (Host.gather gather_S100x50x50_S100x25x1_S100x25x50_2_1_0_0_1_2_1150 (Value.res_main_v85 (F := Ideal) V0)
    (broadcastInDim S100x25x1 ![0, 1] bcast_S100x25_S100x25x1_0_1 (select (cmpi .slt (Value.res_main_indices_31 (F := Ideal) V0) (broadcastInDim S100x25 ![] bcast_S_S100x25 (constantI S_ 32 0#32)))
      (addi (Value.res_main_indices_31 (F := Ideal) V0) (broadcastInDim S100x25 ![] bcast_S_S100x25 (constantI S_ 32 50#32))) (Value.res_main_indices_31 (F := Ideal) V0))))
    (broadcastInDim S100x25x1 ![0, 1] bcast_S100x25_S100x25x1_0_1 (select (cmpi .slt (Value.res_main_indices_31 (F := Ideal) V0) (broadcastInDim S100x25 ![] bcast_S_S100x25 (constantI S_ 32 0#32)))
      (addi (Value.res_main_indices_31 (F := Ideal) V0) (broadcastInDim S100x25 ![] bcast_S_S100x25 (constantI S_ 32 50#32))) (Value.res_main_indices_31 (F := Ideal) V0)))

variable {V0} (hE : EdgesOK (rS V0) (rD V0))
include hE

theorem v32_apply (g s t : Fin 100) : (Value.res_main_v32 (F := Ideal) V0 (ix3 g s t) : EReal) = adj (rS V0) (rD V0) g s t := by
  rw [← refAdj_apply hE, res_adj]

theorem v59_apply (g i : Fin 100) (c : Fin 128) : (Value.res_main_v59 (F := Ideal) V0 (ix3 g i c) : EReal) = rL1 V0 g i c := by
  unfold rL1 lay1 agg1 nadj
  simp only [← refLoop_apply hE, ← refFac_apply hE, ← res_loop, ← res_fac]
  pointwise [Value.res_main_v59]

theorem v69_apply (g c : Fin 100) : (Value.res_main_v69 (F := Ideal) V0 (ix2 g c) : EReal) = score 100 (adj (rS V0) (rD V0) g) (rL1 V0 g) c := by
  unfold score
  simp only [← v59_apply hE, ← v32_apply hE]
  pointwise [Value.res_main_v69]
  simp only [one_word]

theorem indices_apply (g : Fin 100) (r : Fin 50) : Value.res_main_indices (F := Ideal) V0 (ix2 g r) = BitVec.ofNat 32 (ord1 V0 g r) := by
  unfold Value.res_main_indices
  exact topK_apply (B := 100) (N := 100) (K := 50) (Value.res_main_v69 (F := Ideal) V0) _ (by norm_num) _ g (fun c => v69_apply hE g c) r

theorem ord1_lt (g : Fin 100) (r : Fin 50) : ord1 V0 g r < 100 := pick_lt (by omega)

theorem call6_apply (i : S100x50x1.Idx) : Value.res_main_call6_v4 (F := Ideal) V0 i = BitVec.ofNat 32 (ord1 V0 (i 0) (i 1).val) := by
  have e : Value.res_main_call6_v4 (F := Ideal) V0 i = Scalar.select (IntOp.cmpi .slt (Value.res_main_indices (F := Ideal) V0 (ix2 (i 0) (i 1))) 0#32)
      (IntOp.addi (Value.res_main_indices (F := Ideal) V0 (ix2 (i 0) (i 1))) 100#32) (Value.res_main_indices (F := Ideal) V0 (ix2 (i 0) (i 1))) := by
    pointwise [Value.res_main_call6_v4, Value.res_main_v70]
  have l := ord1_lt hE (i 0) (i 1)
  rw [e, indices_apply hE (i 0) (i 1), wrap_nat _ (by omega)]

theorem v71_apply (g : Fin 100) (r : Fin 50) (c : Fin 128) : (Value.res_main_v71 (F := Ideal) V0 (ix3 g r c) : EReal) = rP2 V0 g r c := by
  pointwise [Value.res_main_v71]
  rw [fold_andi_one, select_one]
  · refine (gather_rows_at (B := 100) (N := 100) (C := 128) (R := 50) (by norm_num) (ord1_lt hE g r) _ _ _ g r c (call6_apply hE _)).trans ?_
    exact v59_apply hE g ⟨ord1 V0 g r, ord1_lt hE g r⟩ c
  · intro i _
    have l := ord1_lt hE (i 0) (i 1)
    rw [call6_apply hE]
    exact range_nat (m := 99) (by norm_num) (by omega)

theorem col1_apply (g : Fin 100) (r : Fin 50) :
    broadcastInDim S100x50x1 ![0, 1] bcast_S100x50_S100x50x1_0_1 (select (cmpi .slt (Value.res_main_indices (F := Ideal) V0) (broadcastInDim S100x50 ![] bcast_S_S100x50 (constantI S_ 32 0#32)))
      (addi (Value.res_main_indices (F := Ideal) V0) (broadcastInDim S100x50 ![] bcast_S_S100x50 (constantI S_ 32 100#32))) (Value.res_main_indices (F := Ideal) V0)) (ix3 g r 0)
      = BitVec.ofNat 32 (ord1 V0 g r) := by
  have l := ord1_lt hE g r
  rw [← wrap_nat (p := ord1 V0 g r) 100#32 (by omega), ← indices_apply hE]
  pointwise

theorem v85_apply (g : Fin 100) (r c : Fin 50) : (Value.res_main_v85 (F := Ideal) V0 (ix3 g r c) : EReal) = rA2 V0 g r c := by
  unfold Value.res_main_v85
  refine (gather_cols_at (B := 100) (N := 100) (C := 50) (R := 50) (by norm_num) (ord1_lt hE g c) _ _ _ g r c (col1_apply hE g c)).trans ?_
  refine (gather_rows_at (B := 100) (N := 100) (C := 100) (R := 50) (by norm_num) (ord1_lt hE g r) _ _ _ g r _ (col1_apply hE g r)).trans ?_
  exact v32_apply hE g ⟨ord1 V0 g r, ord1_lt hE g r⟩ ⟨ord1 V0 g c, ord1_lt hE g c⟩

theorem v100_apply (g : Fin 100) (r c : Fin 50) : (Value.res_main_v100 (F := Ideal) V0 (ix3 g r c) : EReal) = rA2 V0 g r c + eye r c := by
  rw [← v85_apply hE, ← uitofp_eye (r := r.val) (c := c.val) (by have := r.isLt; omega) (by have := c.isLt; omega)]
  pointwise [Value.res_main_v100]

theorem v105_apply (g : Fin 100) (r : Fin 50) : (Value.res_main_v105 (F := Ideal) V0 (ix2 g r) : EReal) = nrm (∑ y : Fin 50, (rA2 V0 g r y + eye r y)) := by
  unfold nrm
  simp only [← v100_apply hE]
  pointwise [Value.res_main_v105]
  rfl

theorem v117_apply (g : Fin 100) (r : Fin 50) (c : Fin 128) : (Value.res_main_v117 (F := Ideal) V0 (ix3 g r c) : EReal) = rL2 V0 g r c := by
  unfold rL2 L2 lay agg
  simp only [← v105_apply hE]
  simp only [← v100_apply hE, ← v71_apply hE]
  pointwise [Value.res_main_v117]

/-! ## The second pooling -/

theorem v130_apply (g : Fin 100) (c : Fin 50) : (Value.res_main_v130 (F := Ideal) V0 (ix2 g c) : EReal) = score 50 (rA2 V0 g) (rL2 V0 g) c := by
  unfold score
  simp only [← v117_apply hE, ← v85_apply hE]
  pointwise [Value.res_main_v130]
  simp only [one_word]

theorem indices31_apply (g : Fin 100) (r : Fin 25) : Value.res_main_indices_31 (F := Ideal) V0 (ix2 g r) = BitVec.ofNat 32 (ord2 V0 g r) := by
  unfold Value.res_main_indices_31
  exact topK_apply (B := 100) (N := 50) (K := 25) (Value.res_main_v130 (F := Ideal) V0) _ (by norm_num) _ g (fun c => v130_apply hE g c) r

theorem ord2_lt (g : Fin 100) (r : Fin 25) : ord2 V0 g r < 50 := pick_lt (by omega)

theorem call10_apply (i : S100x25x1.Idx) : Value.res_main_call10_v4 (F := Ideal) V0 i = BitVec.ofNat 32 (ord2 V0 (i 0) (i 1).val) := by
  have e : Value.res_main_call10_v4 (F := Ideal) V0 i = Scalar.select (IntOp.cmpi .slt (Value.res_main_indices_31 (F := Ideal) V0 (ix2 (i 0) (i 1))) 0#32)
      (IntOp.addi (Value.res_main_indices_31 (F := Ideal) V0 (ix2 (i 0) (i 1))) 50#32) (Value.res_main_indices_31 (F := Ideal) V0 (ix2 (i 0) (i 1))) := by
    pointwise [Value.res_main_call10_v4, Value.res_main_v131]
  have l := ord2_lt hE (i 0) (i 1)
  rw [e, indices31_apply hE (i 0) (i 1), wrap_nat _ (by omega)]

theorem v132_apply (g : Fin 100) (r : Fin 25) (c : Fin 128) : (Value.res_main_v132 (F := Ideal) V0 (ix3 g r c) : EReal) = rP3 V0 g r c := by
  pointwise [Value.res_main_v132]
  rw [fold_andi_one, select_one]
  · refine (gather_rows_at (B := 100) (N := 50) (C := 128) (R := 25) (by norm_num) (ord2_lt hE g r) _ _ _ g r c (call10_apply hE _)).trans ?_
    exact v117_apply hE g ⟨ord2 V0 g r, ord2_lt hE g r⟩ c
  · intro i _
    have l := ord2_lt hE (i 0) (i 1)
    rw [call10_apply hE]
    exact range_nat (m := 49) (by norm_num) (by omega)

theorem col2_apply (g : Fin 100) (r : Fin 25) :
    broadcastInDim S100x25x1 ![0, 1] bcast_S100x25_S100x25x1_0_1 (select (cmpi .slt (Value.res_main_indices_31 (F := Ideal) V0) (broadcastInDim S100x25 ![] bcast_S_S100x25 (constantI S_ 32 0#32)))
      (addi (Value.res_main_indices_31 (F := Ideal) V0) (broadcastInDim S100x25 ![] bcast_S_S100x25 (constantI S_ 32 50#32))) (Value.res_main_indices_31 (F := Ideal) V0)) (ix3 g r 0)
      = BitVec.ofNat 32 (ord2 V0 g r) := by
  have l := ord2_lt hE g r
  rw [← wrap_nat (p := ord2 V0 g r) 50#32 (by omega), ← indices31_apply hE]
  pointwise

omit hE in
theorem v161_eq : Value.res_main_v161 (F := Ideal) V0 = addf (refA3 V0) (broadcastInDim S100x25x25 ![0, 1, 2] bcast_S1x25x25_S100x25x25_0_1_2
    (broadcastInDim S1x25x25 ![1, 2] bcast_S25x25_S1x25x25_1_2 (uitofp .f32 (cmpi .eq (addi (iotaInDim S25x25 32 0) (broadcastInDim S25x25 ![] bcast_S_S25x25 (constantI S_ 32 0#32)))
      (iotaInDim S25x25 32 1))))) := by
  unfold Value.res_main_v161 refA3
  rfl

theorem refA3_apply (g : Fin 100) (r c : Fin 25) : (refA3 V0 (ix3 g r c) : EReal) = rA3 V0 g r c := by
  unfold refA3
  refine (gather_cols_at (B := 100) (N := 50) (C := 25) (R := 25) (by norm_num) (ord2_lt hE g c) _ _ _ g r c (col2_apply hE g c)).trans ?_
  refine (gather_rows_at (B := 100) (N := 50) (C := 50) (R := 25) (by norm_num) (ord2_lt hE g r) _ _ _ g r _ (col2_apply hE g r)).trans ?_
  exact v85_apply hE g ⟨ord2 V0 g r, ord2_lt hE g r⟩ ⟨ord2 V0 g c, ord2_lt hE g c⟩

theorem v161_apply (g : Fin 100) (r c : Fin 25) : (Value.res_main_v161 (F := Ideal) V0 (ix3 g r c) : EReal) = rA3 V0 g r c + eye r c := by
  rw [← refA3_apply hE, ← uitofp_eye (r := r.val) (c := c.val) (by have := r.isLt; omega) (by have := c.isLt; omega), v161_eq]
  pointwise

theorem v166_apply (g : Fin 100) (r : Fin 25) : (Value.res_main_v166 (F := Ideal) V0 (ix2 g r) : EReal) = nrm (∑ y : Fin 25, (rA3 V0 g r y + eye r y)) := by
  unfold nrm
  simp only [← v161_apply hE]
  pointwise [Value.res_main_v166]
  rfl

theorem v178_apply (g : Fin 100) (r : Fin 25) (c : Fin 128) : (Value.res_main_v178 (F := Ideal) V0 (ix3 g r c) : EReal) = rL3 V0 g r c := by
  unfold rL3 L3 lay agg
  simp only [← v166_apply hE]
  simp only [← v161_apply hE, ← v132_apply hE]
  pointwise [Value.res_main_v178]

end Cert.Proof.Adj
end
-- ==== Proof.RefSum.lean ====
/-
  The reference's results as the kernel's: the second and third layers and the summary.
-/
module

public import proofs.«01_k».proof.Proof.RefPool

@[expose] public section

set_option maxRecDepth 16384

noncomputable section

namespace Cert.Proof.Adj

open Cert.ReferenceIdeal Cert.ReferenceIdeal.Gen
open Idealize.ShloMosaic
open Idealize.ShloMosaic.ValueIdx hiding ix0 ix1 ix2 ix3 eq_ix1 eq_ix2 eq_ix3

/-- Two matrices over the nodes of a hundred graphs, `n` to a graph, are equal where they agree node by node. -/
theorem node_ext {n N : ℕ} (hN : N = 100 * n) (f h : (⟨2, ![N, 128]⟩ : Shape).Idx → EReal)
    (e : ∀ (g : Fin 100) (i : Fin n) (c : Fin 128) (hl : g.val * n + i.val < N), f (ix2 ⟨g.val * n + i.val, hl⟩ c) = h (ix2 ⟨g.val * n + i.val, hl⟩ c)) : f = h := by
  funext j
  have hj : (j 0).val < N := (j 0).isLt
  have hn : 0 < n := by
    rcases Nat.eq_zero_or_pos n with h | h
    · subst h; omega
    · exact h
  have hd : (j 0).val / n < 100 := by rw [Nat.div_lt_iff_lt_mul hn]; omega
  have hs : (j 0).val / n * n + (j 0).val % n = (j 0).val := Nat.div_add_mod' _ _
  have ej : j = ix2 (⟨(⟨(j 0).val / n, hd⟩ : Fin 100).val * n + (⟨(j 0).val % n, Nat.mod_lt _ hn⟩ : Fin n).val, by show (j 0).val / n * n + (j 0).val % n < N; omega⟩ : Fin N) (j 1) :=
    (eq_ix2 (n0 := N) (n1 := 128) j).trans (congrArg (fun a : Fin N => ix2 a (j 1)) (Fin.ext hs.symm))
  rw [ej]
  exact e _ _ _ _

variable {V0 : Valuation τ sig (Elt Ideal)} (hE : EdgesOK (rS V0) (rD V0))

/-- A graph's readout of fifty rows as the reference writes it. -/
def refOut50 (X : FVec Ideal S100x50x128 .f32) : FVec Ideal S100x256 .f32 :=
  maximumf (concatenate S100x256 1 [⟨S100x128, (Host.reduce FloatOps.maximumf X (constant S_ .f32 0xFF800000#32) reducesTo_S100x50x128_S100x128_d1 h_S_)⟩,
        ⟨S100x128, (Host.divf (Host.reduceAdd X (constant S_ .f32 0x00000000#32) reducesTo_S100x50x128_S100x128_d1 h_S_)
          (broadcastInDim S100x128 ![] bcast_S_S100x128 (constant S_ .f32 0x42480000#32)))⟩] concatenates_S100x128_S100x128_S100x256_d1)
      (broadcastInDim S100x256 ![] bcast_S_S100x256 (constant S_ .f32 0x00000000#32))

/-- A graph's readout of twenty-five rows as the reference writes it. -/
def refOut25 (X : FVec Ideal S100x25x128 .f32) : FVec Ideal S100x256 .f32 :=
  maximumf (concatenate S100x256 1 [⟨S100x128, (Host.reduce FloatOps.maximumf X (constant S_ .f32 0xFF800000#32) reducesTo_S100x25x128_S100x128_d1 h_S_)⟩,
        ⟨S100x128, (Host.divf (Host.reduceAdd X (constant S_ .f32 0x00000000#32) reducesTo_S100x25x128_S100x128_d1 h_S_)
          (broadcastInDim S100x128 ![] bcast_S_S100x128 (constant S_ .f32 0x41C80000#32)))⟩] concatenates_S100x128_S100x128_S100x256_d1)
      (broadcastInDim S100x256 ![] bcast_S_S100x256 (constant S_ .f32 0x00000000#32))

include hE

theorem res_xs : shapeCast S10000x128 (Value.res_main_v59 (F := Ideal) V0) shapeCasts_S100x100x128_S10000x128
    = xsVal (F := Ideal) (rS V0) (rD V0) (rX V0) (rW V0) (rB V0) := by
  refine node_ext (n := 100) (N := 10000) rfl _ _ fun g i c hl => ?_
  rw [xsVal_apply hE]
  refine Eq.trans ?_ (v59_apply hE g i c)
  generalize Value.res_main_v59 (F := Ideal) V0 = f
  pointwise

theorem res_xs2 : shapeCast S5000x128 (Value.res_main_v117 (F := Ideal) V0) shapeCasts_S100x50x128_S5000x128
    = xs2Val (F := Ideal) (rS V0) (rD V0) (rX V0) (rW V0) (rB V0) (rW2 V0) (rB2 V0) := by
  refine node_ext (n := 50) (N := 5000) rfl _ _ fun g i c hl => ?_
  rw [xs2Val_apply hE]
  refine Eq.trans ?_ (v117_apply hE g i c)
  generalize Value.res_main_v117 (F := Ideal) V0 = f
  pointwise

theorem res_xs4 : shapeCast S2500x128 (Value.res_main_v178 (F := Ideal) V0) shapeCasts_S100x25x128_S2500x128
    = xs4Val (F := Ideal) (rS V0) (rD V0) (rX V0) (rW V0) (rB V0) (rW2 V0) (rB2 V0) (rW3 V0) (rB3 V0) := by
  refine node_ext (n := 25) (N := 2500) rfl _ _ fun g i c hl => ?_
  rw [xs4Val_apply hE]
  refine Eq.trans ?_ (v178_apply hE g i c)
  generalize Value.res_main_v178 (F := Ideal) V0 = f
  pointwise

omit hE in
theorem readout50_apply (X : FVec Ideal S100x50x128 .f32) (x : ℕ → Fin 128 → EReal) (g : Fin 100) (hX : ∀ (r : Fin 50) (c : Fin 128), (X (ix3 g r c) : EReal) = x r c) (c : Fin 256) :
    (refOut50 X (ix2 g c) : EReal)
      = readout 50 (Ideal.ofBits .f32 0x42480000#32) x c := by
  unfold readout top mean
  simp only [← hX]
  by_cases h : c.val < 128
  · rw [dif_pos h]
    pointwise [refOut50]
    rw [dif_pos h]
  · rw [dif_neg h]
    pointwise [refOut50]
    rw [dif_neg h]

omit hE in
theorem readout25_apply (X : FVec Ideal S100x25x128 .f32) (x : ℕ → Fin 128 → EReal) (g : Fin 100) (hX : ∀ (r : Fin 25) (c : Fin 128), (X (ix3 g r c) : EReal) = x r c) (c : Fin 256) :
    (refOut25 X (ix2 g c) : EReal)
      = readout 25 (Ideal.ofBits .f32 0x41C80000#32) x c := by
  unfold readout top mean
  simp only [← hX]
  by_cases h : c.val < 128
  · rw [dif_pos h]
    pointwise [refOut25]
    rw [dif_pos h]
  · rw [dif_neg h]
    pointwise [refOut25]
    rw [dif_neg h]

theorem res_sum : addf (addf (refOut50 (Value.res_main_v71 (F := Ideal) V0)) (refOut25 (Value.res_main_v132 (F := Ideal) V0))) (refOut25 (Value.res_main_v178 (F := Ideal) V0))
    = sumVal (F := Ideal) (rS V0) (rD V0) (rX V0) (rW V0) (rB V0) (rW2 V0) (rB2 V0) (rW3 V0) (rB3 V0) := by
  funext j
  obtain ⟨g, c, rfl⟩ : ∃ (g : Fin 100) (c : Fin 256), j = ix2 g c := ⟨j 0, j 1, eq_ix2 (n0 := 100) (n1 := 256) j⟩
  rw [sumVal_apply hE]
  unfold S3
  rw [← readout50_apply (Value.res_main_v71 (F := Ideal) V0) _ g (v71_apply hE g), ← readout25_apply (Value.res_main_v132 (F := Ideal) V0) _ g (v132_apply hE g),
    ← readout25_apply (Value.res_main_v178 (F := Ideal) V0) _ g (v178_apply hE g)]
  rfl

end Cert.Proof.Adj
end
-- ==== Proof.Same.lean ====
/-
  The kernel's program and its idealization's are one program, printed twice: no rewrite was made. The tables of bodies are compared
  label by label.
-/
module

public import proofs.«01_k».proof.Proof.Gen.Kernel.Skeleton
public import proofs.«01_k».proof.Proof.Gen.KernelIdeal.Skeleton

@[expose] public section

set_option maxRecDepth 16384

noncomputable section

namespace Cert.Proof
open Idealize.ShloMosaic
variable {F : FTy → Type} [FloatOps F]
attribute [local instance] Cert.Kernel.Gen.facts Cert.KernelIdeal.Gen.facts

/-- The dense kernel's body, and what the TensorCore has under the other call's label. -/
theorem tc_one (a) : Cert.Kernel.defs₀ (F := F) .tc 1 a = Cert.KernelIdeal.defs₀ (F := F) .tc 1 a := rfl
theorem tc_zero (a) : Cert.Kernel.defs₀ (F := F) .tc 0 a = Cert.KernelIdeal.defs₀ (F := F) .tc 0 a := rfl

/-- The same of a vector subcore, whose body is the counting kernel's. -/
theorem vec_zero (c s) (a) : Cert.Kernel.defs₀ (F := F) (.scVector c s) 0 a = Cert.KernelIdeal.defs₀ (F := F) (.scVector c s) 0 a := rfl
theorem vec_one (c s) (a) : Cert.Kernel.defs₀ (F := F) (.scVector c s) 1 a = Cert.KernelIdeal.defs₀ (F := F) (.scVector c s) 1 a := rfl

theorem scal_any (c) (l) (a) : Cert.Kernel.defs₀ (F := F) (.scScalar c) l a = Cert.KernelIdeal.defs₀ (F := F) (.scScalar c) l a := rfl

theorem defs₀_eq : Cert.Kernel.defs₀ (F := F) = Cert.KernelIdeal.defs₀ (F := F) := by
  funext p l a
  match p, l, a with
  | .tc, 0, a => exact tc_zero a
  | .tc, 1, a => exact tc_one a
  | .scVector c s, 0, a => exact vec_zero c s a
  | .scVector c s, 1, a => exact vec_one c s a
  | .scScalar c, l, a => exact scal_any c l a

theorem defs_eq : Cert.Kernel.defs (F := F) = Cert.KernelIdeal.defs (F := F) :=
  congrArg (fun d => Cert.KernelIdeal.sc.defs (Pipeline.defs Cert.KernelIdeal.pcfgs d)) defs₀_eq

set_option maxHeartbeats 4000000 in
theorem threads_eq : Cert.Kernel.threads (F := F) = Cert.KernelIdeal.threads (F := F) := rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_edges_in_graphs
public import proofs.«01_k».proof.Proof.RefSum
public import proofs.«01_k».proof.Proof.Same
public import proofs.«01_k».proof.Proof.Region
public import proofs.«01_k».proof.Proof.Gen.KernelIdeal.Launch
public import proofs.«01_k».proof.Proof.Gen.KernelIdeal.Points
public import Idealize.ShloMosaic.Adequacy
public import Idealize.ShloMosaic.Init

@[expose] public section

noncomputable section

namespace Cert.Proof

open Idealize.ShloMosaic Idealize.SL.Sem Cert.Kernel

/-- What holds of each argument, argument by argument. -/
theorem nine {p : Fin 9 → Prop} (h : ∀ a, p a) : p 0 ∧ p 1 ∧ p 2 ∧ p 3 ∧ p 4 ∧ p 5 ∧ p 6 ∧ p 7 ∧ p 8 :=
  ⟨h 0, h 1, h 2, h 3, h 4, h 5, h 6, h 7, h 8⟩

/-- Over any float instance the kernel runs to the end from edges inside their graphs, its arguments unchanged and every counter zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hE : ∀ d, Adj.EdgesOK (Adj.sAt m d) (Adj.dAt m d)) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0 :=
  (θ_run Cert.KernelIdeal.defs _ _).mono (fun _ h => ⟨fun c => nine (h.1 c).1, h.2⟩) (Adj.run_main (F := F) m ρ hE)

/-- The kernel, at its float words. -/
theorem frame_kernel : Cert.quiescent_Kernel := fun m ρ hp => by
  have h := frame_any (F := Bits) m ρ fun d => Adj.edges_ok (F := Bits) _ _ _ _ _ _ _ _ _ (hp d)
  rw [defs_eq, threads_eq]
  exact h

/-- The kernel read at the ideal instance. -/
theorem frame_kernelIdeal : Cert.quiescent_KernelIdeal := fun m ρ hp =>
  frame_any (F := Ideal) m ρ fun d => Adj.edges_ok (F := Ideal) _ _ _ _ _ _ _ _ _ (hp d)

/-- The reference runs to the end from any argument. -/
theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- So it does from edges inside their graphs. -/
theorem frame_reference_pre : Cert.quiescent_ReferenceIdeal_pre_edges_in_graphs := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- From edges inside their graphs, the idealized kernel and the reference end with equal results: each graph's summary, the node features
    after each layer, the graph of every node, and the graph of every node kept by each pooling. -/
theorem algebraic : Cert.algebraic_KernelIdeal_ReferenceIdeal := by
  intro m ρ m' ρ' hp hagree
  have hE : ∀ d, Adj.EdgesOK (Adj.sAt m d) (Adj.dAt m d) := fun d => Adj.edges_ok (F := Ideal) _ _ _ _ _ _ _ _ _ (hp d)
  refine ⟨fun c => Adj.sumVal (F := Ideal) (Adj.sAt m c) (Adj.dAt m c) (m (Adj.at_ c Cert.KernelIdeal.main_arg0)) (m (Adj.at_ c Cert.KernelIdeal.main_arg3))
        (m (Adj.at_ c Cert.KernelIdeal.main_arg4)) (m (Adj.at_ c Cert.KernelIdeal.main_arg5)) (m (Adj.at_ c Cert.KernelIdeal.main_arg6))
        (m (Adj.at_ c Cert.KernelIdeal.main_arg7)) (m (Adj.at_ c Cert.KernelIdeal.main_arg8)),
      fun c => Adj.xsVal (F := Ideal) (Adj.sAt m c) (Adj.dAt m c) (m (Adj.at_ c Cert.KernelIdeal.main_arg0)) (m (Adj.at_ c Cert.KernelIdeal.main_arg3))
        (m (Adj.at_ c Cert.KernelIdeal.main_arg4)),
      fun c => Adj.xs2Val (F := Ideal) (Adj.sAt m c) (Adj.dAt m c) (m (Adj.at_ c Cert.KernelIdeal.main_arg0)) (m (Adj.at_ c Cert.KernelIdeal.main_arg3))
        (m (Adj.at_ c Cert.KernelIdeal.main_arg4)) (m (Adj.at_ c Cert.KernelIdeal.main_arg5)) (m (Adj.at_ c Cert.KernelIdeal.main_arg6)),
      fun c => Adj.xs4Val (F := Ideal) (Adj.sAt m c) (Adj.dAt m c) (m (Adj.at_ c Cert.KernelIdeal.main_arg0)) (m (Adj.at_ c Cert.KernelIdeal.main_arg3))
        (m (Adj.at_ c Cert.KernelIdeal.main_arg4)) (m (Adj.at_ c Cert.KernelIdeal.main_arg5)) (m (Adj.at_ c Cert.KernelIdeal.main_arg6))
        (m (Adj.at_ c Cert.KernelIdeal.main_arg7)) (m (Adj.at_ c Cert.KernelIdeal.main_arg8)),
      fun c => m (Adj.at_ c Cert.KernelIdeal.main_arg2), fun _ => Adj.ids2, fun _ => Adj.ids4, ?_, ?_⟩
  · refine (θ_run Cert.KernelIdeal.defs _ _).mono (fun _ h c => ?_) (Adj.run_main (F := Ideal) m ρ hE)
    obtain ⟨args, r1, r2, r3, i2, i4, su⟩ := h.1 c
    exact ⟨su, r1, r2, r3, args 2, i2, i4, nine args⟩
  · refine (θ_run Cert.ReferenceIdeal.defs _ _).mono (fun _ h c => ?_) (Cert.ReferenceIdeal.Value.run (F := Ideal) m' ρ')
    obtain ⟨su, r1, r2, r3, b0, i2, i4, args⟩ := h c
    obtain ⟨e0, e1, e2, e3, e4, e5, e6, e7, e8⟩ := hagree c
    have k : Adj.EdgesOK (Adj.rS (StableHlo.launchContents m' c)) (Adj.rD (StableHlo.launchContents m' c)) := by
      unfold Adj.rS Adj.rD
      rw [show StableHlo.launchContents m' c (Proc.devRef .tc Cert.ReferenceIdeal.main_arg1) = m (Adj.at_ c Cert.KernelIdeal.main_arg1) from e1]
      exact hE c
    have q0 : Adj.rX (StableHlo.launchContents m' c) = m (Adj.at_ c Cert.KernelIdeal.main_arg0) := e0
    have q3 : Adj.rW (StableHlo.launchContents m' c) = m (Adj.at_ c Cert.KernelIdeal.main_arg3) := e3
    have q4 : Adj.rB (StableHlo.launchContents m' c) = m (Adj.at_ c Cert.KernelIdeal.main_arg4) := e4
    have q5 : Adj.rW2 (StableHlo.launchContents m' c) = m (Adj.at_ c Cert.KernelIdeal.main_arg5) := e5
    have q6 : Adj.rB2 (StableHlo.launchContents m' c) = m (Adj.at_ c Cert.KernelIdeal.main_arg6) := e6
    have q7 : Adj.rW3 (StableHlo.launchContents m' c) = m (Adj.at_ c Cert.KernelIdeal.main_arg7) := e7
    have q8 : Adj.rB3 (StableHlo.launchContents m' c) = m (Adj.at_ c Cert.KernelIdeal.main_arg8) := e8
    have qS : Adj.rS (StableHlo.launchContents m' c) = Adj.sAt m c := congrArg Adj.srcOf e1
    have qD : Adj.rD (StableHlo.launchContents m' c) = Adj.dAt m c := congrArg Adj.dstOf e1
    refine ⟨su.trans ((Adj.res_sum k).trans ?_), r1.trans ((Adj.res_xs k).trans ?_), r2.trans ((Adj.res_xs2 k).trans ?_), r3.trans ((Adj.res_xs4 k).trans ?_),
      b0.trans e2, i2, i4, args⟩
    · rw [qS, qD, q0, q3, q4, q5, q6, q7, q8]
    · rw [qS, qD, q0, q3, q4]
    · rw [qS, qD, q0, q3, q4, q5, q6]
    · rw [qS, qD, q0, q3, q4, q5, q6, q7, q8]

theorem claim : Cert.Claim := ⟨Cert.Kernel.Gen.facts, Cert.KernelIdeal.Gen.facts, Cert.ReferenceIdeal.Gen.facts, Cert.Pre_edges_in_graphs.Gen.facts,
  frame_kernel, frame_kernelIdeal, frame_reference, frame_reference_pre, trivial, algebraic⟩

end Cert.Proof

end
